-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_decays2 [hPre_decays2 : Cert.Pre_decays2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_decays2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_decays2 [hPre_decays2 : Cert.Pre_decays2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_decays2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_decays8 [hPre_decays8 : Cert.Pre_decays8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_decays8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_decays8 [hPre_decays8 : Cert.Pre_decays8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_decays8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))) = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_decays2 [hKernel2Ideal : Cert.Kernel2Ideal.Facts] [hPre_decays2 : Cert.Pre_decays2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_decays2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_decays2 [hReference2Ideal : Cert.Reference2Ideal.Facts] [hPre_decays2 : Cert.Pre_decays2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_decays2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_decays8 [hKernel8Ideal : Cert.Kernel8Ideal.Facts] [hPre_decays8 : Cert.Pre_decays8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_decays8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_decays8 [hReference8Ideal : Cert.Reference8Ideal.Facts] [hPre_decays8 : Cert.Pre_decays8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_decays8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel2_Kernel2Ideal : Prop :=
  True

def algebraic_Kernel2Ideal_Reference2Ideal_pre_decays2 [hKernel2Ideal : Cert.Kernel2Ideal.Facts] [hReference2Ideal : Cert.Reference2Ideal.Facts] [hPre_decays2 : Cert.Pre_decays2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_decays2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_v65) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v30_0)) (v1 : (c : Dev Cert.Kernel4Ideal.nD) → Buf (Elt Ideal) ((c.tc : Thread Cert.Kernel4Ideal.nD Cert.Kernel4Ideal.τ).loc Cert.Kernel4Ideal.main_v30_1)) (v2 : (c : Dev Cert.Kernel4Ideal.nD) → Buf (Elt Ideal) ((c.tc : Thread Cert.Kernel4Ideal.nD Cert.Kernel4Ideal.τ).loc Cert.Kernel4Ideal.main_v30_2)) (v3 : (c : Dev Cert.Kernel4Ideal.nD) → Buf (Elt Ideal) ((c.tc : Thread Cert.Kernel4Ideal.nD Cert.Kernel4Ideal.τ).loc Cert.Kernel4Ideal.main_v30_3)) (v4 : (c : Dev Cert.Kernel4Ideal.nD) → Buf (Elt Ideal) ((c.tc : Thread Cert.Kernel4Ideal.nD Cert.Kernel4Ideal.τ).loc Cert.Kernel4Ideal.main_v30_4)) (v5 : (c : Dev Cert.Kernel4Ideal.nD) → Buf (Elt Ideal) ((c.tc : Thread Cert.Kernel4Ideal.nD Cert.Kernel4Ideal.τ).loc Cert.Kernel4Ideal.main_v30_5)) (v6 : (c : Dev Cert.Kernel4Ideal.nD) → Buf (Elt Ideal) ((c.tc : Thread Cert.Kernel4Ideal.nD Cert.Kernel4Ideal.τ).loc Cert.Kernel4Ideal.main_v30_6)) (v7 : (c : Dev Cert.Kernel4Ideal.nD) → Buf (Elt Ideal) ((c.tc : Thread Cert.Kernel4Ideal.nD Cert.Kernel4Ideal.τ).loc Cert.Kernel4Ideal.main_v30_7)) (v8 : (c : Dev Cert.Kernel4Ideal.nD) → Buf (Elt Ideal) ((c.tc : Thread Cert.Kernel4Ideal.nD Cert.Kernel4Ideal.τ).loc Cert.Kernel4Ideal.main_v30_8)) (v9 : (c : Dev Cert.Kernel4Ideal.nD) → Buf (Elt Ideal) ((c.tc : Thread Cert.Kernel4Ideal.nD Cert.Kernel4Ideal.τ).loc Cert.Kernel4Ideal.main_v30_9)) (v10 : (c : Dev Cert.Kernel4Ideal.nD) → Buf (Elt Ideal) ((c.tc : Thread Cert.Kernel4Ideal.nD Cert.Kernel4Ideal.τ).loc Cert.Kernel4Ideal.main_v30_10)) (v11 : (c : Dev Cert.Kernel4Ideal.nD) → Buf (Elt Ideal) ((c.tc : Thread Cert.Kernel4Ideal.nD Cert.Kernel4Ideal.τ).loc Cert.Kernel4Ideal.main_v30_11)) (v12 : (c : Dev Cert.Kernel4Ideal.nD) → Buf (Elt Ideal) ((c.tc : Thread Cert.Kernel4Ideal.nD Cert.Kernel4Ideal.τ).loc Cert.Kernel4Ideal.main_v30_12)) (v13 : (c : Dev Cert.Kernel4Ideal.nD) → Buf (Elt Ideal) ((c.tc : Thread Cert.Kernel4Ideal.nD Cert.Kernel4Ideal.τ).loc Cert.Kernel4Ideal.main_v30_13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30_0) = v0 c
          ∧ r.2.mem ((c.tc : Thread Cert.Kernel4Ideal.nD Cert.Kernel4Ideal.τ).loc Cert.Kernel4Ideal.main_v30_1) = v1 c
          ∧ r.2.mem ((c.tc : Thread Cert.Kernel4Ideal.nD Cert.Kernel4Ideal.τ).loc Cert.Kernel4Ideal.main_v30_2) = v2 c
          ∧ r.2.mem ((c.tc : Thread Cert.Kernel4Ideal.nD Cert.Kernel4Ideal.τ).loc Cert.Kernel4Ideal.main_v30_3) = v3 c
          ∧ r.2.mem ((c.tc : Thread Cert.Kernel4Ideal.nD Cert.Kernel4Ideal.τ).loc Cert.Kernel4Ideal.main_v30_4) = v4 c
          ∧ r.2.mem ((c.tc : Thread Cert.Kernel4Ideal.nD Cert.Kernel4Ideal.τ).loc Cert.Kernel4Ideal.main_v30_5) = v5 c
          ∧ r.2.mem ((c.tc : Thread Cert.Kernel4Ideal.nD Cert.Kernel4Ideal.τ).loc Cert.Kernel4Ideal.main_v30_6) = v6 c
          ∧ r.2.mem ((c.tc : Thread Cert.Kernel4Ideal.nD Cert.Kernel4Ideal.τ).loc Cert.Kernel4Ideal.main_v30_7) = v7 c
          ∧ r.2.mem ((c.tc : Thread Cert.Kernel4Ideal.nD Cert.Kernel4Ideal.τ).loc Cert.Kernel4Ideal.main_v30_8) = v8 c
          ∧ r.2.mem ((c.tc : Thread Cert.Kernel4Ideal.nD Cert.Kernel4Ideal.τ).loc Cert.Kernel4Ideal.main_v30_9) = v9 c
          ∧ r.2.mem ((c.tc : Thread Cert.Kernel4Ideal.nD Cert.Kernel4Ideal.τ).loc Cert.Kernel4Ideal.main_v30_10) = v10 c
          ∧ r.2.mem ((c.tc : Thread Cert.Kernel4Ideal.nD Cert.Kernel4Ideal.τ).loc Cert.Kernel4Ideal.main_v30_11) = v11 c
          ∧ r.2.mem ((c.tc : Thread Cert.Kernel4Ideal.nD Cert.Kernel4Ideal.τ).loc Cert.Kernel4Ideal.main_v30_12) = v12 c
          ∧ r.2.mem ((c.tc : Thread Cert.Kernel4Ideal.nD Cert.Kernel4Ideal.τ).loc Cert.Kernel4Ideal.main_v30_13) = v13 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v65) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_v16) = v2 c
          ∧ r.2.mem ((c.tc : Thread Cert.Reference4Ideal.nD Cert.Reference4Ideal.τ).loc Cert.Reference4Ideal.main_v66) = v3 c
          ∧ r.2.mem ((c.tc : Thread Cert.Reference4Ideal.nD Cert.Reference4Ideal.τ).loc Cert.Reference4Ideal.main_v67) = v4 c
          ∧ r.2.mem ((c.tc : Thread Cert.Reference4Ideal.nD Cert.Reference4Ideal.τ).loc Cert.Reference4Ideal.main_v68) = v5 c
          ∧ r.2.mem ((c.tc : Thread Cert.Reference4Ideal.nD Cert.Reference4Ideal.τ).loc Cert.Reference4Ideal.main_v46) = v6 c
          ∧ r.2.mem ((c.tc : Thread Cert.Reference4Ideal.nD Cert.Reference4Ideal.τ).loc Cert.Reference4Ideal.main_v69) = v7 c
          ∧ r.2.mem ((c.tc : Thread Cert.Reference4Ideal.nD Cert.Reference4Ideal.τ).loc Cert.Reference4Ideal.main_v64) = v8 c
          ∧ r.2.mem ((c.tc : Thread Cert.Reference4Ideal.nD Cert.Reference4Ideal.τ).loc Cert.Reference4Ideal.main_v50) = v9 c
          ∧ r.2.mem ((c.tc : Thread Cert.Reference4Ideal.nD Cert.Reference4Ideal.τ).loc Cert.Reference4Ideal.main_v21) = v10 c
          ∧ r.2.mem ((c.tc : Thread Cert.Reference4Ideal.nD Cert.Reference4Ideal.τ).loc Cert.Reference4Ideal.main_v22) = v11 c
          ∧ r.2.mem ((c.tc : Thread Cert.Reference4Ideal.nD Cert.Reference4Ideal.τ).loc Cert.Reference4Ideal.main_v23) = v12 c
          ∧ r.2.mem ((c.tc : Thread Cert.Reference4Ideal.nD Cert.Reference4Ideal.τ).loc Cert.Reference4Ideal.main_v57) = v13 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v44) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v39) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def preserves_Kernel8_Kernel8Ideal : Prop :=
  True

def algebraic_Kernel8Ideal_Reference8Ideal_pre_decays8 [hKernel8Ideal : Cert.Kernel8Ideal.Facts] [hReference8Ideal : Cert.Reference8Ideal.Facts] [hPre_decays8 : Cert.Pre_decays8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_decays8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v32) = v0 c
          ∧ r.2.mem ((c.tc : Thread Cert.Reference8Ideal.nD Cert.Reference8Ideal.τ).loc Cert.Reference8Ideal.main_v33) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_decays2 : Cert.Pre_decays2.Facts) (hPre_decays8 : Cert.Pre_decays8.Facts),
    quiescent_Kernel2 (hKernel2 := hKernel2)
    ∧ quiescent_Kernel2Ideal (hKernel2Ideal := hKernel2Ideal)
    ∧ quiescent_Kernel2Ideal_pre_decays2 (hKernel2Ideal := hKernel2Ideal) (hPre_decays2 := hPre_decays2)
    ∧ quiescent_Reference2Ideal (hReference2Ideal := hReference2Ideal)
    ∧ quiescent_Reference2Ideal_pre_decays2 (hReference2Ideal := hReference2Ideal) (hPre_decays2 := hPre_decays2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_decays8 (hKernel8Ideal := hKernel8Ideal) (hPre_decays8 := hPre_decays8)
    ∧ quiescent_Reference8Ideal (hReference8Ideal := hReference8Ideal)
    ∧ quiescent_Reference8Ideal_pre_decays8 (hReference8Ideal := hReference8Ideal) (hPre_decays8 := hPre_decays8)
    ∧ preserves_Kernel2_Kernel2Ideal
    ∧ algebraic_Kernel2Ideal_Reference2Ideal_pre_decays2 (hKernel2Ideal := hKernel2Ideal) (hReference2Ideal := hReference2Ideal) (hPre_decays2 := hPre_decays2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_decays8 (hKernel8Ideal := hKernel8Ideal) (hReference8Ideal := hReference8Ideal) (hPre_decays8 := hPre_decays8)
-- ==== Pre_decays2.lean ====
abbrev S1024x256 : Shape := ⟨2, ![1024, 256]⟩
abbrev S1024x512 : Shape := ⟨2, ![1024, 512]⟩
abbrev S1x128 : Shape := ⟨2, ![1, 128]⟩
abbrev S128x256x128 : Shape := ⟨3, ![128, 256, 128]⟩
abbrev S_ : Shape := ⟨0, ![]⟩

class Facts : Prop where
  bcast_S_S1024x256 : S_.BroadcastsInDim S1024x256 (![] : Fin 0 → Fin S1024x256.rank)

variable [Facts]

def fn {F : FTy → Type} [FloatOps F] (main_arg0 : FVec F S1024x256 .f32) (main_arg1 : FVec F S1024x256 .f32) (main_arg2 : FVec F S1024x512 .f32) (main_arg3 : FVec F S1024x256 .f32) (main_arg4 : FVec F S1024x512 .f32) (main_arg5 : FVec F S1x128 .f32) (main_arg6 : FVec F S128x256x128 .f32) : IVec S1024x256 1 :=
  let main_cst : FVec F S_ .f32 := constant S_ .f32 0x00000000#32
  let main_v0 : FVec F S1024x256 .f32 := broadcastInDim S1024x256 ![] bcast_S_S1024x256 main_cst
  let main_v1 : IVec S1024x256 1 := cmpf .ole main_arg3 main_v0
  main_v1
-- ==== Pre_decays8.lean ====
abbrev S16384x256 : Shape := ⟨2, ![16384, 256]⟩
abbrev S16384x512 : Shape := ⟨2, ![16384, 512]⟩
abbrev S1x128 : Shape := ⟨2, ![1, 128]⟩
abbrev S_ : Shape := ⟨0, ![]⟩

class Facts : Prop where
  bcast_S_S16384x256 : S_.BroadcastsInDim S16384x256 (![] : Fin 0 → Fin S16384x256.rank)

variable [Facts]

def fn {F : FTy → Type} [FloatOps F] (main_arg0 : FVec F S16384x256 .f32) (main_arg1 : FVec F S16384x256 .f32) (main_arg2 : FVec F S16384x512 .f32) (main_arg3 : FVec F S16384x256 .f32) (main_arg4 : FVec F S16384x512 .f32) (main_arg5 : FVec F S1x128 .f32) : IVec S16384x256 1 :=
  let main_cst : FVec F S_ .f32 := constant S_ .f32 0x00000000#32
  let main_v0 : FVec F S16384x256 .f32 := broadcastInDim S16384x256 ![] bcast_S_S16384x256 main_cst
  let main_v1 : IVec S16384x256 1 := cmpf .ole main_arg3 main_v0
  main_v1
-- ==== Kernel2.lean ====
abbrev S1024x256 : Shape := ⟨2, ![1024, 256]⟩
abbrev S1024x512 : Shape := ⟨2, ![1024, 512]⟩
abbrev S1x128 : Shape := ⟨2, ![1, 128]⟩
abbrev S128x256x128 : Shape := ⟨3, ![128, 256, 128]⟩
abbrev S8x256 : Shape := ⟨2, ![8, 256]⟩
abbrev S8x512 : Shape := ⟨2, ![8, 512]⟩
abbrev S1x256x128 : Shape := ⟨3, ![1, 256, 128]⟩
abbrev S256x128 : Shape := ⟨2, ![256, 128]⟩
abbrev S8x8 : Shape := ⟨2, ![8, 8]⟩
abbrev S1x256 : Shape := ⟨2, ![1, 256]⟩
abbrev S8x128 : Shape := ⟨2, ![8, 128]⟩
abbrev S256x512 : Shape := ⟨2, ![256, 512]⟩
abbrev S64x256 : Shape := ⟨2, ![64, 256]⟩
abbrev S64x512 : Shape := ⟨2, ![64, 512]⟩
abbrev S1x512 : Shape := ⟨2, ![1, 512]⟩
abbrev S8 : Shape := ⟨1, ![8]⟩
abbrev S8x1 : Shape := ⟨2, ![8, 1]⟩

abbrev nBuf : Space → Nat
  | .hbm => 9
  | .vmem => 20
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x512, .f32⟩
  | .hbm, ⟨3, _⟩ => ⟨S1024x256, .f32⟩
  | .hbm, ⟨4, _⟩ => ⟨S1024x512, .f32⟩
  | .hbm, ⟨5, _⟩ => ⟨S1x128, .f32⟩
  | .hbm, ⟨6, _⟩ => ⟨S128x256x128, .f32⟩
  | .hbm, ⟨7, _⟩ => ⟨S1024x512, .bf16⟩
  | .hbm, ⟨8, _⟩ => ⟨S128x256x128, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x512, .f32⟩
  | .local _ .vmem, ⟨5, _⟩ => ⟨S8x512, .f32⟩
  | .local _ .vmem, ⟨6, _⟩ => ⟨S8x256, .f32⟩
  | .local _ .vmem, ⟨7, _⟩ => ⟨S8x256, .f32⟩
  | .local _ .vmem, ⟨8, _⟩ => ⟨S8x512, .f32⟩
  | .local _ .vmem, ⟨9, _⟩ => ⟨S8x512, .f32⟩
  | .local _ .vmem, ⟨10, _⟩ => ⟨S1x128, .f32⟩
  | .local _ .vmem, ⟨11, _⟩ => ⟨S1x256x128, .f32⟩
  | .local _ .vmem, ⟨12, _⟩ => ⟨S1x256x128, .f32⟩
  | .local _ .vmem, ⟨13, _⟩ => ⟨S8x512, .bf16⟩
  | .local _ .vmem, ⟨14, _⟩ => ⟨S8x512, .bf16⟩
  | .local _ .vmem, ⟨15, _⟩ => ⟨S1x256x128, .f32⟩
  | .local _ .vmem, ⟨16, _⟩ => ⟨S1x256x128, .f32⟩
  | .local _ .vmem, ⟨17, _⟩ => ⟨S256x128, .f32⟩
  | .local _ .vmem, ⟨18, _⟩ => ⟨S8x256, .f32⟩
  | .local _ .vmem, ⟨19, _⟩ => ⟨S8x512, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S1024x256 : Shape := ⟨2, ![1024, 256]⟩
abbrev S1024x512 : Shape := ⟨2, ![1024, 512]⟩
abbrev S1x128 : Shape := ⟨2, ![1, 128]⟩
abbrev S128x256x128 : Shape := ⟨3, ![128, 256, 128]⟩
abbrev S128x4x64x128 : Shape := ⟨4, ![128, 4, 64, 128]⟩
abbrev S128x8x4x64 : Shape := ⟨4, ![128, 8, 4, 64]⟩
abbrev S128x4x8x64 : Shape := ⟨4, ![128, 4, 8, 64]⟩
abbrev S128x8x4x128 : Shape := ⟨4, ![128, 8, 4, 128]⟩
abbrev S128x4x8x128 : Shape := ⟨4, ![128, 4, 8, 128]⟩
abbrev S_ : Shape := ⟨0, ![]⟩
abbrev S8x8 : Shape := ⟨2, ![8, 8]⟩
abbrev S128x4x8x1x64 : Shape := ⟨5, ![128, 4, 8, 1, 64]⟩
abbrev S128x4x1x8x64 : Shape := ⟨5, ![128, 4, 1, 8, 64]⟩
abbrev S128x4x8x8x64 : Shape := ⟨5, ![128, 4, 8, 8, 64]⟩
abbrev S8x8x1 : Shape := ⟨3, ![8, 8, 1]⟩
abbrev S128x4x8x8 : Shape := ⟨4, ![128, 4, 8, 8]⟩
abbrev S128x4x1x64 : Shape := ⟨4, ![128, 4, 1, 64]⟩
abbrev S128x4x64 : Shape := ⟨3, ![128, 4, 64]⟩
abbrev S128x4x64x1 : Shape := ⟨4, ![128, 4, 64, 1]⟩
abbrev S128x8x512 : Shape := ⟨3, ![128, 8, 512]⟩
abbrev S128 : Shape := ⟨1, ![128]⟩
abbrev S128x8x4 : Shape := ⟨3, ![128, 8, 4]⟩
abbrev S128x8x4x1 : Shape := ⟨4, ![128, 8, 4, 1]⟩
abbrev S1x1x1x128 : Shape := ⟨4, ![1, 1, 1, 128]⟩

abbrev nBuf : Space → Nat
  | .hbm => 100
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x512, .f32⟩
  | .hbm, ⟨3, _⟩ => ⟨S1024x256, .f32⟩
  | .hbm, ⟨4, _⟩ => ⟨S1024x512, .f32⟩
  | .hbm, ⟨5, _⟩ => ⟨S1x128, .f32⟩
  | .hbm, ⟨6, _⟩ => ⟨S128x256x128, .f32⟩
  | .hbm, ⟨7, _⟩ => ⟨S128x4x64x128, .f32⟩
  | .hbm, ⟨8, _⟩ => ⟨S128x8x4x64, .f32⟩
  | .hbm, ⟨9, _⟩ => ⟨S128x4x8x64, .f32⟩
  | .hbm, ⟨10, _⟩ => ⟨S128x8x4x64, .f32⟩
  | .hbm, ⟨11, _⟩ => ⟨S128x4x8x64, .f32⟩
  | .hbm, ⟨12, _⟩ => ⟨S128x8x4x128, .f32⟩
  | .hbm, ⟨13, _⟩ => ⟨S128x4x8x128, .f32⟩
  | .hbm, ⟨14, _⟩ => ⟨S128x8x4x64, .f32⟩
  | .hbm, ⟨15, _⟩ => ⟨S128x4x8x64, .f32⟩
  | .hbm, ⟨16, _⟩ => ⟨S_, .i1⟩
  | .hbm, ⟨17, _⟩ => ⟨S8x8, .i1⟩
  | .hbm, ⟨18, _⟩ => ⟨S8x8, .i32⟩
  | .hbm, ⟨19, _⟩ => ⟨S_, .i32⟩
  | .hbm, ⟨20, _⟩ => ⟨S8x8, .i32⟩
  | .hbm, ⟨21, _⟩ => ⟨S8x8, .i32⟩
  | .hbm, ⟨22, _⟩ => ⟨S8x8, .i32⟩
  | .hbm, ⟨23, _⟩ => ⟨S8x8, .i1⟩
  | .hbm, ⟨24, _⟩ => ⟨S_, .i1⟩
  | .hbm, ⟨25, _⟩ => ⟨S8x8, .i1⟩
  | .hbm, ⟨26, _⟩ => ⟨S8x8, .i1⟩
  | .hbm, ⟨27, _⟩ => ⟨S_, .f32⟩
  | .hbm, ⟨28, _⟩ => ⟨S_, .f32⟩
  | .hbm, ⟨29, _⟩ => ⟨S128x4x8x64, .f32⟩
  | .hbm, ⟨30, _⟩ => ⟨S128x4x8x64, .f32⟩
  | .hbm, ⟨31, _⟩ => ⟨S128x4x8x64, .f32⟩
  | .hbm, ⟨32, _⟩ => ⟨S128x4x8x128, .f32⟩
  | .hbm, ⟨33, _⟩ => ⟨S128x4x8x1x64, .f32⟩
  | .hbm, ⟨34, _⟩ => ⟨S128x4x1x8x64, .f32⟩
  | .hbm, ⟨35, _⟩ => ⟨S128x4x8x8x64, .f32⟩
  | .hbm, ⟨36, _⟩ => ⟨S128x4x8x8x64, .f32⟩
  | .hbm, ⟨37, _⟩ => ⟨S128x4x8x8x64, .f32⟩
  | .hbm, ⟨38, _⟩ => ⟨S8x8x1, .i1⟩
  | .hbm, ⟨39, _⟩ => ⟨S_, .f32⟩
  | .hbm, ⟨40, _⟩ => ⟨S_, .f32⟩
  | .hbm, ⟨41, _⟩ => ⟨S128x4x8x8x64, .i1⟩
  | .hbm, ⟨42, _⟩ => ⟨S128x4x8x8x64, .f32⟩
  | .hbm, ⟨43, _⟩ => ⟨S128x4x8x8x64, .f32⟩
  | .hbm, ⟨44, _⟩ => ⟨S128x4x8x8x64, .f32⟩
  | .hbm, ⟨45, _⟩ => ⟨S128x4x8x1x64, .f32⟩
  | .hbm, ⟨46, _⟩ => ⟨S128x4x1x8x64, .f32⟩
  | .hbm, ⟨47, _⟩ => ⟨S128x4x8x8x64, .f32⟩
  | .hbm, ⟨48, _⟩ => ⟨S128x4x8x8x64, .f32⟩
  | .hbm, ⟨49, _⟩ => ⟨S128x4x8x8x64, .f32⟩
  | .hbm, ⟨50, _⟩ => ⟨S128x4x8x8x64, .f32⟩
  | .hbm, ⟨51, _⟩ => ⟨S_, .f32⟩
  | .hbm, ⟨52, _⟩ => ⟨S128x4x8x8, .f32⟩
  | .hbm, ⟨53, _⟩ => ⟨S128x4x8x128, .f32⟩
  | .hbm, ⟨54, _⟩ => ⟨S128x4x1x64, .f32⟩
  | .hbm, ⟨55, _⟩ => ⟨S128x4x64, .f32⟩
  | .hbm, ⟨56, _⟩ => ⟨S128x4x64, .f32⟩
  | .hbm, ⟨57, _⟩ => ⟨S128x4x64x1, .f32⟩
  | .hbm, ⟨58, _⟩ => ⟨S128x4x64x128, .f32⟩
  | .hbm, ⟨59, _⟩ => ⟨S128x4x64x128, .f32⟩
  | .hbm, ⟨60, _⟩ => ⟨S128x4x8x64, .f32⟩
  | .hbm, ⟨61, _⟩ => ⟨S128x4x8x64, .f32⟩
  | .hbm, ⟨62, _⟩ => ⟨S128x4x8x64, .f32⟩
  | .hbm, ⟨63, _⟩ => ⟨S128x4x8x64, .f32⟩
  | .hbm, ⟨64, _⟩ => ⟨S128x4x64x128, .f32⟩
  | .hbm, ⟨65, _⟩ => ⟨S128x4x64x128, .f32⟩
  | .hbm, ⟨66, _⟩ => ⟨S128x4x8x128, .f32⟩
  | .hbm, ⟨67, _⟩ => ⟨S128x8x4x128, .f32⟩
  | .hbm, ⟨68, _⟩ => ⟨S128x8x512, .f32⟩
  | .hbm, ⟨69, _⟩ => ⟨S128, .f32⟩
  | .hbm, ⟨70, _⟩ => ⟨S128x8x4x128, .f32⟩
  | .hbm, ⟨71, _⟩ => ⟨S_, .f32⟩
  | .hbm, ⟨72, _⟩ => ⟨S128x8x4, .f32⟩
  | .hbm, ⟨73, _⟩ => ⟨S128x8x4x1, .f32⟩
  | .hbm, ⟨74, _⟩ => ⟨S_, .f32⟩
  | .hbm, ⟨75, _⟩ => ⟨S128x8x4x1, .f32⟩
  | .hbm, ⟨76, _⟩ => ⟨S128x8x4x1, .f32⟩
  | .hbm, ⟨77, _⟩ => ⟨S_, .f32⟩
  | .hbm, ⟨78, _⟩ => ⟨S128x8x4x1, .f32⟩
  | .hbm, ⟨79, _⟩ => ⟨S128x8x4x1, .f32⟩
  | .hbm, ⟨80, _⟩ => ⟨S128x8x4x1, .f32⟩
  | .hbm, ⟨81, _⟩ => ⟨S128x8x4x128, .f32⟩
  | .hbm, ⟨82, _⟩ => ⟨S128x8x4x128, .f32⟩
  | .hbm, ⟨83, _⟩ => ⟨S1x1x1x128, .f32⟩
  | .hbm, ⟨84, _⟩ => ⟨S128x8x4x128, .f32⟩
  | .hbm, ⟨85, _⟩ => ⟨S128x8x4x128, .f32⟩
  | .hbm, ⟨86, _⟩ => ⟨S128x8x512, .f32⟩
  | .hbm, ⟨87, _⟩ => ⟨S128x8x512, .f32⟩
  | .hbm, ⟨88, _⟩ => ⟨S128x8x512, .f32⟩
  | .hbm, ⟨89, _⟩ => ⟨S_, .f32⟩
  | .hbm, ⟨90, _⟩ => ⟨S128x8x512, .f32⟩
  | .hbm, ⟨91, _⟩ => ⟨S128x8x512, .f32⟩
  | .hbm, ⟨92, _⟩ => ⟨S_, .f32⟩
  | .hbm, ⟨93, _⟩ => ⟨S128x8x512, .f32⟩
  | .hbm, ⟨94, _⟩ => ⟨S128x8x512, .f32⟩
  | .hbm, ⟨95, _⟩ => ⟨S128x8x512, .f32⟩
  | .hbm, ⟨96, _⟩ => ⟨S128x8x512, .f32⟩
  | .hbm, ⟨97, _⟩ => ⟨S1024x512, .f32⟩
  | .hbm, ⟨98, _⟩ => ⟨S1024x512, .bf16⟩
  | .hbm, ⟨99, _⟩ => ⟨S128x256x128, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_0 : Ref sig .tc := ⟨.hbm, 24, rfl⟩
abbrev main_call0_v5 : Ref sig .tc := ⟨.hbm, 25, rfl⟩
abbrev main_v10 : Ref sig .tc := ⟨.hbm, 26, rfl⟩
abbrev main_call1_call0_cst : Ref sig .tc := ⟨.hbm, 27, rfl⟩
abbrev main_call1_call0_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_0 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_1 : Ref sig .tc := ⟨.hbm, 71, rfl⟩
abbrev main_v48 : Ref sig .tc := ⟨.hbm, 72, rfl⟩
abbrev main_v49 : Ref sig .tc := ⟨.hbm, 73, rfl⟩
abbrev main_cst_2 : Ref sig .tc := ⟨.hbm, 74, rfl⟩
abbrev main_v50 : Ref sig .tc := ⟨.hbm, 75, rfl⟩
abbrev main_v51 : Ref sig .tc := ⟨.hbm, 76, rfl⟩
abbrev main_cst_3 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_call3_v0 : Ref sig .tc := ⟨.hbm, 87, rfl⟩
abbrev main_call3_v1 : Ref sig .tc := ⟨.hbm, 88, rfl⟩
abbrev main_call3_cst : Ref sig .tc := ⟨.hbm, 89, rfl⟩
abbrev main_call3_v2 : Ref sig .tc := ⟨.hbm, 90, rfl⟩
abbrev main_call3_v3 : Ref sig .tc := ⟨.hbm, 91, rfl⟩
abbrev main_call3_cst_0 : Ref sig .tc := ⟨.hbm, 92, rfl⟩
abbrev main_call3_v4 : Ref sig .tc := ⟨.hbm, 93, rfl⟩
abbrev main_call3_v5 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S512 : Shape := ⟨1, ![512]⟩
abbrev S512x1024 : Shape := ⟨2, ![512, 1024]⟩
abbrev S_ : Shape := ⟨0, ![]⟩
abbrev S512x1 : Shape := ⟨2, ![512, 1]⟩
abbrev S1x1024 : Shape := ⟨2, ![1, 1024]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 25
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S512, .i32⟩
  | .hbm, ⟨9, _⟩ => ⟨S512, .i1⟩
  | .hbm, ⟨10, _⟩ => ⟨S512x1024, .f32⟩
  | .hbm, ⟨11, _⟩ => ⟨S_, .i32⟩
  | .hbm, ⟨12, _⟩ => ⟨S512, .i32⟩
  | .hbm, ⟨13, _⟩ => ⟨S512, .i32⟩
  | .hbm, ⟨14, _⟩ => ⟨S512, .i32⟩
  | .hbm, ⟨15, _⟩ => ⟨S512x1, .i32⟩
  | .hbm, ⟨16, _⟩ => ⟨S512x1024, .f32⟩
  | .hbm, ⟨17, _⟩ => ⟨S512x1024, .f32⟩
  | .hbm, ⟨18, _⟩ => ⟨S1024x1024, .f32⟩
  | .hbm, ⟨19, _⟩ => ⟨S1024x1024, .bf16⟩
  | .hbm, ⟨20, _⟩ => ⟨S1x1024, .f32⟩
  | .hbm, ⟨21, _⟩ => ⟨S1024x2816, .bf16⟩
  | .hbm, ⟨22, _⟩ => ⟨S1024x2816, .bf16⟩
  | .hbm, ⟨23, _⟩ => ⟨S2816x1024, .bf16⟩
  | .hbm, ⟨24, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v0 : Ref sig .tc := ⟨.hbm, 10, rfl⟩
abbrev main_c_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S16384x4x2x64 : Shape := ⟨4, ![16384, 4, 2, 64]⟩
abbrev S16384x2x4x64 : Shape := ⟨4, ![16384, 2, 4, 64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S16384x512, .f32⟩
  | .hbm, ⟨9, _⟩ => ⟨S16384x4x2x64, .f32⟩
  | .hbm, ⟨10, _⟩ => ⟨S16384x2x4x64, .f32⟩
  | .hbm, ⟨11, _⟩ => ⟨S16384x512, .f32⟩
  | .hbm, ⟨12, _⟩ => ⟨S16384x512, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S_, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x1024, .f32⟩
  | .hbm, ⟨45, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x2904 : Shape := ⟨2, ![1024, 2904]⟩
abbrev S64 : Shape := ⟨1, ![64]⟩
abbrev S16x256 : Shape := ⟨2, ![16, 256]⟩
abbrev S256 : Shape := ⟨1, ![256]⟩
abbrev S512 : Shape := ⟨1, ![512]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x256 : Shape := ⟨2, ![1024, 256]⟩
abbrev S1024x16 : Shape := ⟨2, ![1024, 16]⟩
abbrev S_ : Shape := ⟨0, ![]⟩
abbrev S512x1 : Shape := ⟨2, ![512, 1]⟩
abbrev S1024x120 : Shape := ⟨2, ![1024, 120]⟩
abbrev S1024x112 : Shape := ⟨2, ![1024, 112]⟩
abbrev S1024x3200 : Shape := ⟨2, ![1024, 3200]⟩
abbrev S128 : Shape := ⟨1, ![128]⟩
abbrev S1x128 : Shape := ⟨2, ![1, 128]⟩
abbrev S128x256 : Shape := ⟨2, ![128, 256]⟩
abbrev S1 : Shape := ⟨1, ![1]⟩
abbrev S1x1024 : Shape := ⟨2, ![1, 1024]⟩
abbrev S1x256 : Shape := ⟨2, ![1, 256]⟩
abbrev S16384x512 : Shape := ⟨2, ![16384, 512]⟩
abbrev S16384x128 : Shape := ⟨2, ![16384, 128]⟩
abbrev S16384x64 : Shape := ⟨2, ![16384, 64]⟩
abbrev S16384x256 : Shape := ⟨2, ![16384, 256]⟩
abbrev S512x1024 : Shape := ⟨2, ![512, 1024]⟩
abbrev S512x512 : Shape := ⟨2, ![512, 512]⟩
abbrev S512x128 : Shape := ⟨2, ![512, 128]⟩
abbrev S512x64 : Shape := ⟨2, ![512, 64]⟩
abbrev S512x256 : Shape := ⟨2, ![512, 256]⟩

abbrev nBuf : Space → Nat
  | .hbm => 58
  | .vmem => 36
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2904, .f32⟩
  | .hbm, ⟨3, _⟩ => ⟨S64, .f32⟩
  | .hbm, ⟨4, _⟩ => ⟨S64, .f32⟩
  | .hbm, ⟨5, _⟩ => ⟨S16x256, .f32⟩
  | .hbm, ⟨6, _⟩ => ⟨S256, .f32⟩
  | .hbm, ⟨7, _⟩ => ⟨S512, .i32⟩
  | .hbm, ⟨8, _⟩ => ⟨S512, .i1⟩
  | .hbm, ⟨9, _⟩ => ⟨S1024x512, .f32⟩
  | .hbm, ⟨10, _⟩ => ⟨S1024x128, .f32⟩
  | .hbm, ⟨11, _⟩ => ⟨S1024x128, .f32⟩
  | .hbm, ⟨12, _⟩ => ⟨S1024x512, .f32⟩
  | .hbm, ⟨13, _⟩ => ⟨S1024x64, .f32⟩
  | .hbm, ⟨14, _⟩ => ⟨S1024x8, .f32⟩
  | .hbm, ⟨15, _⟩ => ⟨S1024x256, .f32⟩
  | .hbm, ⟨16, _⟩ => ⟨S1024x256, .f32⟩
  | .hbm, ⟨17, _⟩ => ⟨S1024x512, .f32⟩
  | .hbm, ⟨18, _⟩ => ⟨S1024x512, .f32⟩
  | .hbm, ⟨19, _⟩ => ⟨S1024x16, .f32⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S512x1, .i32⟩
  | .hbm, ⟨25, _⟩ => ⟨S1024x512, .f32⟩
  | .hbm, ⟨26, _⟩ => ⟨S_, .f32⟩
  | .hbm, ⟨27, _⟩ => ⟨S1024x120, .f32⟩
  | .hbm, ⟨28, _⟩ => ⟨S_, .f32⟩
  | .hbm, ⟨29, _⟩ => ⟨S1024x112, .f32⟩
  | .hbm, ⟨30, _⟩ => ⟨S1024x3200, .f32⟩
  | .hbm, ⟨31, _⟩ => ⟨S1024x3200, .bf16⟩
  | .hbm, ⟨32, _⟩ => ⟨S128, .f32⟩
  | .hbm, ⟨33, _⟩ => ⟨S1x128, .f32⟩
  | .hbm, ⟨34, _⟩ => ⟨S128, .f32⟩
  | .hbm, ⟨35, _⟩ => ⟨S1x128, .f32⟩
  | .hbm, ⟨36, _⟩ => ⟨S_, .bf16⟩
  | .hbm, ⟨37, _⟩ => ⟨S128x256, .bf16⟩
  | .hbm, ⟨38, _⟩ => ⟨S16x256, .bf16⟩
  | .hbm, ⟨39, _⟩ => ⟨S_, .i32⟩
  | .hbm, ⟨40, _⟩ => ⟨S1, .i32⟩
  | .hbm, ⟨41, _⟩ => ⟨S128x256, .bf16⟩
  | .hbm, ⟨42, _⟩ => ⟨S1x1024, .f32⟩
  | .hbm, ⟨43, _⟩ => ⟨S1x256, .f32⟩
  | .hbm, ⟨44, _⟩ => ⟨S16384x512, .bf16⟩
  | .hbm, ⟨45, _⟩ => ⟨S16384x128, .f32⟩
  | .hbm, ⟨46, _⟩ => ⟨S16384x128, .f32⟩
  | .hbm, ⟨47, _⟩ => ⟨S16384x128, .bf16⟩
  | .hbm, ⟨48, _⟩ => ⟨S16384x128, .bf16⟩
  | .hbm, ⟨49, _⟩ => ⟨S16384x512, .bf16⟩
  | .hbm, ⟨50, _⟩ => ⟨S16384x64, .f32⟩
  | .hbm, ⟨51, _⟩ => ⟨S16384x128, .bf16⟩
  | .hbm, ⟨52, _⟩ => ⟨S16384x128, .f32⟩
  | .hbm, ⟨53, _⟩ => ⟨S16384x256, .f32⟩
  | .hbm, ⟨54, _⟩ => ⟨S16384x256, .f32⟩
  | .hbm, ⟨55, _⟩ => ⟨S16384x512, .f32⟩
  | .hbm, ⟨56, _⟩ => ⟨S16384x512, .f32⟩
  | .hbm, ⟨57, _⟩ => ⟨S16384x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S1x128, .f32⟩
  | .local _ .vmem, ⟨5, _⟩ => ⟨S1x128, .f32⟩
  | .local _ .vmem, ⟨6, _⟩ => ⟨S128x256, .bf16⟩
  | .local _ .vmem, ⟨7, _⟩ => ⟨S1x256, .f32⟩
  | .local _ .vmem, ⟨8, _⟩ => ⟨S512x512, .bf16⟩
  | .local _ .vmem, ⟨9, _⟩ => ⟨S512x512, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x512, .bf16⟩
  | .local _ .vmem, ⟨19, _⟩ => ⟨S512x512, .bf16⟩
  | .local _ .vmem, ⟨20, _⟩ => ⟨S512x64, .f32⟩
  | .local _ .vmem, ⟨21, _⟩ => ⟨S512x64, .f32⟩
  | .local _ .vmem, ⟨22, _⟩ => ⟨S512x128, .bf16⟩
  | .local _ .vmem, ⟨23, _⟩ => ⟨S512x128, .bf16⟩
  | .local _ .vmem, ⟨24, _⟩ => ⟨S512x128, .f32⟩
  | .local _ .vmem, ⟨25, _⟩ => ⟨S512x128, .f32⟩
  | .local _ .vmem, ⟨26, _⟩ => ⟨S512x256, .f32⟩
  | .local _ .vmem, ⟨27, _⟩ => ⟨S512x256, .f32⟩
  | .local _ .vmem, ⟨28, _⟩ => ⟨S512x256, .f32⟩
  | .local _ .vmem, ⟨29, _⟩ => ⟨S512x256, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S512x256, .f32⟩
  | .local _ .vmem, ⟨35, _⟩ => ⟨S512x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30_0 : Ref sig .tc := ⟨.hbm, 44, rfl⟩
abbrev main_v30_1 : Ref sig .tc := ⟨.hbm, 45, rfl⟩
abbrev main_v30_2 : Ref sig .tc := ⟨.hbm, 46, rfl⟩
abbrev main_v30_3 : Ref sig .tc := ⟨.hbm, 47, rfl⟩
abbrev main_v30_4 : Ref sig .tc := ⟨.hbm, 48, rfl⟩
abbrev main_v30_5 : Ref sig .tc := ⟨.hbm, 49, rfl⟩
abbrev main_v30_6 : Ref sig .tc := ⟨.hbm, 50, rfl⟩
abbrev main_v30_7 : Ref sig .tc := ⟨.hbm, 51, rfl⟩
abbrev main_v30_8 : Ref sig .tc := ⟨.hbm, 52, rfl⟩
abbrev main_v30_9 : Ref sig .tc := ⟨.hbm, 53, rfl⟩
abbrev main_v30_10 : Ref sig .tc := ⟨.hbm, 54, rfl⟩
abbrev main_v30_11 : Ref sig .tc := ⟨.hbm, 55, rfl⟩
abbrev main_v30_12 : Ref sig .tc := ⟨.hbm, 56, rfl⟩
abbrev main_v30_13 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference4Ideal.lean ====
abbrev S16384x1024 : Shape := ⟨2, ![16384, 1024]⟩
abbrev S1024 : Shape := ⟨1, ![1024]⟩
abbrev S1024x2904 : Shape := ⟨2, ![1024, 2904]⟩
abbrev S64 : Shape := ⟨1, ![64]⟩
abbrev S16x256 : Shape := ⟨2, ![16, 256]⟩
abbrev S256 : Shape := ⟨1, ![256]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2904 : Shape := ⟨2, ![16384, 2904]⟩
abbrev S16384x512 : Shape := ⟨2, ![16384, 512]⟩
abbrev S16384x128 : Shape := ⟨2, ![16384, 128]⟩
abbrev S16384x64 : Shape := ⟨2, ![16384, 64]⟩
abbrev S16384x8 : Shape := ⟨2, ![16384, 8]⟩
abbrev S16384x256 : Shape := ⟨2, ![16384, 256]⟩
abbrev S16384x16 : Shape := ⟨2, ![16384, 16]⟩
abbrev S1x64 : Shape := ⟨2, ![1, 64]⟩
abbrev S1x256 : Shape := ⟨2, ![1, 256]⟩
abbrev S16384x2x4x64 : Shape := ⟨4, ![16384, 2, 4, 64]⟩
abbrev S16384x4x2x64 : Shape := ⟨4, ![16384, 4, 2, 64]⟩

abbrev nBuf : Space → Nat
  | .hbm => 106
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2904, .f32⟩
  | .hbm, ⟨3, _⟩ => ⟨S64, .f32⟩
  | .hbm, ⟨4, _⟩ => ⟨S64, .f32⟩
  | .hbm, ⟨5, _⟩ => ⟨S16x256, .f32⟩
  | .hbm, ⟨6, _⟩ => ⟨S256, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x2904, .f32⟩
  | .hbm, ⟨24, _⟩ => ⟨S16384x512, .f32⟩
  | .hbm, ⟨25, _⟩ => ⟨S16384x128, .f32⟩
  | .hbm, ⟨26, _⟩ => ⟨S16384x128, .f32⟩
  | .hbm, ⟨27, _⟩ => ⟨S16384x512, .f32⟩
  | .hbm, ⟨28, _⟩ => ⟨S16384x64, .f32⟩
  | .hbm, ⟨29, _⟩ => ⟨S16384x8, .f32⟩
  | .hbm, ⟨30, _⟩ => ⟨S16384x256, .f32⟩
  | .hbm, ⟨31, _⟩ => ⟨S16384x256, .f32⟩
  | .hbm, ⟨32, _⟩ => ⟨S16384x512, .f32⟩
  | .hbm, ⟨33, _⟩ => ⟨S16384x512, .f32⟩
  | .hbm, ⟨34, _⟩ => ⟨S16384x16, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x64, .f32⟩
  | .hbm, ⟨42, _⟩ => ⟨S16384x64, .f32⟩
  | .hbm, ⟨43, _⟩ => ⟨S16384x64, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x64, .f32⟩
  | .hbm, ⟨55, _⟩ => ⟨S16384x64, .f32⟩
  | .hbm, ⟨56, _⟩ => ⟨S1x64, .f32⟩
  | .hbm, ⟨57, _⟩ => ⟨S16384x64, .f32⟩
  | .hbm, ⟨58, _⟩ => ⟨S16384x64, .f32⟩
  | .hbm, ⟨59, _⟩ => ⟨S1x64, .f32⟩
  | .hbm, ⟨60, _⟩ => ⟨S16384x64, .f32⟩
  | .hbm, ⟨61, _⟩ => ⟨S16384x64, .f32⟩
  | .hbm, ⟨62, _⟩ => ⟨S_, .f32⟩
  | .hbm, ⟨63, _⟩ => ⟨S16384x8, .f32⟩
  | .hbm, ⟨64, _⟩ => ⟨S16384x8, .f32⟩
  | .hbm, ⟨65, _⟩ => ⟨S_, .f32⟩
  | .hbm, ⟨66, _⟩ => ⟨S16384x256, .f32⟩
  | .hbm, ⟨67, _⟩ => ⟨S16384x256, .f32⟩
  | .hbm, ⟨68, _⟩ => ⟨S16384x256, .f32⟩
  | .hbm, ⟨69, _⟩ => ⟨S1x256, .f32⟩
  | .hbm, ⟨70, _⟩ => ⟨S16384x256, .f32⟩
  | .hbm, ⟨71, _⟩ => ⟨S16384x256, .f32⟩
  | .hbm, ⟨72, _⟩ => ⟨S16384x256, .f32⟩
  | .hbm, ⟨73, _⟩ => ⟨S_, .f32⟩
  | .hbm, ⟨74, _⟩ => ⟨S16384x256, .f32⟩
  | .hbm, ⟨75, _⟩ => ⟨S16384x256, .f32⟩
  | .hbm, ⟨76, _⟩ => ⟨S16384x256, .f32⟩
  | .hbm, ⟨77, _⟩ => ⟨S16384x256, .f32⟩
  | .hbm, ⟨78, _⟩ => ⟨S16384x256, .i1⟩
  | .hbm, ⟨79, _⟩ => ⟨S16384x256, .f32⟩
  | .hbm, ⟨80, _⟩ => ⟨S16384x256, .f32⟩
  | .hbm, ⟨81, _⟩ => ⟨S16384x256, .f32⟩
  | .hbm, ⟨82, _⟩ => ⟨S16384x256, .f32⟩
  | .hbm, ⟨83, _⟩ => ⟨S16384x256, .f32⟩
  | .hbm, ⟨84, _⟩ => ⟨S16384x256, .f32⟩
  | .hbm, ⟨85, _⟩ => ⟨S16384x256, .f32⟩
  | .hbm, ⟨86, _⟩ => ⟨S16384x256, .f32⟩
  | .hbm, ⟨87, _⟩ => ⟨S16384x256, .f32⟩
  | .hbm, ⟨88, _⟩ => ⟨S_, .f32⟩
  | .hbm, ⟨89, _⟩ => ⟨S16384x256, .f32⟩
  | .hbm, ⟨90, _⟩ => ⟨S16384x256, .f32⟩
  | .hbm, ⟨91, _⟩ => ⟨S16384x2x4x64, .f32⟩
  | .hbm, ⟨92, _⟩ => ⟨S16384x4x2x64, .f32⟩
  | .hbm, ⟨93, _⟩ => ⟨S16384x512, .f32⟩
  | .hbm, ⟨94, _⟩ => ⟨S_, .f32⟩
  | .hbm, ⟨95, _⟩ => ⟨S16384x512, .f32⟩
  | .hbm, ⟨96, _⟩ => ⟨S16384x512, .f32⟩
  | .hbm, ⟨97, _⟩ => ⟨S16384x128, .f32⟩
  | .hbm, ⟨98, _⟩ => ⟨S_, .i32⟩
  | .hbm, ⟨99, _⟩ => ⟨S_, .f32⟩
  | .hbm, ⟨100, _⟩ => ⟨S16384x128, .f32⟩
  | .hbm, ⟨101, _⟩ => ⟨S16384x512, .bf16⟩
  | .hbm, ⟨102, _⟩ => ⟨S16384x128, .bf16⟩
  | .hbm, ⟨103, _⟩ => ⟨S16384x128, .bf16⟩
  | .hbm, ⟨104, _⟩ => ⟨S16384x512, .bf16⟩
  | .hbm, ⟨105, _⟩ => ⟨S16384x128, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_call0_v0 : Ref sig .tc := ⟨.hbm, 72, rfl⟩
abbrev main_call0_call0_cst : Ref sig .tc := ⟨.hbm, 73, rfl⟩
abbrev main_call0_call0_v0 : Ref sig .tc := ⟨.hbm, 74, rfl⟩
abbrev main_call0_call0_v1 : Ref sig .tc := ⟨.hbm, 75, rfl⟩
abbrev main_call0_call0_v2 : Ref sig .tc := ⟨.hbm, 76, rfl⟩
abbrev main_call0_call0_v3 : Ref sig .tc := ⟨.hbm, 77, rfl⟩
abbrev main_call0_call0_v4 : Ref sig .tc := ⟨.hbm, 78, rfl⟩
abbrev main_call0_call0_v5 : Ref sig .tc := ⟨.hbm, 79, rfl⟩
abbrev main_call0_call0_v6 : Ref sig .tc := ⟨.hbm, 80, rfl⟩
abbrev main_call0_call0_v7 : Ref sig .tc := ⟨.hbm, 81, rfl⟩
abbrev main_call0_call0_v8 : Ref sig .tc := ⟨.hbm, 82, rfl⟩
abbrev main_call0_call0_v9 : Ref sig .tc := ⟨.hbm, 83, rfl⟩
abbrev main_call0_call0_v10 : Ref sig .tc := ⟨.hbm, 84, rfl⟩
abbrev main_call0_call0_v11 : Ref sig .tc := ⟨.hbm, 85, rfl⟩
abbrev main_call0_v1 : Ref sig .tc := ⟨.hbm, 86, rfl⟩
abbrev main_v55 : Ref sig .tc := ⟨.hbm, 87, rfl⟩
abbrev main_cst_9 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_10 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c : Ref sig .tc := ⟨.hbm, 98, rfl⟩
abbrev main_call1_v0 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel6.lean ====
abbrev S32x8 : Shape := ⟨2, ![32, 8]⟩
abbrev S2x8x256x256 : Shape := ⟨4, ![2, 8, 256, 256]⟩
abbrev S256x256 : Shape := ⟨2, ![256, 256]⟩
abbrev S1x1 : Shape := ⟨2, ![1, 1]⟩
abbrev S1x1x256x256 : Shape := ⟨4, ![1, 1, 256, 256]⟩

abbrev nBuf : Space → Nat
  | .hbm => 2
  | .vmem => 1
  | .smem => 1
  | _ => 0

abbrev bufTy : (tb : Table) → Fin (tcTables nBuf tb) → BufTy
  | .hbm, ⟨0, _⟩ => ⟨S32x8, .f32⟩
  | .hbm, ⟨1, _⟩ => ⟨S2x8x256x256, .f32⟩
  | .local _ .vmem, ⟨0, _⟩ => ⟨S2x8x256x256, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .smem, ⟨0, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg1_0 : Ref sig .tc := ⟨.vmem, 0, rfl⟩
abbrev cc0_stg0_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference6Ideal.lean ====
abbrev S32x8 : Shape := ⟨2, ![32, 8]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S1x256x256 : Shape := ⟨3, ![1, 256, 256]⟩
abbrev S2x256x256 : Shape := ⟨3, ![2, 256, 256]⟩
abbrev S2x256x256x1 : Shape := ⟨4, ![2, 256, 256, 1]⟩
abbrev S2x256x256x8 : Shape := ⟨4, ![2, 256, 256, 8]⟩
abbrev S2x8x256x256 : Shape := ⟨4, ![2, 8, 256, 256]⟩

abbrev nBuf : Space → Nat
  | .hbm => 58
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S256, .i32⟩
  | .hbm, ⟨2, _⟩ => ⟨S256x1, .i32⟩
  | .hbm, ⟨3, _⟩ => ⟨S256, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i32⟩
  | .hbm, ⟨8, _⟩ => ⟨S_, .i32⟩
  | .hbm, ⟨9, _⟩ => ⟨S256x256, .i32⟩
  | .hbm, ⟨10, _⟩ => ⟨S256x256, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S1x256x256, .i32⟩
  | .hbm, ⟨15, _⟩ => ⟨S1x256x256, .i32⟩
  | .hbm, ⟨16, _⟩ => ⟨S2x256x256, .i32⟩
  | .hbm, ⟨17, _⟩ => ⟨S_, .i32⟩
  | .hbm, ⟨18, _⟩ => ⟨S2x256x256, .i32⟩
  | .hbm, ⟨19, _⟩ => ⟨S2x256x256, .i32⟩
  | .hbm, ⟨20, _⟩ => ⟨S_, .i32⟩
  | .hbm, ⟨21, _⟩ => ⟨S2x256x256, .i32⟩
  | .hbm, ⟨22, _⟩ => ⟨S2x256x256, .i32⟩
  | .hbm, ⟨23, _⟩ => ⟨S2x256x256, .f32⟩
  | .hbm, ⟨24, _⟩ => ⟨S_, .f32⟩
  | .hbm, ⟨25, _⟩ => ⟨S2x256x256, .f32⟩
  | .hbm, ⟨26, _⟩ => ⟨S2x256x256, .f32⟩
  | .hbm, ⟨27, _⟩ => ⟨S2x256x256, .f32⟩
  | .hbm, ⟨28, _⟩ => ⟨S_, .f32⟩
  | .hbm, ⟨29, _⟩ => ⟨S2x256x256, .f32⟩
  | .hbm, ⟨30, _⟩ => ⟨S2x256x256, .f32⟩
  | .hbm, ⟨31, _⟩ => ⟨S_, .f32⟩
  | .hbm, ⟨32, _⟩ => ⟨S2x256x256, .f32⟩
  | .hbm, ⟨33, _⟩ => ⟨S2x256x256, .f32⟩
  | .hbm, ⟨34, _⟩ => ⟨S2x256x256, .i32⟩
  | .hbm, ⟨35, _⟩ => ⟨S_, .i32⟩
  | .hbm, ⟨36, _⟩ => ⟨S2x256x256, .i32⟩
  | .hbm, ⟨37, _⟩ => ⟨S2x256x256, .i32⟩
  | .hbm, ⟨38, _⟩ => ⟨S_, .i32⟩
  | .hbm, ⟨39, _⟩ => ⟨S2x256x256, .i32⟩
  | .hbm, ⟨40, _⟩ => ⟨S2x256x256, .i32⟩
  | .hbm, ⟨41, _⟩ => ⟨S_, .i32⟩
  | .hbm, ⟨42, _⟩ => ⟨S2x256x256, .i32⟩
  | .hbm, ⟨43, _⟩ => ⟨S2x256x256, .i1⟩
  | .hbm, ⟨44, _⟩ => ⟨S2x256x256, .i32⟩
  | .hbm, ⟨45, _⟩ => ⟨S_, .i32⟩
  | .hbm, ⟨46, _⟩ => ⟨S2x256x256, .i32⟩
  | .hbm, ⟨47, _⟩ => ⟨S2x256x256, .i1⟩
  | .hbm, ⟨48, _⟩ => ⟨S_, .i32⟩
  | .hbm, ⟨49, _⟩ => ⟨S2x256x256, .i32⟩
  | .hbm, ⟨50, _⟩ => ⟨S2x256x256, .i32⟩
  | .hbm, ⟨51, _⟩ => ⟨S2x256x256, .i32⟩
  | .hbm, ⟨52, _⟩ => ⟨S2x256x256x1, .i32⟩
  | .hbm, ⟨53, _⟩ => ⟨S2x256x256x8, .f32⟩
  | .hbm, ⟨54, _⟩ => ⟨S2x8x256x256, .f32⟩
  | .hbm, ⟨55, _⟩ => ⟨S_, .f32⟩
  | .hbm, ⟨56, _⟩ => ⟨S2x8x256x256, .f32⟩
  | .hbm, ⟨57, _⟩ => ⟨S2x8x256x256, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c_0 : Ref sig .tc := ⟨.hbm, 17, rfl⟩
abbrev main_v15 : Ref sig .tc := ⟨.hbm, 18, rfl⟩
abbrev main_v16 : Ref sig .tc := ⟨.hbm, 19, rfl⟩
abbrev main_c_1 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_4 : Ref sig .tc := ⟨.hbm, 35, rfl⟩
abbrev main_v28 : Ref sig .tc := ⟨.hbm, 36, rfl⟩
abbrev main_v29 : Ref sig .tc := ⟨.hbm, 37, rfl⟩
abbrev main_c_5 : Ref sig .tc := ⟨.hbm, 38, rfl⟩
abbrev main_v30 : Ref sig .tc := ⟨.hbm, 39, rfl⟩
abbrev main_v31 : Ref sig .tc := ⟨.hbm, 40, rfl⟩
abbrev main_c_6 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_7 : Ref sig .tc := ⟨.hbm, 45, rfl⟩
abbrev main_v35 : Ref sig .tc := ⟨.hbm, 46, rfl⟩
abbrev main_v36 : Ref sig .tc := ⟨.hbm, 47, rfl⟩
abbrev main_c_8 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_9 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Kernel7.lean ====
abbrev S32x8 : Shape := ⟨2, ![32, 8]⟩
abbrev S1x8x8x2176 : Shape := ⟨4, ![1, 8, 8, 2176]⟩
abbrev S8x2176 : Shape := ⟨2, ![8, 2176]⟩
abbrev S1x1 : Shape := ⟨2, ![1, 1]⟩
abbrev S1x1x8x2176 : Shape := ⟨4, ![1, 1, 8, 2176]⟩

abbrev nBuf : Space → Nat
  | .hbm => 2
  | .vmem => 1
  | .smem => 1
  | _ => 0

abbrev bufTy : (tb : Table) → Fin (tcTables nBuf tb) → BufTy
  | .hbm, ⟨0, _⟩ => ⟨S32x8, .f32⟩
  | .hbm, ⟨1, _⟩ => ⟨S1x8x8x2176, .f32⟩
  | .local _ .vmem, ⟨0, _⟩ => ⟨S1x8x8x2176, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .smem, ⟨0, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg1_0 : Ref sig .tc := ⟨.vmem, 0, rfl⟩
abbrev cc0_stg0_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8x8x2176 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference7Ideal.lean ====
abbrev S32x8 : Shape := ⟨2, ![32, 8]⟩
abbrev S8 : Shape := ⟨1, ![8]⟩
abbrev S8x1 : Shape := ⟨2, ![8, 1]⟩
abbrev S2176 : Shape := ⟨1, ![2176]⟩
abbrev S1x2176 : Shape := ⟨2, ![1, 2176]⟩
abbrev S8x2176 : Shape := ⟨2, ![8, 2176]⟩
abbrev S_ : Shape := ⟨0, ![]⟩
abbrev S8x2176x1 : Shape := ⟨3, ![8, 2176, 1]⟩
abbrev S8x2176x8 : Shape := ⟨3, ![8, 2176, 8]⟩
abbrev S8x8x2176 : Shape := ⟨3, ![8, 8, 2176]⟩
abbrev S1x8x8x2176 : Shape := ⟨4, ![1, 8, 8, 2176]⟩

abbrev nBuf : Space → Nat
  | .hbm => 53
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S8, .i32⟩
  | .hbm, ⟨2, _⟩ => ⟨S8x1, .i32⟩
  | .hbm, ⟨3, _⟩ => ⟨S2176, .i32⟩
  | .hbm, ⟨4, _⟩ => ⟨S1x2176, .i32⟩
  | .hbm, ⟨5, _⟩ => ⟨S8x2176, .i32⟩
  | .hbm, ⟨6, _⟩ => ⟨S8x2176, .i32⟩
  | .hbm, ⟨7, _⟩ => ⟨S8x2176, .i32⟩
  | .hbm, ⟨8, _⟩ => ⟨S_, .i32⟩
  | .hbm, ⟨9, _⟩ => ⟨S8x2176, .i32⟩
  | .hbm, ⟨10, _⟩ => ⟨S8x2176, .i32⟩
  | .hbm, ⟨11, _⟩ => ⟨S_, .i32⟩
  | .hbm, ⟨12, _⟩ => ⟨S8x2176, .i32⟩
  | .hbm, ⟨13, _⟩ => ⟨S8x2176, .i32⟩
  | .hbm, ⟨14, _⟩ => ⟨S_, .i32⟩
  | .hbm, ⟨15, _⟩ => ⟨S8x2176, .i32⟩
  | .hbm, ⟨16, _⟩ => ⟨S8x2176, .i32⟩
  | .hbm, ⟨17, _⟩ => ⟨S8x2176, .f32⟩
  | .hbm, ⟨18, _⟩ => ⟨S_, .f32⟩
  | .hbm, ⟨19, _⟩ => ⟨S8x2176, .f32⟩
  | .hbm, ⟨20, _⟩ => ⟨S8x2176, .f32⟩
  | .hbm, ⟨21, _⟩ => ⟨S8x2176, .f32⟩
  | .hbm, ⟨22, _⟩ => ⟨S_, .f32⟩
  | .hbm, ⟨23, _⟩ => ⟨S8x2176, .f32⟩
  | .hbm, ⟨24, _⟩ => ⟨S8x2176, .f32⟩
  | .hbm, ⟨25, _⟩ => ⟨S_, .f32⟩
  | .hbm, ⟨26, _⟩ => ⟨S8x2176, .f32⟩
  | .hbm, ⟨27, _⟩ => ⟨S8x2176, .f32⟩
  | .hbm, ⟨28, _⟩ => ⟨S8x2176, .i32⟩
  | .hbm, ⟨29, _⟩ => ⟨S_, .i32⟩
  | .hbm, ⟨30, _⟩ => ⟨S8x2176, .i32⟩
  | .hbm, ⟨31, _⟩ => ⟨S8x2176, .i32⟩
  | .hbm, ⟨32, _⟩ => ⟨S_, .i32⟩
  | .hbm, ⟨33, _⟩ => ⟨S8x2176, .i32⟩
  | .hbm, ⟨34, _⟩ => ⟨S8x2176, .i32⟩
  | .hbm, ⟨35, _⟩ => ⟨S_, .i32⟩
  | .hbm, ⟨36, _⟩ => ⟨S8x2176, .i32⟩
  | .hbm, ⟨37, _⟩ => ⟨S8x2176, .i1⟩
  | .hbm, ⟨38, _⟩ => ⟨S8x2176, .i32⟩
  | .hbm, ⟨39, _⟩ => ⟨S_, .i32⟩
  | .hbm, ⟨40, _⟩ => ⟨S8x2176, .i32⟩
  | .hbm, ⟨41, _⟩ => ⟨S8x2176, .i1⟩
  | .hbm, ⟨42, _⟩ => ⟨S_, .i32⟩
  | .hbm, ⟨43, _⟩ => ⟨S8x2176, .i32⟩
  | .hbm, ⟨44, _⟩ => ⟨S8x2176, .i32⟩
  | .hbm, ⟨45, _⟩ => ⟨S8x2176, .i32⟩
  | .hbm, ⟨46, _⟩ => ⟨S8x2176x1, .i32⟩
  | .hbm, ⟨47, _⟩ => ⟨S8x2176x8, .f32⟩
  | .hbm, ⟨48, _⟩ => ⟨S8x8x2176, .f32⟩
  | .hbm, ⟨49, _⟩ => ⟨S1x8x8x2176, .f32⟩
  | .hbm, ⟨50, _⟩ => ⟨S_, .f32⟩
  | .hbm, ⟨51, _⟩ => ⟨S1x8x8x2176, .f32⟩
  | .hbm, ⟨52, _⟩ => ⟨S1x8x8x2176, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_c_5 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_7 : Ref sig .tc := ⟨.hbm, 39, rfl⟩
abbrev main_v29 : Ref sig .tc := ⟨.hbm, 40, rfl⟩
abbrev main_v30 : Ref sig .tc := ⟨.hbm, 41, rfl⟩
abbrev main_c_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel8.lean ====
abbrev S16384x256 : Shape := ⟨2, ![16384, 256]⟩
abbrev S16384x512 : Shape := ⟨2, ![16384, 512]⟩
abbrev S1x128 : Shape := ⟨2, ![1, 128]⟩
abbrev S2x256x128 : Shape := ⟨3, ![2, 256, 128]⟩
abbrev S512x256 : Shape := ⟨2, ![512, 256]⟩
abbrev S512x512 : Shape := ⟨2, ![512, 512]⟩
abbrev S1x256x128 : Shape := ⟨3, ![1, 256, 128]⟩
abbrev S256x128 : Shape := ⟨2, ![256, 128]⟩
abbrev S64x256 : Shape := ⟨2, ![64, 256]⟩
abbrev S64x512 : Shape := ⟨2, ![64, 512]⟩
abbrev S64x64 : Shape := ⟨2, ![64, 64]⟩
abbrev S1x256 : Shape := ⟨2, ![1, 256]⟩
abbrev S64x128 : Shape := ⟨2, ![64, 128]⟩
abbrev S256x512 : Shape := ⟨2, ![256, 512]⟩
abbrev S32x256 : Shape := ⟨2, ![32, 256]⟩
abbrev S32x512 : Shape := ⟨2, ![32, 512]⟩
abbrev S32x128 : Shape := ⟨2, ![32, 128]⟩
abbrev S1024x256 : Shape := ⟨2, ![1024, 256]⟩
abbrev S1024x512 : Shape := ⟨2, ![1024, 512]⟩
abbrev S1x512 : Shape := ⟨2, ![1, 512]⟩
abbrev S32 : Shape := ⟨1, ![32]⟩
abbrev S32x1 : Shape := ⟨2, ![32, 1]⟩
abbrev S32x32 : Shape := ⟨2, ![32, 32]⟩

abbrev nBuf : Space → Nat
  | .hbm => 8
  | .vmem => 18
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x512, .f32⟩
  | .hbm, ⟨3, _⟩ => ⟨S16384x256, .f32⟩
  | .hbm, ⟨4, _⟩ => ⟨S16384x512, .f32⟩
  | .hbm, ⟨5, _⟩ => ⟨S1x128, .f32⟩
  | .hbm, ⟨6, _⟩ => ⟨S16384x512, .bf16⟩
  | .hbm, ⟨7, _⟩ => ⟨S2x256x128, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S512x512, .f32⟩
  | .local _ .vmem, ⟨9, _⟩ => ⟨S512x512, .f32⟩
  | .local _ .vmem, ⟨10, _⟩ => ⟨S1x128, .f32⟩
  | .local _ .vmem, ⟨11, _⟩ => ⟨S512x512, .bf16⟩
  | .local _ .vmem, ⟨12, _⟩ => ⟨S512x512, .bf16⟩
  | .local _ .vmem, ⟨13, _⟩ => ⟨S1x256x128, .f32⟩
  | .local _ .vmem, ⟨14, _⟩ => ⟨S1x256x128, .f32⟩
  | .local _ .vmem, ⟨15, _⟩ => ⟨S256x128, .f32⟩
  | .local _ .vmem, ⟨16, _⟩ => ⟨S64x256, .f32⟩
  | .local _ .vmem, ⟨17, _⟩ => ⟨S64x512, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c64_i32 : BitVec 32 := 64#32
  let v8 : BitVec 32 := Scalar.muli arg13 c64_i32
  v8
def k0_off1 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c64_i32 : BitVec 32 := 64#32
  let v8 : BitVec 32 := Scalar.muli arg13 c64_i32
  let v9 : BitVec 32 := v8
  let v10 : Index := Scalar.indexCast v9
  let c0_7 : Index := 0#32
  ![v10.toNat, 0]
def k0_off2 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c64_i32 : BitVec 32 := 64#32
  let v8 : BitVec 32 := Scalar.muli arg13 c64_i32
  let v9 : BitVec 32 := v8
  let v14 : Index := Scalar.indexCast v9
  let c0_9 : Index := 0#32
  ![v14.toNat, 0]
def k0_off3 (k0_t1 : Fin k0_t1_loop.trips) (c0_i32_73 : BitVec 32) : Fin 2 → Nat :=
  let c0_i32_1 : BitVec 32 := 0#32
  let c1_i32 : BitVec 32 := 1#32
  let arg13 : BitVec 32 := Scf.iv c0_i32_1 c1_i32 k0_t1
  let c64_i32 : BitVec 32 := 64#32
  let v8 : BitVec 32 := Scalar.muli arg13 c64_i32
  let v9 : BitVec 32 := v8
  let v226 : BitVec 32 := Scalar.addi v9 c0_i32_73
  let v227 : Index := Scalar.indexCast v226
  let c0_74 : Index := 0#32
  ![v227.toNat, 0]
def k0_off4 (k0_t1 : Fin k0_t1_loop.trips) (c0_i32_73 : BitVec 32) : Fin 2 → Nat :=
  let c0_i32_1 : BitVec 32 := 0#32
  let c1_i32 : BitVec 32 := 1#32
  let arg13 : BitVec 32 := Scf.iv c0_i32_1 c1_i32 k0_t1
  let c64_i32 : BitVec 32 := 64#32
  let v8 : BitVec 32 := Scalar.muli arg13 c64_i32
  let v9 : BitVec 32 := v8
  let v226 : BitVec 32 := Scalar.addi v9 c0_i32_73
  let v231 : Index := Scalar.indexCast v226
  let c0_76 : Index := 0#32
  ![v231.toNat, 0]
def k0_off5 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c64_i32 : BitVec 32 := 64#32
  let v8 : BitVec 32 := Scalar.muli arg13 c64_i32
  let v9 : BitVec 32 := v8
  let c32_i32_177 : BitVec 32 := 32#32
  let v925 : BitVec 32 := Scalar.addi v9 c32_i32_177
  let v926 : Index := Scalar.indexCast v925
  let c0_178 : Index := 0#32
  ![v926.toNat, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference8Ideal.lean ====
abbrev S16384x256 : Shape := ⟨2, ![16384, 256]⟩
abbrev S16384x512 : Shape := ⟨2, ![16384, 512]⟩
abbrev S1x128 : Shape := ⟨2, ![1, 128]⟩
abbrev S_ : Shape := ⟨0, ![]⟩
abbrev S2x4x64x128 : Shape := ⟨4, ![2, 4, 64, 128]⟩
abbrev S2x128x64x4x64 : Shape := ⟨5, ![2, 128, 64, 4, 64]⟩
abbrev S128x2x4x64x64 : Shape := ⟨5, ![128, 2, 4, 64, 64]⟩
abbrev S2x128x64x4x128 : Shape := ⟨5, ![2, 128, 64, 4, 128]⟩
abbrev S128x2x4x64x128 : Shape := ⟨5, ![128, 2, 4, 64, 128]⟩
abbrev S1x2x4x64x64 : Shape := ⟨5, ![1, 2, 4, 64, 64]⟩
abbrev S2x4x64x64 : Shape := ⟨4, ![2, 4, 64, 64]⟩
abbrev S1x2x4x64x128 : Shape := ⟨5, ![1, 2, 4, 64, 128]⟩
abbrev S64x64 : Shape := ⟨2, ![64, 64]⟩
abbrev S2x4x64x1x64 : Shape := ⟨5, ![2, 4, 64, 1, 64]⟩
abbrev S2x4x1x64x64 : Shape := ⟨5, ![2, 4, 1, 64, 64]⟩
abbrev S2x4x64x64x64 : Shape := ⟨5, ![2, 4, 64, 64, 64]⟩
abbrev S64x64x1 : Shape := ⟨3, ![64, 64, 1]⟩
abbrev S2x4x1x64 : Shape := ⟨4, ![2, 4, 1, 64]⟩
abbrev S2x4x64 : Shape := ⟨3, ![2, 4, 64]⟩
abbrev S2x4x64x1 : Shape := ⟨4, ![2, 4, 64, 1]⟩
abbrev S2x8192x4x128 : Shape := ⟨4, ![2, 8192, 4, 128]⟩
abbrev S2x8192x512 : Shape := ⟨3, ![2, 8192, 512]⟩
abbrev S128 : Shape := ⟨1, ![128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S2x256x128 : Shape := ⟨3, ![2, 256, 128]⟩

abbrev nBuf : Space → Nat
  | .hbm => 145
  | .vmem => 0
  | .smem => 0
  | _ => 0

abbrev hbmTy0_0 (i : Nat) : BufTy := match i % 128 with
  | 0 => ⟨S16384x256, .f32⟩
  | 1 => ⟨S16384x256, .f32⟩
  | 2 => ⟨S16384x512, .f32⟩
  | 3 => ⟨S16384x256, .f32⟩
  | 4 => ⟨S16384x512, .f32⟩
  | 5 => ⟨S1x128, .f32⟩
  | 6 => ⟨S_, .f32⟩
  | 7 => ⟨S2x4x64x128, .f32⟩
  | 8 => ⟨S2x128x64x4x64, .f32⟩
  | 9 => ⟨S128x2x4x64x64, .f32⟩
  | 10 => ⟨S2x128x64x4x64, .f32⟩
  | 11 => ⟨S128x2x4x64x64, .f32⟩
  | 12 => ⟨S2x128x64x4x128, .f32⟩
  | 13 => ⟨S128x2x4x64x128, .f32⟩
  | 14 => ⟨S2x128x64x4x64, .f32⟩
  | 15 => ⟨S128x2x4x64x64, .f32⟩
  | 16 => ⟨S_, .f32⟩
  | 17 => ⟨S128x2x4x64x128, .f32⟩
  | 18 => ⟨S_, .i32⟩
  | 19 => ⟨S128x2x4x64x64, .f32⟩
  | 20 => ⟨S128x2x4x64x64, .f32⟩
  | 21 => ⟨S128x2x4x64x128, .f32⟩
  | 22 => ⟨S128x2x4x64x64, .f32⟩
  | 23 => ⟨S_, .i32⟩
  | 24 => ⟨S2x4x64x128, .f32⟩
  | 25 => ⟨S128x2x4x64x128, .f32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S1x2x4x64x64, .f32⟩
  | 33 => ⟨S2x4x64x64, .f32⟩
  | 34 => ⟨S_, .i32⟩
  | 35 => ⟨S_, .i32⟩
  | 36 => ⟨S_, .i32⟩
  | 37 => ⟨S_, .i32⟩
  | 38 => ⟨S1x2x4x64x64, .f32⟩
  | 39 => ⟨S2x4x64x64, .f32⟩
  | 40 => ⟨S_, .i32⟩
  | 41 => ⟨S_, .i32⟩
  | 42 => ⟨S_, .i32⟩
  | 43 => ⟨S_, .i32⟩
  | 44 => ⟨S1x2x4x64x128, .f32⟩
  | 45 => ⟨S2x4x64x128, .f32⟩
  | 46 => ⟨S_, .i32⟩
  | 47 => ⟨S_, .i32⟩
  | 48 => ⟨S_, .i32⟩
  | 49 => ⟨S_, .i32⟩
  | 50 => ⟨S1x2x4x64x64, .f32⟩
  | 51 => ⟨S2x4x64x64, .f32⟩
  | 52 => ⟨S_, .i1⟩
  | 53 => ⟨S64x64, .i1⟩
  | 54 => ⟨S64x64, .i32⟩
  | 55 => ⟨S_, .i32⟩
  | 56 => ⟨S64x64, .i32⟩
  | 57 => ⟨S64x64, .i32⟩
  | 58 => ⟨S64x64, .i32⟩
  | 59 => ⟨S64x64, .i1⟩
  | 60 => ⟨S_, .i1⟩
  | 61 => ⟨S64x64, .i1⟩
  | 62 => ⟨S64x64, .i1⟩
  | 63 => ⟨S_, .f32⟩
  | 64 => ⟨S_, .f32⟩
  | 65 => ⟨S2x4x64x64, .f32⟩
  | 66 => ⟨S2x4x64x64, .f32⟩
  | 67 => ⟨S2x4x64x64, .f32⟩
  | 68 => ⟨S2x4x64x128, .f32⟩
  | 69 => ⟨S2x4x64x1x64, .f32⟩
  | 70 => ⟨S2x4x1x64x64, .f32⟩
  | 71 => ⟨S2x4x64x64x64, .f32⟩
  | 72 => ⟨S2x4x64x64x64, .f32⟩
  | 73 => ⟨S2x4x64x64x64, .f32⟩
  | 74 => ⟨S64x64x1, .i1⟩
  | 75 => ⟨S_, .f32⟩
  | 76 => ⟨S_, .f32⟩
  | 77 => ⟨S2x4x64x64x64, .i1⟩
  | 78 => ⟨S2x4x64x64x64, .f32⟩
  | 79 => ⟨S2x4x64x64x64, .f32⟩
  | 80 => ⟨S2x4x64x64x64, .f32⟩
  | 81 => ⟨S2x4x64x1x64, .f32⟩
  | 82 => ⟨S2x4x1x64x64, .f32⟩
  | 83 => ⟨S2x4x64x64x64, .f32⟩
  | 84 => ⟨S2x4x64x64x64, .f32⟩
  | 85 => ⟨S2x4x64x64x64, .f32⟩
  | 86 => ⟨S2x4x64x64x64, .f32⟩
  | 87 => ⟨S_, .f32⟩
  | 88 => ⟨S2x4x64x64, .f32⟩
  | 89 => ⟨S2x4x64x128, .f32⟩
  | 90 => ⟨S2x4x1x64, .f32⟩
  | 91 => ⟨S2x4x64, .f32⟩
  | 92 => ⟨S2x4x64, .f32⟩
  | 93 => ⟨S2x4x64x1, .f32⟩
  | 94 => ⟨S2x4x64x128, .f32⟩
  | 95 => ⟨S2x4x64x128, .f32⟩
  | 96 => ⟨S2x4x64x64, .f32⟩
  | 97 => ⟨S2x4x64x64, .f32⟩
  | 98 => ⟨S2x4x64x64, .f32⟩
  | 99 => ⟨S2x4x64x64, .f32⟩
  | 100 => ⟨S2x4x64x128, .f32⟩
  | 101 => ⟨S2x4x64x128, .f32⟩
  | 102 => ⟨S2x4x64x128, .f32⟩
  | 103 => ⟨S1x2x4x64x128, .f32⟩
  | 104 => ⟨S_, .i32⟩
  | 105 => ⟨S_, .i32⟩
  | 106 => ⟨S_, .i32⟩
  | 107 => ⟨S_, .i32⟩
  | 108 => ⟨S128x2x4x64x128, .f32⟩
  | 109 => ⟨S_, .i32⟩
  | 110 => ⟨S_, .i32⟩
  | 111 => ⟨S2x128x64x4x128, .f32⟩
  | 112 => ⟨S2x8192x4x128, .f32⟩
  | 113 => ⟨S2x8192x512, .f32⟩
  | 114 => ⟨S128, .f32⟩
  | 115 => ⟨S2x8192x4x128, .f32⟩
  | 116 => ⟨S_, .f32⟩
  | 117 => ⟨S2x8192x4, .f32⟩
  | 118 => ⟨S2x8192x4x1, .f32⟩
  | 119 => ⟨S_, .f32⟩
  | 120 => ⟨S2x8192x4x1, .f32⟩
  | 121 => ⟨S2x8192x4x1, .f32⟩
  | 122 => ⟨S_, .f32⟩
  | 123 => ⟨S2x8192x4x1, .f32⟩
  | 124 => ⟨S2x8192x4x1, .f32⟩
  | 125 => ⟨S2x8192x4x1, .f32⟩
  | 126 => ⟨S2x8192x4x128, .f32⟩
  | 127 => ⟨S2x8192x4x128, .f32⟩
  | _ => ⟨S16384x256, .f32⟩

abbrev hbmTy0_1 (i : Nat) : BufTy := match i % 128 with
  | 0 => ⟨S1x1x1x128, .f32⟩
  | 1 => ⟨S2x8192x4x128, .f32⟩
  | 2 => ⟨S2x8192x4x128, .f32⟩
  | 3 => ⟨S2x8192x512, .f32⟩
  | 4 => ⟨S2x8192x512, .f32⟩
  | 5 => ⟨S2x8192x512, .f32⟩
  | 6 => ⟨S_, .f32⟩
  | 7 => ⟨S2x8192x512, .f32⟩
  | 8 => ⟨S2x8192x512, .f32⟩
  | 9 => ⟨S_, .f32⟩
  | 10 => ⟨S2x8192x512, .f32⟩
  | 11 => ⟨S2x8192x512, .f32⟩
  | 12 => ⟨S2x8192x512, .f32⟩
  | 13 => ⟨S2x8192x512, .f32⟩
  | 14 => ⟨S16384x512, .f32⟩
  | 15 => ⟨S16384x512, .bf16⟩
  | 16 => ⟨S2x256x128, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_c : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev main_v10_6 : Ref sig .tc := ⟨.hbm, 25, rfl⟩
abbrev main_while0c_c_10 : Ref sig .tc := ⟨.hbm, 26, rfl⟩
abbrev main_while0c_v34 : Ref sig .tc := ⟨.hbm, 27, rfl⟩
abbrev main_while0b_call0_c : Ref sig .tc := ⟨.hbm, 28, rfl⟩
abbrev main_while0b_call0_c_0 : Ref sig .tc := ⟨.hbm, 29, rfl⟩
abbrev main_while0b_call0_c_1 : Ref sig .tc := ⟨.hbm, 30, rfl⟩
abbrev main_while0b_call0_c_2 : Ref sig .tc := ⟨.hbm, 31, rfl⟩
abbrev main_while0b_call0_v0 : Ref sig .tc := ⟨.hbm, 32, rfl⟩
abbrev main_while0b_v34 : Ref sig .tc := ⟨.hbm, 33, rfl⟩
abbrev main_while0b_call1_c : Ref sig .tc := ⟨.hbm, 34, rfl⟩
abbrev main_while0b_call1_c_0 : Ref sig .tc := ⟨.hbm, 35, rfl⟩
abbrev main_while0b_call1_c_1 : Ref sig .tc := ⟨.hbm, 36, rfl⟩
abbrev main_while0b_call1_c_2 : Ref sig .tc := ⟨.hbm, 37, rfl⟩
abbrev main_while0b_call1_v0 : Ref sig .tc := ⟨.hbm, 38, rfl⟩
abbrev main_while0b_v35 : Ref sig .tc := ⟨.hbm, 39, rfl⟩
abbrev main_while0b_call2_c : Ref sig .tc := ⟨.hbm, 40, rfl⟩
abbrev main_while0b_call2_c_0 : Ref sig .tc := ⟨.hbm, 41, rfl⟩
abbrev main_while0b_call2_c_1 : Ref sig .tc := ⟨.hbm, 42, rfl⟩
abbrev main_while0b_call2_c_2 : Ref sig .tc := ⟨.hbm, 43, rfl⟩
abbrev main_while0b_call2_v0 : Ref sig .tc := ⟨.hbm, 44, rfl⟩
abbrev main_while0b_v36 : Ref sig .tc := ⟨.hbm, 45, rfl⟩
abbrev main_while0b_call3_c : Ref sig .tc := ⟨.hbm, 46, rfl⟩
abbrev main_while0b_call3_c_0 : Ref sig .tc := ⟨.hbm, 47, rfl⟩
abbrev main_while0b_call3_c_1 : Ref sig .tc := ⟨.hbm, 48, rfl⟩
abbrev main_while0b_call3_c_2 : Ref sig .tc := ⟨.hbm, 49, rfl⟩
abbrev main_while0b_call3_v0 : Ref sig .tc := ⟨.hbm, 50, rfl⟩
abbrev main_while0b_v37 : Ref sig .tc := ⟨.hbm, 51, rfl⟩
abbrev main_while0b_c_10 : Ref sig .tc := ⟨.hbm, 52, rfl⟩
abbrev main_while0b_v38 : Ref sig .tc := ⟨.hbm, 53, rfl⟩
abbrev main_while0b_call4_v0 : Ref sig .tc := ⟨.hbm, 54, rfl⟩
abbrev main_while0b_call4_c : Ref sig .tc := ⟨.hbm, 55, rfl⟩
abbrev main_while0b_call4_v1 : Ref sig .tc := ⟨.hbm, 56, rfl⟩
abbrev main_while0b_call4_v2 : Ref sig .tc := ⟨.hbm, 57, rfl⟩
abbrev main_while0b_call4_v3 : Ref sig .tc := ⟨.hbm, 58, rfl⟩
abbrev main_while0b_call4_v4 : Ref sig .tc := ⟨.hbm, 59, rfl⟩
abbrev main_while0b_call4_c_0 : Ref sig .tc := ⟨.hbm, 60, rfl⟩
abbrev main_while0b_call4_v5 : Ref sig .tc := ⟨.hbm, 61, rfl⟩
abbrev main_while0b_v39 : Ref sig .tc := ⟨.hbm, 62, rfl⟩
abbrev main_while0b_call5_call0_cst : Ref sig .tc := ⟨.hbm, 63, rfl⟩
abbrev main_while0b_call5_call0_v0 : Ref sig .tc := ⟨.hbm, 64, rfl⟩
abbrev main_while0b_v40 : Ref sig .tc := ⟨.hbm, 65, rfl⟩
abbrev main_while0b_v41 : Ref sig .tc := ⟨.hbm, 66, rfl⟩
abbrev main_while0b_v42 : Ref sig .tc := ⟨.hbm, 67, rfl⟩
abbrev main_while0b_v43 : Ref sig .tc := ⟨.hbm, 68, rfl⟩
abbrev main_while0b_v44 : Ref sig .tc := ⟨.hbm, 69, rfl⟩
abbrev main_while0b_v45 : Ref sig .tc := ⟨.hbm, 70, rfl⟩
abbrev main_while0b_v46 : Ref sig .tc := ⟨.hbm, 71, rfl⟩
abbrev main_while0b_v47 : Ref sig .tc := ⟨.hbm, 72, rfl⟩
abbrev main_while0b_v48 : Ref sig .tc := ⟨.hbm, 73, rfl⟩
abbrev main_while0b_v49 : Ref sig .tc := ⟨.hbm, 74, rfl⟩
abbrev main_while0b_cst_11 : Ref sig .tc := ⟨.hbm, 75, rfl⟩
abbrev main_while0b_call6_v0 : Ref sig .tc := ⟨.hbm, 76, rfl⟩
abbrev main_while0b_call6_v1 : Ref sig .tc := ⟨.hbm, 77, rfl⟩
abbrev main_while0b_call6_v2 : Ref sig .tc := ⟨.hbm, 78, rfl⟩
abbrev main_while0b_v50 : Ref sig .tc := ⟨.hbm, 79, rfl⟩
abbrev main_while0b_v51 : Ref sig .tc := ⟨.hbm, 80, rfl⟩
abbrev main_while0b_v52 : Ref sig .tc := ⟨.hbm, 81, rfl⟩
abbrev main_while0b_v53 : Ref sig .tc := ⟨.hbm, 82, rfl⟩
abbrev main_while0b_v54 : Ref sig .tc := ⟨.hbm, 83, rfl⟩
abbrev main_while0b_v55 : Ref sig .tc := ⟨.hbm, 84, rfl⟩
abbrev main_while0b_v56 : Ref sig .tc := ⟨.hbm, 85, rfl⟩
abbrev main_while0b_v57 : Ref sig .tc := ⟨.hbm, 86, rfl⟩
abbrev main_while0b_cst_12 : Ref sig .tc := ⟨.hbm, 87, rfl⟩
abbrev main_while0b_v58 : Ref sig .tc := ⟨.hbm, 88, rfl⟩
abbrev main_while0b_v59 : Ref sig .tc := ⟨.hbm, 89, rfl⟩
abbrev main_while0b_v60 : Ref sig .tc := ⟨.hbm, 90, rfl⟩
abbrev main_while0b_v61 : Ref sig .tc := ⟨.hbm, 91, rfl⟩
abbrev main_while0b_v62 : Ref sig .tc := ⟨.hbm, 92, rfl⟩
abbrev main_while0b_v63 : Ref sig .tc := ⟨.hbm, 93, rfl⟩
abbrev main_while0b_v64 : Ref sig .tc := ⟨.hbm, 94, rfl⟩
abbrev main_while0b_v65 : Ref sig .tc := ⟨.hbm, 95, rfl⟩
abbrev main_while0b_v66 : Ref sig .tc := ⟨.hbm, 96, rfl⟩
abbrev main_while0b_v67 : Ref sig .tc := ⟨.hbm, 97, rfl⟩
abbrev main_while0b_v68 : Ref sig .tc := ⟨.hbm, 98, rfl⟩
abbrev main_while0b_v69 : Ref sig .tc := ⟨.hbm, 99, rfl⟩
abbrev main_while0b_v70 : Ref sig .tc := ⟨.hbm, 100, rfl⟩
abbrev main_while0b_v71 : Ref sig .tc := ⟨.hbm, 101, rfl⟩
abbrev main_while0b_v72 : Ref sig .tc := ⟨.hbm, 102, rfl⟩
abbrev main_while0b_call7_v0 : Ref sig .tc := ⟨.hbm, 103, rfl⟩
abbrev main_while0b_call7_c : Ref sig .tc := ⟨.hbm, 104, rfl⟩
abbrev main_while0b_call7_c_0 : Ref sig .tc := ⟨.hbm, 105, rfl⟩
abbrev main_while0b_call7_c_1 : Ref sig .tc := ⟨.hbm, 106, rfl⟩
abbrev main_while0b_call7_c_2 : Ref sig .tc := ⟨.hbm, 107, rfl⟩
abbrev main_while0b_v73 : Ref sig .tc := ⟨.hbm, 108, rfl⟩
abbrev main_while0b_c_13 : Ref sig .tc := ⟨.hbm, 109, rfl⟩
abbrev main_while0b_v74 : Ref sig .tc := ⟨.hbm, 110, rfl⟩
abbrev main_v11 : Ref sig .tc := ⟨.hbm, 111, rfl⟩
abbrev main_v12 : Ref sig .tc := ⟨.hbm, 112, rfl⟩
abbrev main_v13 : Ref sig .tc := ⟨.hbm, 113, rfl⟩
abbrev main_v14 : Ref sig .tc := ⟨.hbm, 114, rfl⟩
abbrev main_v15 : Ref sig .tc := ⟨.hbm, 115, rfl⟩
abbrev main_cst_1 : Ref sig .tc := ⟨.hbm, 116, rfl⟩
abbrev main_v16 : Ref sig .tc := ⟨.hbm, 117, rfl⟩
abbrev main_v17 : Ref sig .tc := ⟨.hbm, 118, rfl⟩
abbrev main_cst_2 : Ref sig .tc := ⟨.hbm, 119, rfl⟩
abbrev main_v18 : Ref sig .tc := ⟨.hbm, 120, rfl⟩
abbrev main_v19 : Ref sig .tc := ⟨.hbm, 121, rfl⟩
abbrev main_cst_3 : Ref sig .tc := ⟨.hbm, 122, rfl⟩
abbrev main_v20 : Ref sig .tc := ⟨.hbm, 123, rfl⟩
abbrev main_v21 : Ref sig .tc := ⟨.hbm, 124, rfl⟩
abbrev main_v22 : Ref sig .tc := ⟨.hbm, 125, rfl⟩
abbrev main_v23 : Ref sig .tc := ⟨.hbm, 126, rfl⟩
abbrev main_v24 : Ref sig .tc := ⟨.hbm, 127, rfl⟩
abbrev main_v25 : Ref sig .tc := ⟨.hbm, 128, rfl⟩
abbrev main_v26 : Ref sig .tc := ⟨.hbm, 129, rfl⟩
abbrev main_v27 : Ref sig .tc := ⟨.hbm, 130, rfl⟩
abbrev main_v28 : Ref sig .tc := ⟨.hbm, 131, rfl⟩
abbrev main_call8_v0 : Ref sig .tc := ⟨.hbm, 132, rfl⟩
abbrev main_call8_v1 : Ref sig .tc := ⟨.hbm, 133, rfl⟩
abbrev main_call8_cst : Ref sig .tc := ⟨.hbm, 134, rfl⟩
abbrev main_call8_v2 : Ref sig .tc := ⟨.hbm, 135, rfl⟩
abbrev main_call8_v3 : Ref sig .tc := ⟨.hbm, 136, rfl⟩
abbrev main_call8_cst_0 : Ref sig .tc := ⟨.hbm, 137, rfl⟩
abbrev main_call8_v4 : Ref sig .tc := ⟨.hbm, 138, rfl⟩
abbrev main_call8_v5 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩

abbrev nD : Nat := 1
abbrev τ : Topo := Topo.v7x

variable {F : FTy → Type} [FloatOps F]

abbrev main_while0_count : Scf.Loop 32 := ⟨0#32, 128#32, 1#32⟩
-- ==== Proof.Norm.lean ====
/-
  The final RMS norm (hand-written): the kernel normalizes blocks of 512 rows, the reference the whole array; at `Ideal`
  each entry is the same extended real, so no law of arithmetic is needed.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.Norm

open Cert.Kernel5Ideal Cert.Kernel5Ideal.Gen

/-- One entry of the RMS norm: the row's entry over the root of the row's mean square plus epsilon, times the gain. -/
def entry (x : Fin 1024 → EReal) (g : Fin 1024 → EReal) (l : Fin 1024) : EReal :=
  x l * Ideal.rsqrt (Ideal.div (∑ k, x k * x k) (Ideal.ofBits .f32 0x44800000#32) + Ideal.ofBits .f32 0x358637BD#32) * g l

/-- The block's payload at an index is `entry` of the block's row. -/
theorem pay_apply (x : Vec Ideal S512x1024 .f32) (g : Vec Ideal S1x1024 .f32) (r : Fin 512) (l : Fin 1024) :
    k0_pay1 x g (ix2 r l) = entry (fun k => x (ix2 r k)) (fun k => g (ix2 0 k)) l := by
  pointwise [k0_pay1, entry]

variable (m : (ℓ : Loc nD τ sig) → Buf (Elt Ideal) ℓ)

/-- The whole result array: `entry` of each row of the argument. -/
def G (c : Dev nD) : S16384x1024.Idx → EReal := fun i =>
  entry (fun k => m ((c : Thread nD τ).loc main_arg0) (ix2 (i 0) k)) (fun k => m ((c : Thread nD τ).loc main_arg1) (ix1 k)) (i 1)

/-- The blocks of the argument and of the result start at row 512 times the point; the gain has one block. -/
theorem idx (t : Fin cfg0.N) : win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0]) t

/-- A block of the argument, read at row `r`, is the argument's row `512 t + r`. -/
theorem read0 (c : Dev nD) (t : Fin cfg0.N) (r : Fin 512) (k : Fin 1024) (i : Fin 16384) (hi : i.val = t.val * 512 + r.val) :
    iblk m c 0 t (ix2 r k) = m ((c : Thread nD τ).loc main_arg0) (ix2 i k) := by
  obtain ⟨e0, -, -⟩ := idx t
  blk_ext! [iblk, V_main_arg0, e0]

/-- The gain's one block is the gain. -/
theorem read1 (c : Dev nD) (t : Fin cfg0.N) (k : Fin 1024) :
    iblk m c 1 t (ix2 0 k) = m ((c : Thread nD τ).loc main_arg1) (ix1 k) := by
  obtain ⟨-, e1, -⟩ := idx t
  blk_ext! [iblk, e1]

/-- The array the call leaves is the norm of the argument. -/
theorem final (c : Dev nD) : (dats m 0 c).arrAt 2 (cfgs 0).N = G m c := by
  refine (dats m 0 c).arrAt_eq_of_covers 2 _ (by decide +kernel) fun t hf y => ?_
  obtain ⟨-, -, e2⟩ := idx t
  blk_simp
  rw [after0_2]
  idx_vars y
  have ht : t.val < 32 := t.isLt
  have hr : t.val * 512 + y0.val < 16384 := by omega
  have he : ((win0_2.blk t).view.emb (ix2 y0 y1)) = ix2 (⟨t.val * 512 + y0.val, hr⟩ : Fin 16384) y1 := by
    blk_ext [e2]
  show _ = G m c ((win0_2.blk t).view.emb (ix2 y0 y1))
  rw [he]
  frame_out
  rw [pay_apply]
  simp only [fun k => read0 m c t y0 k ⟨t.val * 512 + y0.val, hr⟩ rfl, read1]
  rfl

/-- The kernel's frame at the bit instance. -/
theorem frame_p : Cert.quiescent_Kernel5 := fun m ρ _ => Cert.Kernel5.Gen.frame m ρ

/-- The kernel's frame at the ideal instance. -/
theorem frame_pi : Cert.quiescent_Kernel5Ideal := fun m ρ _ => Cert.Kernel5Ideal.Gen.frame m ρ

/-- The reference's frame: it runs host operations only and declares no semaphore. -/
theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel's normalized array is the reference's. -/
theorem algebraic : Cert.algebraic_Kernel5Ideal_Reference5Ideal := by
  intro m ρ m' ρ' _ hagree
  refine ⟨fun c => G m c, ?_, ?_⟩
  · exact (θ_run Cert.Kernel5Ideal.defs _ _).mono (fun _ h c => ⟨(h c).1.trans (final m c), (h c).2⟩)
      (Cert.Kernel5Ideal.Value.run_blocks (F := Ideal) m ρ)
  · refine (θ_run Cert.Reference5Ideal.defs _ _).mono (fun _ h c => ⟨(h c).1.trans ?_, (h c).2⟩)
      (Cert.Reference5Ideal.Value.run (F := Ideal) m' ρ')
    rw [(hagree c).1, (hagree c).2]
    funext i
    idx_vars i
    pointwise [G, entry]

end Cert.Proof.Norm
end
-- ==== Proof.Ffn.lean ====
module

public import proofs.«01_k».proof.Defs
public import proofs.«01_k».proof.Proof.Norm
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent
public import Idealize.ShloMosaic.Lib.Routing.Ops

@[expose] public section

set_option maxRecDepth 16384

noncomputable section

open Idealize.ShloMosaic Idealize.ShloMosaic.TcCoe Idealize.SL.Sem
open Idealize.ShloMosaic.Pipeline (Dat)

namespace Cert.Proof.Ffn

open Cert.Kernel3Ideal Cert.Kernel3Ideal.Gen

/-- The gated activation at hidden column `j`. -/
def act (h : Fin 1024 → EReal) (wg wu : Fin 1024 → EReal) : EReal :=
  (∑ k, h k * wg k) * Ideal.logistic (∑ k, h k * wg k) * (∑ k, h k * wu k)

/-- The residual after the two output projections. -/
theorem pay1_apply (v0 : Vec Ideal S512x1024 .f32) (v1 : Vec Ideal S512x512 .bf16) (v2 : Vec Ideal S512x1024 .bf16)
    (v6 : Vec Ideal S512x512 .bf16) (v7 : Vec Ideal S512x1024 .bf16) (r : Fin 512) (l : Fin 1024) :
    k0_pay1 v0 v1 v2 v6 v7 (ix2 r l)
      = v0 (ix2 r l) + (∑ k, v1 (ix2 r k) * v2 (ix2 k l)) + (∑ k, v6 (ix2 r k) * v7 (ix2 k l)) := by
  pointwise [k0_pay1]

/-- The normalized residual. -/
theorem pay2_apply (v0 : Vec Ideal S512x1024 .f32) (v1 : Vec Ideal S512x512 .bf16) (v2 : Vec Ideal S512x1024 .bf16)
    (v6 : Vec Ideal S512x512 .bf16) (v7 : Vec Ideal S512x1024 .bf16) (v21 : Vec Ideal S1x1024 .f32) (r : Fin 512) (l : Fin 1024) :
    k0_pay2 v0 v1 v2 v6 v7 v21 (ix2 r l)
      = Norm.entry (fun k => k0_pay1 v0 v1 v2 v6 v7 (ix2 r k)) (fun k => v21 (ix2 0 k)) l := by
  pointwise [k0_pay2, Norm.entry]

/-- A sum over the hidden columns is the sum over the chunks of 256, one after the other. -/
theorem sum_chunks (f : Fin 2816 → EReal) : ∑ j, f j
    = (∑ x : Fin 256, f ⟨x.val, by omega⟩) + (∑ x : Fin 256, f ⟨256 + x.val, by omega⟩) + (∑ x : Fin 256, f ⟨512 + x.val, by omega⟩)
      + (∑ x : Fin 256, f ⟨768 + x.val, by omega⟩) + (∑ x : Fin 256, f ⟨1024 + x.val, by omega⟩) + (∑ x : Fin 256, f ⟨1280 + x.val, by omega⟩)
      + (∑ x : Fin 256, f ⟨1536 + x.val, by omega⟩) + (∑ x : Fin 256, f ⟨1792 + x.val, by omega⟩) + (∑ x : Fin 256, f ⟨2048 + x.val, by omega⟩)
      + (∑ x : Fin 256, f ⟨2304 + x.val, by omega⟩) + (∑ x : Fin 256, f ⟨2560 + x.val, by omega⟩) := by
  have h (T : Fin 11 → EReal) : ∑ j, T j = T 0 + T 1 + T 2 + T 3 + T 4 + T 5 + T 6 + T 7 + T 8 + T 9 + T 10 := by
    simp only [Fin.sum_univ_castSucc, Fin.sum_univ_zero, zero_add]; rfl
  rw [Fin.sum_univ_tiles 11 256 rfl, h]
  have h0 : ∑ x : Fin 256, f ⟨(0 : Fin 11).val * 256 + x.val, by simp; omega⟩ = ∑ x : Fin 256, f ⟨x.val, by omega⟩ :=
    Finset.sum_congr rfl fun x _ => congrArg f (Fin.ext (by simp))
  rw [h0]; rfl

/-- The body's block at an entry: the residual plus the gated feed-forward of its normalization. -/
theorem out_apply (x0 : Vec Ideal S512x1024 .f32) (x1 x2 : Vec Ideal S512x512 .bf16) (x3 : Vec Ideal S1024x1024 .bf16)
    (x4 : Vec Ideal S1x1024 .f32) (x5 x6 : Vec Ideal S1024x2816 .bf16) (x7 : Vec Ideal S2816x1024 .bf16) (r : Fin 512) (l : Fin 1024) :
    out0_8 x0 x1 x2 x3 x4 x5 x6 x7 (ix2 r l)
      = k0_pay1 x0 x1 (View.ld x3 r0_2) x2 (View.ld x3 r0_3) (ix2 r l)
        + ∑ j : Fin 2816, act (fun k => k0_pay13 x0 x1 x2 x3 x4 x5 x6 x7 (ix2 r k)) (fun k => x5 (ix2 k j)) (fun k => x6 (ix2 k j)) * x7 (ix2 j l) := by
  have h3 : k0_pay2 x0 x1 (View.ld x3 r0_2) x2 (View.ld x3 r0_3) x4 = k0_pay13 x0 x1 x2 x3 x4 x5 x6 x7 := by
    unfold k0_pay13
    frame_out
  unfold out0_8
  generalize k0_pay13 x0 x1 x2 x3 x4 x5 x6 x7 = h at *
  frame_out
  pointwise [k0_pay3, k0_pay4, k0_pay5, k0_pay6, k0_pay7, k0_pay8, k0_pay9, k0_pay10, k0_pay11, k0_pay12, h3]
  congr 1
  exact (sum_chunks fun j => act (fun k => h (ix2 r k)) (fun k => x5 (ix2 k j)) (fun k => x6 (ix2 k j)) * x7 (ix2 j l)).symm

/-- The place in the layer's own head order (key-value head, then query head in it, then lane) of the attention
    output's column `k`, which stands in the order query head, key-value head, lane. -/
def place (k : Fin 512) : Fin 512 := ⟨k.val % 128 / 64 * 256 + k.val / 128 * 64 + k.val % 64, by omega⟩

/-- The column at which that place is read. -/
def column (k : Fin 512) : Fin 512 := ⟨k.val / 64 % 4 * 128 + k.val / 256 * 64 + k.val % 64, by omega⟩

/-- The two permutations of the attention columns undo each other. -/
theorem place_column (k : Fin 512) : place (column k) = k :=
  (by decide +kernel : ∀ k, place (column k) = k) k

/-- And the other way round. -/
theorem column_place (k : Fin 512) : column (place k) = k :=
  (by decide +kernel : ∀ k, column (place k) = k) k

/-- The product over the reordered columns, summed in either order. -/
theorem reindex (x s : EReal) (ao w : Fin 512 → EReal) :
    x + ((∑ k, ao (column k) * w k) + s) = x + ((∑ k, ao k * w (place k)) + s) := by
  have h : ∑ k, ao (column k) * w k = ∑ k, ao k * w (place k) :=
    Fintype.sum_equiv ⟨column, place, place_column, column_place⟩ _ _ fun k => by
      simp only [Equiv.coe_fn_mk, place_column]
  rw [h]

/-- The table of rows the host gathers by names every column's place. -/
theorem table (k : Fin 512) : lit0 k = BitVec.ofNat 32 (place k).val :=
  (by decide +kernel : ∀ k : Fin 512, lit0 k = BitVec.ofNat 32 (place k).val) k

/-- The three windows of rows move with the grid point. -/
theorem idx (t : Fin cfg0.N) : win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0]) t

variable (m : (ℓ : Loc nD τ sig) → Buf (Elt Ideal) ℓ)

/-- The first half of the joined weights: the permuted rows of the output projection. -/
theorem read3 (c : Dev nD) (t : Fin cfg0.N) (k : Fin 512) (l : Fin 1024) :
    iblk m c 3 t (ix2 ⟨k.val, by omega⟩ l) = m ((c : Thread nD τ).loc main_arg3) (ix2 ⟨(place k).val, by omega⟩ l) := by
  obtain ⟨-, -, -, e, -⟩ := idx t
  have he : (win0_3.blk t).view.emb (ix2 (⟨k.val, by omega⟩ : Fin 1024) l) = ix2 (⟨k.val, by omega⟩ : Fin 1024) l := by
    blk_ext [e]
  unfold iblk
  entry_read
  generalize hg : Host.gather _ _ _ = g
  blk_simp
  rw [he]
  pointwise
  rw [← hg]
  refine (Routing.gather_row _ rfl rfl rfl rfl rfl _ _ k l (place k) ?_ (by decide)).trans ?_
  · pointwise
    exact (congrArg lit0 (Fin.ext (Shape.rowMajor_val_one _))).trans (table k)
  pointwise

/-- The second half of the joined weights: the remaining rows, in place. -/
theorem read3' (c : Dev nD) (t : Fin cfg0.N) (k : Fin 512) (l : Fin 1024) :
    iblk m c 3 t (ix2 ⟨512 + k.val, by omega⟩ l) = m ((c : Thread nD τ).loc main_arg3) (ix2 ⟨512 + k.val, by omega⟩ l) := by
  obtain ⟨-, -, -, e, -⟩ := idx t
  have he : (win0_3.blk t).view.emb (ix2 (⟨512 + k.val, by omega⟩ : Fin 1024) l) = ix2 (⟨512 + k.val, by omega⟩ : Fin 1024) l := by
    blk_ext [e]
  unfold iblk
  entry_read
  generalize hg : Host.gather _ _ _ = g
  blk_simp
  rw [he]
  pointwise

/-- A block's token entry is the array's. -/
theorem read0 (c : Dev nD) (t : Fin cfg0.N) (r : Fin 512) (k : Fin 1024) (i : Fin 16384) (hi : i.val = t.val * 512 + r.val) :
    iblk m c 0 t (ix2 r k) = m ((c : Thread nD τ).loc main_arg0) (ix2 i k) := by
  obtain ⟨e, -⟩ := idx t
  blk_ext! [iblk, V_main_arg0, e]

/-- A block's attention entry is the array's. -/
theorem read1 (c : Dev nD) (t : Fin cfg0.N) (r : Fin 512) (k : Fin 512) (i : Fin 16384) (hi : i.val = t.val * 512 + r.val) :
    iblk m c 1 t (ix2 r k) = m ((c : Thread nD τ).loc main_arg1) (ix2 i k) := by
  obtain ⟨-, e, -⟩ := idx t
  blk_ext! [iblk, V_main_arg1, e]

/-- A block's recurrence entry is the array's. -/
theorem read2 (c : Dev nD) (t : Fin cfg0.N) (r : Fin 512) (k : Fin 512) (i : Fin 16384) (hi : i.val = t.val * 512 + r.val) :
    iblk m c 2 t (ix2 r k) = m ((c : Thread nD τ).loc main_arg2) (ix2 i k) := by
  obtain ⟨-, -, e, -⟩ := idx t
  blk_ext! [iblk, V_main_arg2, e]

/-- The norm's weight as the call holds it. -/
theorem read4 (c : Dev nD) (t : Fin cfg0.N) (k : Fin 1024) :
    iblk m c 4 t (ix2 (0 : Fin 1) k) = m ((c : Thread nD τ).loc main_arg4) (ix1 k) := by
  obtain ⟨-, -, -, -, e, -⟩ := idx t
  blk_ext! [iblk, e]

/-- The gate's weights as the call holds them. -/
theorem read5 (c : Dev nD) (t : Fin cfg0.N) (k : Fin 1024) (j : Fin 2816) :
    iblk m c 5 t (ix2 k j) = m ((c : Thread nD τ).loc main_arg5) (ix2 k j) := by
  obtain ⟨-, -, -, -, -, e, -⟩ := idx t
  blk_ext! [iblk, e]

/-- The up projection's weights as the call holds them. -/
theorem read6 (c : Dev nD) (t : Fin cfg0.N) (k : Fin 1024) (j : Fin 2816) :
    iblk m c 6 t (ix2 k j) = m ((c : Thread nD τ).loc main_arg6) (ix2 k j) := by
  obtain ⟨-, -, -, -, -, -, e, -⟩ := idx t
  blk_ext! [iblk, e]

/-- The down projection's weights as the call holds them. -/
theorem read7 (c : Dev nD) (t : Fin cfg0.N) (j : Fin 2816) (l : Fin 1024) :
    iblk m c 7 t (ix2 j l) = m ((c : Thread nD τ).loc main_arg7) (ix2 j l) := by
  obtain ⟨-, -, -, -, -, -, -, e, -⟩ := idx t
  blk_ext! [iblk, e]

/-- The residual stream of token `i` after the attention and recurrence outputs are projected. -/
def res (x : S16384x1024.Idx → EReal) (ao go : S16384x512.Idx → EReal) (w : S1024x1024.Idx → EReal) (i : Fin 16384) (l : Fin 1024) : EReal :=
  x (ix2 i l) + ((∑ k : Fin 512, ao (ix2 i k) * w (ix2 ⟨(place k).val, by omega⟩ l))
    + ∑ k : Fin 512, go (ix2 i k) * w (ix2 ⟨512 + k.val, by omega⟩ l))

/-- The whole block of the layer at token `i`, column `l`. -/
def val (x : S16384x1024.Idx → EReal) (ao go : S16384x512.Idx → EReal) (w : S1024x1024.Idx → EReal) (g : S1024.Idx → EReal)
    (wg wu : S1024x2816.Idx → EReal) (wd : S2816x1024.Idx → EReal) (i : Fin 16384) (l : Fin 1024) : EReal :=
  res x ao go w i l + ∑ j : Fin 2816, act (Norm.entry (res x ao go w i) (fun k => g (ix1 k)))
    (fun k => wg (ix2 k j)) (fun k => wu (ix2 k j)) * wd (ix2 j l)

/-- The result array. -/
def G (c : Dev nD) : Buf (Elt Ideal) ((c : Thread nD τ).loc main_v13) := fun i =>
  val (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1)

/-- The residual row a block computes is the whole array's. -/
theorem res_block (c : Dev nD) (t : Fin cfg0.N) (r : Fin 512) (l : Fin 1024) (i : Fin 16384) (hi : i.val = t.val * 512 + r.val) :
    k0_pay1 (iblk m c 0 t) (iblk m c 1 t) (View.ld (iblk m c 3 t) r0_2) (iblk m c 2 t) (View.ld (iblk m c 3 t) r0_3) (ix2 r l)
      = res (m ((c : Thread nD τ).loc main_arg0)) (m ((c : Thread nD τ).loc main_arg1)) (m ((c : Thread nD τ).loc main_arg2))
    (m ((c : Thread nD τ).loc main_arg3)) i l := by
  rw [pay1_apply, res, add_assoc, read0 m c t r l i hi]
  congr 2
  · refine Finset.sum_congr rfl fun k _ => ?_
    rw [read1 m c t r k i hi, ← read3 m c t]
    pointwise
  · refine Finset.sum_congr rfl fun k _ => ?_
    rw [read2 m c t r k i hi, ← read3' m c t]
    pointwise

/-- The array the call leaves is the layer of the arguments. -/
theorem final (c : Dev nD) : (dats m 0 c).arrAt 8 (cfgs 0).N = G m c := by
  refine (dats m 0 c).arrAt_eq_of_covers 8 _ (by decide +kernel) fun t hf y => ?_
  blk_simp
  rw [after0_8]
  idx_vars y
  have ht : t.val < 32 := t.isLt
  obtain ⟨-, -, -, -, -, -, -, -, e⟩ := idx t
  have he : (win0_8.blk t).view.emb (ix2 y0 y1) = ix2 (⟨t.val * 512 + y0.val, by omega⟩ : Fin 16384) y1 := by
    blk_ext [e]
  show _ = G m c ((win0_8.blk t).view.emb (ix2 y0 y1))
  rw [he, out_apply]
  refine (congrArg (· + _) (res_block m c t y0 y1 ⟨t.val * 512 + y0.val, by omega⟩ rfl)).trans ?_
  refine congrArg (res _ _ _ _ _ _ + ·) (Finset.sum_congr rfl fun j _ => ?_)
  simp only [read5, read6, read7]
  congr 2
  funext k
  unfold k0_pay13
  frame_out
  rw [pay2_apply]
  congr 1
  · funext k
    exact res_block m c t y0 k _ rfl
  · funext k
    exact read4 m c t k

section Reference

variable (m' : (ℓ : Loc Cert.Reference3Ideal.nD Cert.Reference3Ideal.τ Cert.Reference3Ideal.sig) → Buf (Elt Ideal) ℓ)

/-- The reference's result at an index is the same layer of its arguments. -/
theorem reference (c : Dev Cert.Reference3Ideal.nD) (i : Fin 16384) (l : Fin 1024) : Cert.Reference3Ideal.Value.res_main_v26 m' c (ix2 i l)
    = val (m' ((c.tc).loc Cert.Reference3Ideal.main_arg0)) (m' ((c.tc).loc Cert.Reference3Ideal.main_arg1)) (m' ((c.tc).loc Cert.Reference3Ideal.main_arg2))
    (m' ((c.tc).loc Cert.Reference3Ideal.main_arg3)) (m' ((c.tc).loc Cert.Reference3Ideal.main_arg4)) (m' ((c.tc).loc Cert.Reference3Ideal.main_arg5))
    (m' ((c.tc).loc Cert.Reference3Ideal.main_arg6)) (m' ((c.tc).loc Cert.Reference3Ideal.main_arg7)) i l := by
  unfold Cert.Reference3Ideal.Value.res_main_v26
  generalize hz : addf (F := Ideal) (s := Cert.Reference3Ideal.S16384x1024) (φ := .f32) (m' ((c.tc).loc Cert.Reference3Ideal.main_arg0)) _ = z
  have hr : ∀ k, z (ix2 i k) = res (m' ((c.tc).loc Cert.Reference3Ideal.main_arg0)) (m' ((c.tc).loc Cert.Reference3Ideal.main_arg1)) (m' ((c.tc).loc Cert.Reference3Ideal.main_arg2))
    (m' ((c.tc).loc Cert.Reference3Ideal.main_arg3)) i k := by
    intro k
    rw [← hz]
    pointwise
    exact reindex _ _ (fun x => m' ((c.tc).loc Cert.Reference3Ideal.main_arg1) (ix2 i x))
      (fun x => m' ((c.tc).loc Cert.Reference3Ideal.main_arg3) (ix2 ⟨x.val, by omega⟩ k))
  pointwise
  simp only [hr]
  rfl

end Reference

/-- The kernel's frame at the bit instance. -/
theorem frame_p : Cert.quiescent_Kernel3 := fun m ρ _ => Cert.Kernel3.Gen.frame m ρ

/-- The kernel's frame at the ideal instance. -/
theorem frame_pi : Cert.quiescent_Kernel3Ideal := fun m ρ _ => Cert.Kernel3Ideal.Gen.frame m ρ

/-- The reference's frame: it runs host operations only and declares no semaphore. -/
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel's block output is the reference's. -/
theorem algebraic : Cert.algebraic_Kernel3Ideal_Reference3Ideal := by
  intro m ρ m' ρ' _ hagree
  refine ⟨fun c => G m c, ?_, ?_⟩
  · exact (θ_run Cert.Kernel3Ideal.defs _ _).mono (fun _ h c => ⟨(h c).1.trans (final m c), (h c).2⟩)
      (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    obtain ⟨h0, h1, h2, h3, h4, h5, h6, h7⟩ := hagree c
    funext i
    idx_vars i
    rw [reference m' c i0 i1, h0, h1, h2, h3, h4, h5, h6, h7]
    rfl

end Cert.Proof.Ffn
end
-- ==== Proof.Gla.lean ====
/-
  The gated linear attention over one chunk of rows (hand-written), on plain functions of extended reals: what a chunk reads
  from the state it starts with, what its rows give each other, the state it leaves, and the readout. Both programs' entries
  are brought to these.
-/
module

public import proofs.«01_k».proof.Defs
public import Idealize.ShloMosaic.Lib.Pointwise
public import Idealize.ShloMosaic.Lib.IdealHost

@[expose] public section

set_option maxRecDepth 16384

noncomputable section

open Idealize.ShloMosaic

namespace Cert.Proof.Gla

/-- The key lane `d` of the head that value column `l` belongs to. -/
def lane (l : Fin 512) (d : Fin 64) : Fin 256 := ⟨l.val / 128 * 64 + d.val, by omega⟩

/-- The value column `e` of the head that key lane `d` belongs to. -/
def col (d : Fin 256) (e : Fin 128) : Fin 512 := ⟨d.val / 64 * 128 + e.val, by omega⟩

/-- The sum of the log decays of the rows up to `t`. -/
def cum {n : Nat} (a : Fin n → EReal) (t : Fin n) : EReal := ∑ u : Fin n, if u.val ≤ t.val then a u else 0

/-- What row `t` takes from row `s`, before the value: zero for a later row. -/
def score {n : Nat} (q k a : Fin n → Fin 256 → EReal) (l : Fin 512) (t s : Fin n) : EReal :=
  ∑ d : Fin 64, if s.val ≤ t.val then
    q t (lane l d) * k s (lane l d) * Ideal.exp (cum (fun u => a u (lane l d)) t - cum (fun u => a u (lane l d)) s) else 0

/-- What row `t` reads from the state the chunk starts with. -/
def inter {n : Nat} (q a : Fin n → Fin 256 → EReal) (S : Fin 256 → Fin 128 → EReal) (t : Fin n) (l : Fin 512) : EReal :=
  ∑ d : Fin 64, q t (lane l d) * Ideal.exp (cum (fun u => a u (lane l d)) t) * S (lane l d) ⟨l.val % 128, Nat.mod_lt _ (by decide)⟩

/-- The chunk's row before the readout. -/
def raw {n : Nat} (q k : Fin n → Fin 256 → EReal) (v : Fin n → Fin 512 → EReal) (a : Fin n → Fin 256 → EReal)
    (S : Fin 256 → Fin 128 → EReal) (t : Fin n) (l : Fin 512) : EReal :=
  inter q a S t l + ∑ s : Fin n, score q k a l t s * v s l

/-- The state the chunk leaves. -/
def next {n : Nat} (k : Fin n → Fin 256 → EReal) (v : Fin n → Fin 512 → EReal) (a : Fin n → Fin 256 → EReal)
    (S : Fin 256 → Fin 128 → EReal) (d : Fin 256) (e : Fin 128) : EReal :=
  Ideal.exp (∑ u, a u d) * S d e
    + ∑ t : Fin n, k t d * Ideal.exp ((∑ u, a u d) - cum (fun u => a u d) t) * v t (col d e)

/-- The readout of a row: each head normalized over its 128 columns, scaled, and gated by `silu r`. -/
def readout (o : Fin 512 → EReal) (r : Fin 512 → EReal) (g : Fin 128 → EReal) (l : Fin 512) : EReal :=
  o l * Ideal.rsqrt (Ideal.div (∑ e : Fin 128, o ⟨l.val / 128 * 128 + e.val, by omega⟩ * o ⟨l.val / 128 * 128 + e.val, by omega⟩)
      (Ideal.ofBits .f32 0x43000000#32) + Ideal.ofBits .f32 0x358637BD#32) * g ⟨l.val % 128, Nat.mod_lt _ (by decide)⟩
    * (r l * Ideal.logistic (r l))

/-- A word test for equality, on small numbers, selects by the numbers' equality. -/
theorem select_eq {α : Type} (a b : Nat) (ha : a < 2 ^ 31) (hb : b < 2 ^ 31) (x y : α) :
    Scalar.select (IntOp.cmpi .eq (BitVec.ofNat 32 a) (BitVec.ofNat 32 b)) x y = if a = b then x else y := by
  have h : (BitVec.ofNat 32 a == BitVec.ofNat 32 b) = decide (a = b) := by
    rw [Bool.eq_iff_iff]
    simp only [beq_iff_eq, decide_eq_true_eq, ← BitVec.toNat_inj, BitVec.toNat_ofNat]
    omega
  unfold Scalar.select IntOp.cmpi
  rw [h]
  by_cases hab : a = b <;> simp [hab]

/-- The word test "at least", on small numbers, selects by the numbers' order. -/
theorem select_sge {α : Type} (a b : Nat) (ha : a < 2 ^ 31) (hb : b < 2 ^ 31) (x y : α) :
    Scalar.select (IntOp.cmpi .sge (BitVec.ofNat 32 a) (BitVec.ofNat 32 b)) x y = if b ≤ a then x else y := by
  have h : (BitVec.ofNat 32 b).sle (BitVec.ofNat 32 a) = decide (b ≤ a) := by
    rw [Bool.eq_iff_iff]
    simp only [BitVec.sle, decide_eq_true_eq, BitVec.toInt_eq_toNat_cond, BitVec.toNat_ofNat]
    rw [Nat.mod_eq_of_lt (by omega), Nat.mod_eq_of_lt (by omega), if_pos (by omega), if_pos (by omega)]
    omega
  unfold Scalar.select IntOp.cmpi
  simp only [h]
  by_cases hab : b ≤ a <;> simp [hab]

/-- A truth value widened to a word and converted is one or zero: as a factor it keeps or drops. -/
theorem sitofp_bit (φ : FTy) (b : BitVec 1) : (FloatOps.sitofp φ (b.setWidth 32) : Ideal φ) = Scalar.select b (1 : EReal) (0 : EReal) := by
  rcases (by decide +revert : b = 0#1 ∨ b = 1#1) with rfl | rfl
  · show (((BitVec.setWidth 32 (0#1)).toInt : ℝ) : EReal) = _
    simp [Scalar.select]
  · show (((BitVec.setWidth 32 (1#1)).toInt : ℝ) : EReal) = _
    simp [Scalar.select]

/-- A sum over all key lanes that keeps those of one head is the sum over that head's lanes. -/
theorem head_sum (f : Fin 256 → EReal) (h : Nat) (hh : h < 4) :
    (∑ x : Fin 256, if x.val / 64 = h then f x else 0) = ∑ d : Fin 64, f ⟨h * 64 + d.val, by omega⟩ := by
  rw [← Finset.sum_filter]
  refine Finset.sum_bij' (fun x _ => (⟨x.val % 64, Nat.mod_lt _ (by decide)⟩ : Fin 64)) (fun d _ => ⟨h * 64 + d.val, by omega⟩) ?_ ?_ ?_ ?_ ?_
  · intro x hx; exact Finset.mem_univ _
  · intro d _; rw [Finset.mem_filter]; exact ⟨Finset.mem_univ _, by show (h * 64 + d.val) / 64 = h; omega⟩
  · intro x hx; rw [Finset.mem_filter] at hx; apply Fin.ext; show h * 64 + x.val % 64 = x.val; omega
  · intro d _; apply Fin.ext; show (h * 64 + d.val) % 64 = d.val; omega
  · intro x hx; rw [Finset.mem_filter] at hx; congr 1; apply Fin.ext; show x.val = h * 64 + x.val % 64; omega

/-- The running sum as a sum over a window padded below: the window's position `w` holds row `t + w - (n - 1)`. -/
theorem cum_window {n : Nat} (a : Fin n → EReal) (t : Fin n) :
    (∑ w : Fin n, if h : n - 1 ≤ t.val + w.val ∧ t.val + w.val - (n - 1) < n then a ⟨t.val + w.val - (n - 1), h.2⟩ else 0) = cum a t := by
  unfold cum
  rw [← Finset.sum_filter, Finset.sum_dite, Finset.sum_const_zero, add_zero]
  refine Finset.sum_bij' (fun w _ => (⟨t.val + w.val.val - (n - 1), by omega⟩ : Fin n))
    (fun u hu => ⟨⟨u.val + (n - 1) - t.val, by rw [Finset.mem_filter] at hu; omega⟩, by
      rw [Finset.mem_filter] at hu ⊢; exact ⟨Finset.mem_univ _, by dsimp only; omega⟩⟩) ?_ ?_ ?_ ?_ ?_
  · intro w _; rw [Finset.mem_filter]; exact ⟨Finset.mem_univ _, by dsimp only; omega⟩
  · intro u hu; exact Finset.mem_attach _ _
  · intro w _
    have := w.2
    rw [Finset.mem_filter] at this
    apply Subtype.ext; apply Fin.ext; dsimp only; omega
  · intro u hu; rw [Finset.mem_filter] at hu; apply Fin.ext; dsimp only; omega
  · intro w _; rfl

/-- A left fold by addition is the sum. -/
theorem foldl_sum {N : Nat} (f : Fin N → EReal) (v : EReal) :
    (List.finRange N).foldl (fun r n => r + f n) v = v + ∑ n, f n := by
  have h : ∀ (L : List (Fin N)) (v : EReal), L.foldl (fun r n => r + f n) v = v + (L.map f).sum := by
    intro L
    induction L with
    | nil => intro v; simp
    | cons x xs ih => intro v; simp only [List.foldl_cons, List.map_cons, List.sum_cons]; rw [ih, add_assoc]
  rw [h, Fin.sum_univ_def]

/-- The positions of a window with one row axis are that axis's. -/
def windowPos (n : Nat) : (⟨4, ![1, 1, n, 1]⟩ : Shape).Idx ≃ Fin n where
  toFun i := i 2
  invFun u := ix4 0 0 u 0
  left_inv i := by
    rw [eq_ix4 i]
    have h0 : i 0 = (0 : Fin 1) := Subsingleton.elim (α := Fin 1) _ _
    have h1 : i 1 = (0 : Fin 1) := Subsingleton.elim (α := Fin 1) _ _
    have h3 : i 3 = (0 : Fin 1) := Subsingleton.elim (α := Fin 1) _ _
    rw [h0, h1, h3]; rfl
  right_inv u := rfl

/-- One position of the window, padding included. -/
theorem window_entry {A H n D : Nat} (x : FVec Ideal (⟨4, ![A, H, n, D]⟩ : Shape) .f32) (hr : (4 : Nat) = 4)
    (a : Fin A) (b : Fin H) (t : Fin n) (d : Fin D) (i : (⟨4, ![1, 1, n, 1]⟩ : Shape).Idx)
    {_ : Decidable (∀ c : Fin 4, (![0, 0, n - 1, 0] : Fin 4 → Nat) c ≤ ((ix4 a b t d) (Fin.cast hr c)).val * (![1, 1, 1, 1] : Fin 4 → Nat) c + (i c).val
        ∧ ((ix4 a b t d) (Fin.cast hr c)).val * (![1, 1, 1, 1] : Fin 4 → Nat) c + (i c).val - (![0, 0, n - 1, 0] : Fin 4 → Nat) c < (![A, H, n, D] : Fin 4 → Nat) c)} :
    (if hin : ∀ c : Fin 4, (![0, 0, n - 1, 0] : Fin 4 → Nat) c ≤ ((ix4 a b t d) (Fin.cast hr c)).val * (![1, 1, 1, 1] : Fin 4 → Nat) c + (i c).val
        ∧ ((ix4 a b t d) (Fin.cast hr c)).val * (![1, 1, 1, 1] : Fin 4 → Nat) c + (i c).val - (![0, 0, n - 1, 0] : Fin 4 → Nat) c < (![A, H, n, D] : Fin 4 → Nat) c
      then x (fun c => ⟨((ix4 a b t d) (Fin.cast hr c)).val * (![1, 1, 1, 1] : Fin 4 → Nat) c + (i c).val - (![0, 0, n - 1, 0] : Fin 4 → Nat) c, (hin c).2⟩)
      else (0 : EReal))
    = if h : n - 1 ≤ t.val + (windowPos n i).val ∧ t.val + (windowPos n i).val - (n - 1) < n
      then x (ix4 a b ⟨t.val + (windowPos n i).val - (n - 1), h.2⟩ d) else 0 := by
  obtain ⟨w, rfl⟩ := (windowPos n).symm.surjective i
  rw [Equiv.apply_symm_apply]
  by_cases hw : n - 1 ≤ t.val + w.val ∧ t.val + w.val - (n - 1) < n
  · rw [dif_pos hw, dif_pos ?_]
    · congr 1
      funext i
      match i with
      | ⟨0, _⟩ => apply Fin.ext; show a.val * 1 + 0 - 0 = a.val; omega
      | ⟨1, _⟩ => apply Fin.ext; show b.val * 1 + 0 - 0 = b.val; omega
      | ⟨2, _⟩ => apply Fin.ext; show t.val * 1 + w.val - (n - 1) = t.val + w.val - (n - 1); omega
      | ⟨3, _⟩ => apply Fin.ext; show d.val * 1 + 0 - 0 = d.val; omega
    · intro i
      match i with
      | ⟨0, _⟩ => show 0 ≤ a.val * 1 + 0 ∧ a.val * 1 + 0 - 0 < A; omega
      | ⟨1, _⟩ => show 0 ≤ b.val * 1 + 0 ∧ b.val * 1 + 0 - 0 < H; omega
      | ⟨2, _⟩ => show n - 1 ≤ t.val * 1 + w.val ∧ t.val * 1 + w.val - (n - 1) < n; omega
      | ⟨3, _⟩ => show 0 ≤ d.val * 1 + 0 ∧ d.val * 1 + 0 - 0 < D; omega
  · rw [dif_neg hw, dif_neg fun hall => hw ?_]
    have h2 := hall 2
    change n - 1 ≤ t.val * 1 + w.val ∧ t.val * 1 + w.val - (n - 1) < n at h2
    omega

/-- The running sum along the row axis, as the reference writes it, at an index. -/
theorem cumsum_apply {A H n D n1 : Nat} (hn : n1 = n - 1) (x : FVec Ideal (⟨4, ![A, H, n, D]⟩ : Shape) .f32) (init : FVec Ideal (⟨0, ![]⟩ : Shape) .f32)
    (hi : ∀ i, init i = (0 : EReal))
    (h : (⟨4, ![A, H, n, D]⟩ : Shape).ReduceWindows ![1, 1, n, 1] ![1, 1, 1, 1] ![0, 0, n1, 0] ![0, 0, 0, 0] (⟨4, ![A, H, n, D]⟩ : Shape))
    (hu : 0 < (⟨0, ![]⟩ : Shape).numel) (a : Fin A) (b : Fin H) (t : Fin n) (d : Fin D) :
    Host.reduceWindowAdd (F := Ideal) ![1, 1, n, 1] ![1, 1, 1, 1] ![0, 0, n1, 0] ![0, 0, 0, 0] x init h hu (ix4 a b t d)
      = cum (fun u => x (ix4 a b u d)) t := by
  subst hn
  rw [← cum_window]
  show Host.reduceWindow (s := ⟨4, ![A, H, n, D]⟩) (t := ⟨4, ![A, H, n, D]⟩) (u := ⟨0, ![]⟩) (fun r y : EReal => r + y) ![1, 1, n, 1] ![1, 1, 1, 1]
    ![0, 0, n - 1, 0] ![0, 0, 0, 0] x (fun _ => init (Shape.Idx.first hu)) h (by decide) (ix4 a b t d) = _
  unfold Host.reduceWindow
  refine (foldl_sum _ _).trans ?_
  dsimp only
  rw [hi, zero_add]
  refine (Finset.sum_congr rfl fun p _ => ?_).trans (Equiv.sum_comp ((⟨4, ![1, 1, n, 1]⟩ : Shape).rowMajor.symm.trans (windowPos n))
    (fun w : Fin n => if h : n - 1 ≤ t.val + w.val ∧ t.val + w.val - (n - 1) < n then x (ix4 a b ⟨t.val + w.val - (n - 1), h.2⟩ d) else 0))
  simp only [Equiv.trans_apply]
  exact window_entry x h.1.symm a b t d _

/-- Four additions of which the head number keeps one. -/
theorem four_state (s : EReal) (f : Fin 512 → EReal) (h : Nat) (hh : h < 4) (e : Fin 128) :
    s + (if h = 0 then f ⟨e.val, by omega⟩ else 0) + (if h = 1 then f ⟨128 + e.val, by omega⟩ else 0)
      + (if h = 2 then f ⟨256 + e.val, by omega⟩ else 0) + (if h = 3 then f ⟨384 + e.val, by omega⟩ else 0)
    = s + f ⟨h * 128 + e.val, by omega⟩ := by
  have hc : h = 0 ∨ h = 1 ∨ h = 2 ∨ h = 3 := by omega
  rcases hc with rfl | rfl | rfl | rfl <;> simp

/-- The readout written head by head, the heads side by side. -/
theorem heads_readout (y r : Fin 512 → EReal) (g : Fin 128 → EReal) (l : Fin 512) :
    (if h : l.val < 128 then
        y l * Ideal.rsqrt (Ideal.div (∑ x : Fin 128, y ⟨x.val, by omega⟩ * y ⟨x.val, by omega⟩)
          (Ideal.ofBits .f32 1124073472#32) + Ideal.ofBits .f32 897988541#32) * g ⟨l.val, h⟩
      else if h : l.val - 128 < 128 then
        y ⟨128 + (l.val - 128), by omega⟩ * Ideal.rsqrt (Ideal.div (∑ x : Fin 128, y ⟨128 + x.val, by omega⟩ * y ⟨128 + x.val, by omega⟩)
          (Ideal.ofBits .f32 1124073472#32) + Ideal.ofBits .f32 897988541#32) * g ⟨l.val - 128, h⟩
      else if h : l.val - 128 - 128 < 128 then
        y ⟨256 + (l.val - 128 - 128), by omega⟩ * Ideal.rsqrt (Ideal.div (∑ x : Fin 128, y ⟨256 + x.val, by omega⟩ * y ⟨256 + x.val, by omega⟩)
          (Ideal.ofBits .f32 1124073472#32) + Ideal.ofBits .f32 897988541#32) * g ⟨l.val - 128 - 128, h⟩
      else
        y ⟨384 + (l.val - 128 - 128 - 128), by omega⟩ * Ideal.rsqrt (Ideal.div (∑ x : Fin 128, y ⟨384 + x.val, by omega⟩ * y ⟨384 + x.val, by omega⟩)
          (Ideal.ofBits .f32 1124073472#32) + Ideal.ofBits .f32 897988541#32) * g ⟨l.val - 128 - 128 - 128, by omega⟩)
      * (r l * Ideal.logistic (r l)) = readout y r g l := by
  unfold readout
  have hc : l.val / 128 = 0 ∨ l.val / 128 = 1 ∨ l.val / 128 = 2 ∨ l.val / 128 = 3 := by omega
  rcases hc with hc | hc | hc | hc
  · rw [dif_pos (by omega)]
    simp only [hc, show l.val % 128 = l.val by omega, Nat.zero_mul, Nat.zero_add]
  · rw [dif_neg (by omega), dif_pos (by omega)]
    simp only [hc, show l.val % 128 = l.val - 128 by omega, show 128 + (l.val - 128) = l.val by omega, Nat.one_mul]
  · rw [dif_neg (by omega), dif_neg (by omega), dif_pos (by omega)]
    simp only [hc, show l.val % 128 = l.val - 128 - 128 by omega, show 256 + (l.val - 128 - 128) = l.val by omega, show 2 * 128 = 256 from rfl]
  · rw [dif_neg (by omega), dif_neg (by omega), dif_neg (by omega)]
    simp only [hc, show l.val % 128 = l.val - 128 - 128 - 128 by omega, show 384 + (l.val - 128 - 128 - 128) = l.val by omega, show 3 * 128 = 384 from rfl]

/-- The running sum at the last row is the whole sum. -/
theorem cum_last {n : Nat} (a : Fin n → EReal) (t : Fin n) (h : t.val + 1 = n) : cum a t = ∑ u, a u := by
  unfold cum
  exact Finset.sum_congr rfl fun u _ => if_pos (by omega)

/-- With log decays that are not positive, the running sum does not rise. -/
theorem cum_anti {n : Nat} (a : Fin n → EReal) (ha : ∀ u, a u ≤ 0) (s t : Fin n) (h : s.val ≤ t.val) : cum a t ≤ cum a s := by
  unfold cum
  refine Finset.sum_le_sum fun u _ => ?_
  by_cases h1 : u.val ≤ s.val
  · rw [if_pos h1, if_pos (by omega)]
  · rw [if_neg h1]
    split
    · exact ha u
    · exact le_refl _

/-- The difference of two running sums, the later one first, is not positive: the kernel's cap at zero does nothing. -/
theorem min_sub {n : Nat} (a : Fin n → EReal) (ha : ∀ u, a u ≤ 0) (s t : Fin n) (h : s.val ≤ t.val) :
    min (cum a t - cum a s) 0 = cum a t - cum a s := by
  refine min_eq_left ?_
  have h1 := cum_anti a ha s t h
  calc cum a t - cum a s ≤ cum a s - cum a s := EReal.sub_le_sub h1 (le_refl _)
    _ ≤ 0 := EReal.sub_self_le_zero

end Cert.Proof.Gla
end
-- ==== Proof.Sample.lean ====
module

public import proofs.«01_k».proof.Defs
public import proofs.«01_k».proof.Proof.Gla
public import proofs.«01_k».proof.Proof.Gen.Kernel2.Frame
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent
public import Idealize.ShloMosaic.Lib.Routing.Ops

@[expose] public section

set_option maxRecDepth 16384

noncomputable section

open Idealize.ShloMosaic Idealize.ShloMosaic.TcCoe Idealize.SL.Sem
open Idealize.ShloMosaic.Pipeline (Dat)

namespace Cert.Proof.Sample

open Cert.Kernel2Ideal Cert.Kernel2Ideal.Gen

/-- A lane's head. -/
theorem lane (l : Fin 256) : k0_pay8 (iota Kind.tc S1x256 32 [1] iota_S1x256_d1_w32) k0_pay5 k0_pay6 k0_pay7 (ix2 (0 : Fin 1) l)
    = BitVec.ofNat 32 (l.val / 64) :=
  (by decide +kernel : ∀ l : Fin 256, k0_pay8 (iota Kind.tc S1x256 32 [1] iota_S1x256_d1_w32) k0_pay5 k0_pay6 k0_pay7 (ix2 (0 : Fin 1) l)
    = BitVec.ofNat 32 (l.val / 64)) l

/-- A state row's head. -/
theorem row (d : Fin 256) (e : Fin 128) : k0_pay9 (ix2 d e) = BitVec.ofNat 32 (d.val / 64) := by
  have h : k0_pay9 (ix2 d e) = k0_pay9 (ix2 d 0) := by pointwise [k0_pay9]
  rw [h]
  exact (by decide +kernel : ∀ d : Fin 256, k0_pay9 (ix2 d 0) = BitVec.ofNat 32 (d.val / 64)) d

/-- Whether a lane and a column belong to the same head, as a number. -/
theorem seg (d : Fin 256) (e : Fin 512) :
  (k0_pay26 (k0_pay22 (iota Kind.tc S256x512 32 [0] iota_S256x512_d0_w32) (64#32) k0_pay21) k0_pay23 k0_pay24
            k0_pay25 : FVec Ideal S256x512 .bf16) (ix2 d e) = if d.val / 64 = e.val / 128 then 1 else 0 := by
  pointwise [k0_pay26]
  have h1 : k0_pay22 (iota Kind.tc S256x512 32 [0] iota_S256x512_d0_w32) (64#32) k0_pay21 (ix2 d e) = BitVec.ofNat 32 (d.val / 64) := by
    have h : k0_pay22 (iota Kind.tc S256x512 32 [0] iota_S256x512_d0_w32) (64#32) k0_pay21 (ix2 d e)
        = k0_pay22 (iota Kind.tc S256x512 32 [0] iota_S256x512_d0_w32) (64#32) k0_pay21 (ix2 d 0) := by pointwise [k0_pay22, k0_pay21]
    rw [h]
    exact (by decide +kernel : ∀ d : Fin 256, k0_pay22 (iota Kind.tc S256x512 32 [0] iota_S256x512_d0_w32) (64#32) k0_pay21 (ix2 d 0)
      = BitVec.ofNat 32 (d.val / 64)) d
  have h2 : Scalar.select (k0_pay24 (ix2 d e)) (k0_pay25 (ix2 d e)) (k0_pay23 (ix2 d e)) = BitVec.ofNat 32 (e.val / 128) := by
    have h : Scalar.select (k0_pay24 (ix2 d e)) (k0_pay25 (ix2 d e)) (k0_pay23 (ix2 d e))
        = Scalar.select (k0_pay24 (ix2 0 e)) (k0_pay25 (ix2 0 e)) (k0_pay23 (ix2 0 e)) := by pointwise [k0_pay24, k0_pay25, k0_pay23]
    rw [h]
    exact (by decide +kernel : ∀ e : Fin 512, Scalar.select (k0_pay24 (ix2 0 e)) (k0_pay25 (ix2 0 e)) (k0_pay23 (ix2 0 e))
      = BitVec.ofNat 32 (e.val / 128)) e
  rw [h1, h2, Gla.sitofp_bit, Gla.select_eq _ _ (by omega) (by omega)]

/-- The running sum of the log decays. -/
theorem pay3_apply (la : Vec Ideal S8x256 .f32) (t : Fin 8) (l : Fin 256) :
   k0_pay3 la (ix2 t l) = Gla.cum (fun u => la (ix2 u l)) t := by
  pointwise [k0_pay3, Gla.cum]
  refine Finset.sum_congr rfl fun u _ => ?_
  rw [Gla.sitofp_bit, Gla.select_sge _ _ (by omega) (by omega), ite_mul, one_mul, zero_mul]

/-- The carried state times the chunk's whole decay. -/
theorem pay13_apply (la : Vec Ideal S8x256 .f32) (s : Vec Ideal S256x128 .f32) (d : Fin 256) (e : Fin 128) :
   k0_pay13 la s (ix2 d e) = Ideal.exp (∑ u : Fin 8, la (ix2 u d)) * s (ix2 d e) := by
  pointwise [k0_pay13]

/-- A key times its decay to the end of the chunk. -/
theorem pay12_apply (k : Vec Ideal S8x256 .f32) (b : Vec Ideal S8x256 .f32) (t : Fin 8) (d : Fin 256)  :
   k0_pay12 k b (ix2 t d) = k (ix2 t d) * Ideal.exp (b (ix2 7 d) - b (ix2 t d)) := by
  pointwise [k0_pay12]

/-- The next state: the decayed state plus the keys times the values of the same head. -/
theorem state_apply (v : Vec Ideal S8x512 .f32) (ke : FVec Ideal S8x256 .bf16) (s : FVec Ideal S256x128 .f32) (d : Fin 256) (e : Fin 128)  :
   k0_pay20 v k0_pay9 ke (k0_pay16 v k0_pay9 ke s) (ix2 d e) = s (ix2 d e) + ∑ t, ke (ix2 t d) * v (ix2 t (Gla.col d e)) := by
  have h9 := row d e
  generalize k0_pay9 = R at *
  pointwise [k0_pay20, k0_pay16]
  rw [h9, Gla.select_eq _ _ (by omega) (by omega), Gla.select_eq _ _ (by omega) (by omega),
    Gla.select_eq _ _ (by omega) (by omega), Gla.select_eq _ _ (by omega) (by omega)]
  exact Gla.four_state (s (ix2 d e)) (fun l => ∑ x, ke (ix2 x d) * v (ix2 x l)) (d.val / 64) (by omega) e

/-- The product of a head's queries, zero elsewhere, and the state is the sum over the head's rows. -/
theorem masked (S : FVec Ideal S256x128 .bf16) (q : FVec Ideal S8x256 .f32) (t : Fin 8) (e : Fin 128) (h : Nat) (hh : h < 4) :
    (∑ x : Fin 256, Scalar.select (IntOp.cmpi .eq (k0_pay8 (iota Kind.tc S1x256 32 [1] iota_S1x256_d1_w32) k0_pay5 k0_pay6 k0_pay7 (ix2 (0 : Fin 1) x))
      (BitVec.ofNat 32 h)) (q (ix2 t x) * S (ix2 x e)) (0 : EReal))
    = ∑ d : Fin 64, q (ix2 t ⟨h * 64 + d.val, by omega⟩) * S (ix2 ⟨h * 64 + d.val, by omega⟩ e) := by
  rw [← Gla.head_sum (fun x => q (ix2 t x) * S (ix2 x e)) h hh]
  refine Finset.sum_congr rfl fun x _ => ?_
  rw [lane, Gla.select_eq _ _ (by omega) (by omega)]

/-- A block of columns of what the rows read from the state. -/
theorem inter_apply (S : FVec Ideal S256x128 .bf16) (q : FVec Ideal S8x256 .f32) (t : Fin 8) (e : Fin 128)  :
   k0_pay14 (k0_pay8 (iota Kind.tc S1x256 32 [1] iota_S1x256_d1_w32) k0_pay5 k0_pay6 k0_pay7) S q 0#32 (ix2 t e)
     = ∑ d : Fin 64, q (ix2 t ⟨0 * 64 + d.val, by omega⟩) * S (ix2 ⟨0 * 64 + d.val, by omega⟩ e)
   ∧ k0_pay15 (k0_pay8 (iota Kind.tc S1x256 32 [1] iota_S1x256_d1_w32) k0_pay5 k0_pay6 k0_pay7) S q (ix2 t e)
     = ∑ d : Fin 64, q (ix2 t ⟨1 * 64 + d.val, by omega⟩) * S (ix2 ⟨1 * 64 + d.val, by omega⟩ e)
   ∧ k0_pay18 S q (FloatOps.ofBits .f32 0#32) (k0_pay17 (k0_pay8 (iota Kind.tc S1x256 32 [1] iota_S1x256_d1_w32) k0_pay5 k0_pay6 k0_pay7)) (ix2 t e)
     = ∑ d : Fin 64, q (ix2 t ⟨2 * 64 + d.val, by omega⟩) * S (ix2 ⟨2 * 64 + d.val, by omega⟩ e)
   ∧ k0_pay19 (k0_pay8 (iota Kind.tc S1x256 32 [1] iota_S1x256_d1_w32) k0_pay5 k0_pay6 k0_pay7) S q (ix2 t e)
     = ∑ d : Fin 64, q (ix2 t ⟨3 * 64 + d.val, by omega⟩) * S (ix2 ⟨3 * 64 + d.val, by omega⟩ e) := by
  refine ⟨?_, ?_, ?_, ?_⟩
  · rw [← masked S q t e 0 (by decide)]; pointwise [k0_pay14]
  · rw [← masked S q t e 1 (by decide)]; pointwise [k0_pay15]
  · rw [← masked S q t e 2 (by decide)]; pointwise [k0_pay17, k0_pay18]
  · rw [← masked S q t e 3 (by decide)]; pointwise [k0_pay19]

/-- Eight blocks of eight rows, one under another: row `8 s + t` is row `t` of block `s`. -/
theorem stack (f0 f1 f2 f3 f4 f5 f6 f7 : Fin 8 → EReal) (s t : Fin 8) :
    (if h : s.val * 8 + t.val < 8 then f0 ⟨s.val * 8 + t.val, h⟩ else
     if h : s.val * 8 + t.val - 8 < 8 then f1 ⟨s.val * 8 + t.val - 8, h⟩ else
     if h : s.val * 8 + t.val - 8 - 8 < 8 then f2 ⟨s.val * 8 + t.val - 8 - 8, h⟩ else
     if h : s.val * 8 + t.val - 8 - 8 - 8 < 8 then f3 ⟨s.val * 8 + t.val - 8 - 8 - 8, h⟩ else
     if h : s.val * 8 + t.val - 8 - 8 - 8 - 8 < 8 then f4 ⟨s.val * 8 + t.val - 8 - 8 - 8 - 8, h⟩ else
     if h : s.val * 8 + t.val - 8 - 8 - 8 - 8 - 8 < 8 then f5 ⟨s.val * 8 + t.val - 8 - 8 - 8 - 8 - 8, h⟩ else
     if h : s.val * 8 + t.val - 8 - 8 - 8 - 8 - 8 - 8 < 8 then f6 ⟨s.val * 8 + t.val - 8 - 8 - 8 - 8 - 8 - 8, h⟩ else
     f7 ⟨s.val * 8 + t.val - 8 - 8 - 8 - 8 - 8 - 8 - 8, by omega⟩) = (![f0, f1, f2, f3, f4, f5, f6, f7] s) t := by
  fin_cases s <;> fin_cases t <;> rfl

/-- The products of row `t` with row `s`, lane by lane, summed over the lanes of the column's head. -/
theorem prods_apply (sg : FVec Ideal S256x512 .bf16) (q k : Vec Ideal S8x256 .f32) (b : Vec Ideal S8x256 .f32) (s t : Fin 8) (l : Fin 512)  :
   k0_pay35 sg (iota Kind.tc S8x256 32 [0] iota_S8x256_d0_w32) q k b (k0_pay28 q k b) (k0_pay29 q k b)
          (k0_pay30 (iota Kind.tc S8x256 32 [0] iota_S8x256_d0_w32) q k b)
          (k0_pay31 (iota Kind.tc S8x256 32 [0] iota_S8x256_d0_w32) q k b)
          (k0_pay32 (iota Kind.tc S8x256 32 [0] iota_S8x256_d0_w32) q k b)
          (k0_pay33 b) k0_pay34 (ix2 ⟨s.val * 8 + t.val, by omega⟩ l)
    = ∑ x : Fin 256, (if s.val ≤ t.val then q (ix2 t x) * k (ix2 s x) * Ideal.exp (min (b (ix2 t x) - b (ix2 s x)) 0) else 0) * sg (ix2 x l) := by
  pointwise [k0_pay35]
  refine Finset.sum_congr rfl fun x _ => congrArg (fun z : EReal => z * sg (ix2 x l)) ?_
  refine (stack (fun j => k0_pay28 q k b (ix2 j x)) (fun j => k0_pay29 q k b (ix2 j x))
    (fun j => k0_pay30 (iota Kind.tc S8x256 32 [0] iota_S8x256_d0_w32) q k b (ix2 j x))
    (fun j => k0_pay31 (iota Kind.tc S8x256 32 [0] iota_S8x256_d0_w32) q k b (ix2 j x))
    (fun j => k0_pay32 (iota Kind.tc S8x256 32 [0] iota_S8x256_d0_w32) q k b (ix2 j x))
    (fun j => Scalar.select (IntOp.cmpi .sge (BitVec.ofNat 32 j.val) (k0_pay34 (ix2 j x))) (q (ix2 j x) * k (ix2 5 x) * k0_pay33 b (ix2 j x)) 0)
    (fun j => Scalar.select (IntOp.cmpi .sge (BitVec.ofNat 32 j.val) 6#32) (q (ix2 j x) * k (ix2 6 x) * Ideal.exp (min (b (ix2 j x) - b (ix2 6 x)) 0)) 0)
    (fun j => Scalar.select (IntOp.cmpi .sge (BitVec.ofNat 32 j.val) 7#32) (q (ix2 j x) * k (ix2 7 x) * Ideal.exp (min (b (ix2 j x) - b (ix2 7 x)) 0)) 0)
    s t).trans ?_
  rw [← Gla.select_sge t.val s.val (by omega) (by omega)]
  fin_cases s
  · show k0_pay28 q k b (ix2 t x) = _; pointwise [k0_pay28]
  · show k0_pay29 q k b (ix2 t x) = _; pointwise [k0_pay29]
  · show k0_pay30 _ q k b (ix2 t x) = _; pointwise [k0_pay30]
  · show k0_pay31 _ q k b (ix2 t x) = _; pointwise [k0_pay31]
  · show k0_pay32 _ q k b (ix2 t x) = _; pointwise [k0_pay32]
  · show Scalar.select (IntOp.cmpi .sge (BitVec.ofNat 32 t.val) (k0_pay34 (ix2 t x))) (q (ix2 t x) * k (ix2 5 x) * k0_pay33 b (ix2 t x)) 0 = _
    pointwise [k0_pay33, k0_pay34]
  · rfl
  · rfl

/-- The rows before the norm: the state's part plus one term per earlier token. -/
theorem total_apply (v : Vec Ideal S8x512 .f32) (sg : FVec Ideal S256x512 .bf16) (I : IVec S8x256 32) (q k b : Vec Ideal S8x256 .f32) (x : FVec Ideal S8x512 .f32) (a1 a2 a3 a4 a5 a6 a7) (t : Fin 8) (l : Fin 512) :
   k0_pay38 v (k0_pay35 sg I q k b a1 a2 a3 a4 a5 a6 a7) (k0_pay36 sg I q k v b x a1 a2 a3 a4 a5 a6 a7) (k0_pay37 sg I q k v b a1 a2 a3 a4 a5 a6 a7) (ix2 t l)
    = x (ix2 t l) + ∑ s : Fin 8, k0_pay35 sg I q k b a1 a2 a3 a4 a5 a6 a7 (ix2 ⟨s.val * 8 + t.val, by omega⟩ l) * v (ix2 s l) := by
  pointwise [k0_pay38, k0_pay36, k0_pay37]
  rw [Fin.sum_univ_eight]
  simp only [← add_assoc]
  have e : ((0 : Fin 8).val * 8 + t.val) = t.val := by simp
  simp only [e]
  rfl

/-- The normed and gated row. -/
theorem out_apply (v r : Vec Ideal S8x512 .f32) (p x z : FVec Ideal _ .f32) (g : Vec Ideal S1x128 .f32) (t : Fin 8) (l : Fin 512) :
   k0_pay42 (k0_pay38 v p x z) r (k0_pay39 v p x z g) (k0_pay40 v p x z) (k0_pay41 v p x z) g g g (ix2 t l)
    = Gla.readout (fun l => k0_pay38 v p x z (ix2 t l)) (fun l => r (ix2 t l)) (fun e => g (ix2 0 e)) l := by
  pointwise [k0_pay39, k0_pay40, k0_pay41, k0_pay42]
  exact Gla.heads_readout (fun l => k0_pay38 v p x z (ix2 t l)) (fun l => r (ix2 t l)) (fun e => g (ix2 0 e)) l

/-- What the rows read from the state, as a vector. -/
def stateRead (S : FVec Ideal S256x128 .bf16) (q : FVec Ideal S8x256 .f32) : S8x512.Idx → EReal := fun i =>
  ∑ d : Fin 64, q (ix2 (i 0) (Gla.lane (i 1) d)) * S (ix2 (Gla.lane (i 1) d) ⟨(i 1).val % 128, Nat.mod_lt _ (by decide)⟩)

/-- Four blocks of 128 columns stored side by side and read back as one row. -/
theorem columns_apply (G : S8x512.Idx → EReal) (w0 w1 w2 w3 : S8x128.Idx → EReal) (t : Fin 8) (l : Fin 512) (i3 i2 i1 i0 iw)
    (h0 : ∀ t e, w0 (ix2 t e) = G (ix2 t ⟨0 * 128 + e.val, by omega⟩)) (h1 : ∀ t e, w1 (ix2 t e) = G (ix2 t ⟨1 * 128 + e.val, by omega⟩))
    (h2 : ∀ t e, w2 (ix2 t e) = G (ix2 t ⟨2 * 128 + e.val, by omega⟩)) (h3 : ∀ t e, w3 (ix2 t e) = G (ix2 t ⟨3 * 128 + e.val, by omega⟩)) :
   (View.whole (sig := sig) (κ := .tc) cc0_scratch2).readCov (Val := Elt Ideal)
      [⟨Rect.unit (s := S8x512) ![0, 384] S8x128.size i3, w3⟩, ⟨Rect.unit (s := S8x512) ![0, 256] S8x128.size i2, w2⟩,
       ⟨Rect.unit (s := S8x512) ![0, 128] S8x128.size i1, w1⟩, ⟨Rect.unit (s := S8x512) ![0, 0] S8x128.size i0, w0⟩]
      (Rect.unit (s := S8x512) ![0, 0] S8x512.size iw).toLoadRect (ix2 t l) = G (ix2 t l) := by
  rw [View.readCov_eq_canon']
  have hy : (Rect.unit (s := S8x512) ![0, 0] S8x512.size iw).toLoadRect.idx (ix2 t l) = ix2 t l := by
    funext a
    match a with
    | ⟨0, _⟩ => apply Fin.ext; show 0 + 1 * t.val = t.val; omega
    | ⟨1, _⟩ => apply Fin.ext; show 0 + 1 * l.val = l.val; omega
  dsimp only
  rw [hy]
  have he : ∀ (h : Nat) (hh : h < 4) (x0 : Fin 8) (x1 : Fin 128) (inb : ∀ a, (![0, h * 128] : Fin 2 → Nat) a + S8x128.size a ≤ S8x512.size a),
      (Rect.unit (s := S8x512) ![0, h * 128] S8x128.size inb).emb (ix2 x0 x1) = ix2 x0 (⟨h * 128 + x1.val, by omega⟩ : Fin 512) := by
    intro h hh x0 x1 inb
    blk_ext
  refine View.canon_apply_of_pieces (Val := Elt Ideal) (S := S8x512) (e := .f32) G _ ?_ _ ?_
  · intro p hp
    simp only [List.mem_cons, List.not_mem_nil, or_false] at hp
    rcases hp with rfl | rfl | rfl | rfl
    · intro x; idx_vars x; exact (h3 x0 x1).trans (congrArg G (he 3 (by decide) x0 x1 i3).symm)
    · intro x; idx_vars x; exact (h2 x0 x1).trans (congrArg G (he 2 (by decide) x0 x1 i2).symm)
    · intro x; idx_vars x; exact (h1 x0 x1).trans (congrArg G (he 1 (by decide) x0 x1 i1).symm)
    · intro x; idx_vars x; exact (h0 x0 x1).trans (congrArg G (he 0 (by decide) x0 x1 i0).symm)
  · have hm : ∀ (o : Nat) (inb : ∀ a, (![0, o] : Fin 2 → Nat) a + S8x128.size a ≤ S8x512.size a), o ≤ l.val → l.val < o + 128 →
        ix2 t l ∈ (Rect.unit (s := S8x512) ![0, o] S8x128.size inb).set := by
      intro o inb h1 h2
      rw [Rect.mem_set_unit]
      exact Fin.forall_fin_two.mpr ⟨⟨Nat.zero_le _, by show t.val < 0 + 8; omega⟩, h1, h2⟩
    simp only [List.mem_cons, List.not_mem_nil, or_false, exists_eq_or_imp, exists_eq_left]
    by_cases h3 : 384 ≤ l.val
    · exact Or.inl (hm 384 i3 h3 (by omega))
    by_cases h2 : 256 ≤ l.val
    · exact Or.inr (Or.inl (hm 256 i2 h2 (by omega)))
    by_cases h1 : 128 ≤ l.val
    · exact Or.inr (Or.inr (Or.inl (hm 128 i1 h1 (by omega))))
    · exact Or.inr (Or.inr (Or.inr (hm 0 i0 (by omega) (by omega))))

/-- The state's products with a row at column `128 h + e`. -/
theorem stateRead_at (S : FVec Ideal S256x128 .bf16) (q : FVec Ideal S8x256 .f32) (t : Fin 8) (e : Fin 128) (h : Nat) (hh : h < 4) :
    stateRead S q (ix2 t ⟨h * 128 + e.val, by omega⟩) = ∑ d : Fin 64, q (ix2 t ⟨h * 64 + d.val, by omega⟩) * S (ix2 ⟨h * 64 + d.val, by omega⟩ e) := by
  unfold stateRead
  refine Finset.sum_congr rfl fun d _ => ?_
  have e1 : Gla.lane (⟨h * 128 + e.val, by omega⟩ : Fin 512) d = (⟨h * 64 + d.val, by omega⟩ : Fin 256) :=
    Fin.ext (by show (h * 128 + e.val) / 128 * 64 + d.val = h * 64 + d.val; omega)
  have e2 : (⟨(h * 128 + e.val) % 128, Nat.mod_lt _ (by decide)⟩ : Fin 128) = e := Fin.ext (by show (h * 128 + e.val) % 128 = e.val; omega)
  show q (ix2 t (Gla.lane ⟨h * 128 + e.val, _⟩ d)) * S (ix2 (Gla.lane ⟨h * 128 + e.val, _⟩ d) ⟨(h * 128 + e.val) % 128, _⟩) = _
  rw [e1, e2]

/-- The state's products with a row, head by head in the scratch, read back as one row. -/
theorem scratch_apply (S : FVec Ideal S256x128 .bf16) (q : FVec Ideal S8x256 .f32) (t : Fin 8) (l : Fin 512) (i3 i2 i1 i0 iw)  :
   (View.whole (sig := sig) (κ := .tc) cc0_scratch2).readCov (Val := Elt Ideal)
      [⟨Rect.unit (s := S8x512) ![0, 384] S8x128.size i3, k0_pay19 (k0_pay8 (iota Kind.tc S1x256 32 [1] iota_S1x256_d1_w32) k0_pay5 k0_pay6 k0_pay7) S q⟩,
       ⟨Rect.unit (s := S8x512) ![0, 256] S8x128.size i2, k0_pay18 S q (FloatOps.ofBits .f32 0#32) (k0_pay17 (k0_pay8 (iota Kind.tc S1x256 32 [1] iota_S1x256_d1_w32) k0_pay5 k0_pay6 k0_pay7))⟩,
       ⟨Rect.unit (s := S8x512) ![0, 128] S8x128.size i1, k0_pay15 (k0_pay8 (iota Kind.tc S1x256 32 [1] iota_S1x256_d1_w32) k0_pay5 k0_pay6 k0_pay7) S q⟩,
       ⟨Rect.unit (s := S8x512) ![0, 0] S8x128.size i0, k0_pay14 (k0_pay8 (iota Kind.tc S1x256 32 [1] iota_S1x256_d1_w32) k0_pay5 k0_pay6 k0_pay7) S q 0#32⟩]
      (Rect.unit (s := S8x512) ![0, 0] S8x512.size iw).toLoadRect (ix2 t l) = stateRead S q (ix2 t l) :=
  columns_apply (stateRead S q) _ _ _ _ t l i3 i2 i1 i0 iw
    (fun t e => ((inter_apply S q t e).1).trans (stateRead_at S q t e 0 (by decide)).symm)
    (fun t e => ((inter_apply S q t e).2.1).trans (stateRead_at S q t e 1 (by decide)).symm)
    (fun t e => ((inter_apply S q t e).2.2.1).trans (stateRead_at S q t e 2 (by decide)).symm)
    (fun t e => ((inter_apply S q t e).2.2.2).trans (stateRead_at S q t e 3 (by decide)).symm)

/-- The row read back from the scratch is what the layer reads from the state. -/
theorem inter_read (q la : Vec Ideal S8x256 .f32) (s0 : Vec Ideal S1x256x128 .f32) (u : Fin 8) (l : Fin 512) :
    k0_pay27 ((View.whole (sig := sig) (κ := .tc) cc0_scratch2).readCov (Val := Elt Ideal)
      [⟨Rect.unit (s := S8x512) ![0, 384] S8x128.size inb_S8x512_S8x128_0_384, k0_pay19 (k0_pay8 (iota Kind.tc S1x256 32 [1] iota_S1x256_d1_w32) k0_pay5 k0_pay6 k0_pay7) (k0_pay10 (k0_pay2 s0)) (k0_pay11 q (k0_pay3 la))⟩,
       ⟨Rect.unit (s := S8x512) ![0, 256] S8x128.size inb_S8x512_S8x128_0_256, k0_pay18 (k0_pay10 (k0_pay2 s0)) (k0_pay11 q (k0_pay3 la)) (FloatOps.ofBits .f32 0#32) (k0_pay17 (k0_pay8 (iota Kind.tc S1x256 32 [1] iota_S1x256_d1_w32) k0_pay5 k0_pay6 k0_pay7))⟩,
       ⟨Rect.unit (s := S8x512) ![0, 128] S8x128.size inb_S8x512_S8x128_0_128, k0_pay15 (k0_pay8 (iota Kind.tc S1x256 32 [1] iota_S1x256_d1_w32) k0_pay5 k0_pay6 k0_pay7) (k0_pay10 (k0_pay2 s0)) (k0_pay11 q (k0_pay3 la))⟩,
       ⟨Rect.unit (s := S8x512) ![0, 0] S8x128.size inb_S8x512_S8x128_0_0, k0_pay14 (k0_pay8 (iota Kind.tc S1x256 32 [1] iota_S1x256_d1_w32) k0_pay5 k0_pay6 k0_pay7) (k0_pay10 (k0_pay2 s0)) (k0_pay11 q (k0_pay3 la)) 0#32⟩]
      (Rect.unit (s := S8x512) ![0, 0] S8x512.size inb_S8x512_S8x512_0_0).toLoadRect) (ix2 u l)
      = Gla.inter (fun u d => q (ix2 u d)) (fun u d => la (ix2 u d)) (fun d e => s0 (ix3 0 d e)) u l := by
  refine Eq.trans ?_ ((scratch_apply (k0_pay10 (k0_pay2 s0)) (k0_pay11 q (k0_pay3 la)) u l
    inb_S8x512_S8x128_0_384 inb_S8x512_S8x128_0_256 inb_S8x512_S8x128_0_128 inb_S8x512_S8x128_0_0 inb_S8x512_S8x512_0_0).trans ?_)
  · have h27 : ∀ x : Vec Ideal S8x512 .f32, k0_pay27 x (ix2 u l) = x (ix2 u l) := by
      intro x
      pointwise [k0_pay27]
      have hc : l.val / 128 = 0 ∨ l.val / 128 = 1 ∨ l.val / 128 = 2 ∨ l.val / 128 = 3 := by omega
      rcases hc with hc | hc | hc | hc
      · rw [dif_pos (by omega)]
      · rw [dif_neg (by omega), dif_pos (by omega)]; simp only [show 128 + (l.val - 128) = l.val by omega]
      · rw [dif_neg (by omega), dif_neg (by omega), dif_pos (by omega)]; simp only [show 256 + (l.val - 128 - 128) = l.val by omega]
      · rw [dif_neg (by omega), dif_neg (by omega), dif_neg (by omega)]; simp only [show 384 + (l.val - 128 - 128 - 128) = l.val by omega]
    exact h27 _
  · unfold stateRead Gla.inter
    refine Finset.sum_congr (M := EReal) rfl fun d _ => ?_
    rw [← pay3_apply la]
    pointwise [k0_pay10, k0_pay11, k0_pay2]

/-- What a row gives another, as the kernel computes it, is the layer's score. -/
theorem score_eq (sg : Fin 256 → EReal) (l : Fin 512) (hsg : ∀ x : Fin 256, sg x = if x.val / 64 = l.val / 128 then 1 else 0)
    (q k a : Fin 8 → Fin 256 → EReal) (ha : ∀ u d, a u d ≤ 0) (t s : Fin 8) :
    (∑ x : Fin 256, (if s.val ≤ t.val then q t x * k s x * Ideal.exp (min (Gla.cum (fun u => a u x) t - Gla.cum (fun u => a u x) s) 0) else 0) * sg x)
      = Gla.score q k a l t s := by
  unfold Gla.score
  refine Eq.trans ?_ (Gla.head_sum (fun x => if s.val ≤ t.val then
    q t x * k s x * Ideal.exp (Gla.cum (fun u => a u x) t - Gla.cum (fun u => a u x) s) else 0) (l.val / 128) (by omega))
  refine Finset.sum_congr rfl fun x _ => ?_
  rw [hsg, mul_ite, mul_one, mul_zero]
  by_cases h : s.val ≤ t.val
  · rw [if_pos h, if_pos h, Gla.min_sub _ (fun u => ha u x) s t h]
  · rw [if_neg h, if_neg h]

/-- The row before the readout, from the payloads: what is read from the state and the eight rows' shares. -/
theorem raw_apply (q k la : Vec Ideal S8x256 .f32) (v : Vec Ideal S8x512 .f32) (S : Fin 256 → Fin 128 → EReal) (b : Vec Ideal S8x256 .f32) (x : FVec Ideal S8x512 .f32)
    (hla : ∀ u d, (show EReal from la (ix2 u d)) ≤ 0) (hb : ∀ (t : Fin 8) (d : Fin 256), b (ix2 t d) = Gla.cum (fun u => la (ix2 u d)) t)
    (hx : ∀ t l, x (ix2 t l) = Gla.inter (fun u d => q (ix2 u d)) (fun u d => la (ix2 u d)) S t l) (t : Fin 8) (l : Fin 512) (sg : FVec Ideal S256x512 .bf16)
    (hsg : ∀ (d : Fin 256) (e : Fin 512), sg (ix2 d e) = if d.val / 64 = e.val / 128 then (1 : EReal) else 0) :
    k0_pay38 v (k0_pay35 sg (iota Kind.tc S8x256 32 [0] iota_S8x256_d0_w32) q k b (k0_pay28 q k b) (k0_pay29 q k b)
          (k0_pay30 (iota Kind.tc S8x256 32 [0] iota_S8x256_d0_w32) q k b) (k0_pay31 (iota Kind.tc S8x256 32 [0] iota_S8x256_d0_w32) q k b)
          (k0_pay32 (iota Kind.tc S8x256 32 [0] iota_S8x256_d0_w32) q k b) (k0_pay33 b) k0_pay34)
        (k0_pay36 sg (iota Kind.tc S8x256 32 [0] iota_S8x256_d0_w32) q k v b x (k0_pay28 q k b) (k0_pay29 q k b)
          (k0_pay30 (iota Kind.tc S8x256 32 [0] iota_S8x256_d0_w32) q k b) (k0_pay31 (iota Kind.tc S8x256 32 [0] iota_S8x256_d0_w32) q k b)
          (k0_pay32 (iota Kind.tc S8x256 32 [0] iota_S8x256_d0_w32) q k b) (k0_pay33 b) k0_pay34)
        (k0_pay37 sg (iota Kind.tc S8x256 32 [0] iota_S8x256_d0_w32) q k v b (k0_pay28 q k b) (k0_pay29 q k b)
          (k0_pay30 (iota Kind.tc S8x256 32 [0] iota_S8x256_d0_w32) q k b) (k0_pay31 (iota Kind.tc S8x256 32 [0] iota_S8x256_d0_w32) q k b)
          (k0_pay32 (iota Kind.tc S8x256 32 [0] iota_S8x256_d0_w32) q k b) (k0_pay33 b) k0_pay34) (ix2 t l)
      = Gla.raw (fun u d => q (ix2 u d)) (fun u d => k (ix2 u d)) (fun u d => v (ix2 u d)) (fun u d => la (ix2 u d)) S t l := by
  rw [total_apply, hx]
  unfold Gla.raw
  refine congrArg (fun z : EReal => Gla.inter (fun u d => q (ix2 u d)) (fun u d => la (ix2 u d)) S t l + z) (Finset.sum_congr rfl fun s _ => ?_)
  rw [prods_apply]
  simp only [hb]
  exact congrArg (fun z : EReal => z * v (ix2 s l)) (score_eq (fun x => sg (ix2 x l)) l (fun x => hsg x l) (fun u d => q (ix2 u d)) (fun u d => k (ix2 u d))
    (fun u d => la (ix2 u d)) hla t s)

variable (m : (ℓ : Loc nD τ sig) → Buf (Elt Ideal) ℓ)

/-- Row `u` of sequence `t` among the rows. -/
def rowOf (t : Fin 128) (u : Fin 8) : Fin 1024 := ⟨t.val * 8 + u.val, by omega⟩

/-- The rows before the readout, sequence by sequence. -/
def raws (c : Dev nD) (t : Fin 128) (u : Fin 8) (l : Fin 512) : EReal :=
  Gla.raw (fun u d => m ((c : Thread nD τ).loc main_arg0) (ix2 (rowOf t u) d)) (fun u d => m ((c : Thread nD τ).loc main_arg1) (ix2 (rowOf t u) d))
    (fun u d => m ((c : Thread nD τ).loc main_arg2) (ix2 (rowOf t u) d)) (fun u d => m ((c : Thread nD τ).loc main_arg3) (ix2 (rowOf t u) d))
    (fun d e => m ((c : Thread nD τ).loc main_arg6) (ix3 t d e)) u l

/-- The attention rows: the readout of every sequence's rows. -/
def G (c : Dev nD) : S1024x512.Idx → EReal := fun i =>
  Gla.readout (raws m c ⟨(i 0).val / 8, by have h : (i 0).val < 1024 := (i 0).isLt; omega⟩ ⟨(i 0).val % 8, Nat.mod_lt _ (by decide)⟩)
    (fun l => m ((c : Thread nD τ).loc main_arg4) (ix2 (i 0) l)) (fun e => m ((c : Thread nD τ).loc main_arg5) (ix2 0 e)) (i 1)

/-- The states the sequences leave. -/
def H (c : Dev nD) : S128x256x128.Idx → EReal := fun i =>
  Gla.next (fun u d => m ((c : Thread nD τ).loc main_arg1) (ix2 (rowOf (i 0) u) d))
    (fun u d => m ((c : Thread nD τ).loc main_arg2) (ix2 (rowOf (i 0) u) d)) (fun u d => m ((c : Thread nD τ).loc main_arg3) (ix2 (rowOf (i 0) u) d))
    (fun d e => m ((c : Thread nD τ).loc main_arg6) (ix3 (i 0) d e)) (i 1) (i 2)

/-- Every window's block starts at the grid point's sequence; the gain has one block. -/
theorem idx (t : Fin cfg0.N) : win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0, 0]
    ∧ win0_7.index t = ![t.val, 0] ∧ win0_8.index t = ![t.val, 0, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0, 0]
    ∧ win0_7.index t = ![t.val, 0] ∧ win0_8.index t = ![t.val, 0, 0]) t

/-- The query block's rows are its sequence's rows. -/
theorem read0 (c : Dev nD) (t : Fin cfg0.N) (u : Fin 8) (d : Fin 256) :
    iblk m c 0 t (ix2 u d) = m ((c : Thread nD τ).loc main_arg0) (ix2 (rowOf ⟨t.val, t.isLt⟩ u) d) := by
  obtain ⟨e, -⟩ := idx t
  blk_ext! [iblk, V_main_arg0, e, rowOf]

/-- The key block's rows. -/
theorem read1 (c : Dev nD) (t : Fin cfg0.N) (u : Fin 8) (d : Fin 256) :
    iblk m c 1 t (ix2 u d) = m ((c : Thread nD τ).loc main_arg1) (ix2 (rowOf ⟨t.val, t.isLt⟩ u) d) := by
  obtain ⟨-, e, -⟩ := idx t
  blk_ext! [iblk, V_main_arg1, e, rowOf]

/-- The value block's rows. -/
theorem read2 (c : Dev nD) (t : Fin cfg0.N) (u : Fin 8) (l : Fin 512) :
    iblk m c 2 t (ix2 u l) = m ((c : Thread nD τ).loc main_arg2) (ix2 (rowOf ⟨t.val, t.isLt⟩ u) l) := by
  obtain ⟨-, -, e, -⟩ := idx t
  blk_ext! [iblk, V_main_arg2, e, rowOf]

/-- The log decay block's rows. -/
theorem read3 (c : Dev nD) (t : Fin cfg0.N) (u : Fin 8) (d : Fin 256) :
    iblk m c 3 t (ix2 u d) = m ((c : Thread nD τ).loc main_arg3) (ix2 (rowOf ⟨t.val, t.isLt⟩ u) d) := by
  obtain ⟨-, -, -, e, -⟩ := idx t
  blk_ext! [iblk, V_main_arg3, e, rowOf]

/-- The gate block's rows. -/
theorem read4 (c : Dev nD) (t : Fin cfg0.N) (u : Fin 8) (l : Fin 512) :
    iblk m c 4 t (ix2 u l) = m ((c : Thread nD τ).loc main_arg4) (ix2 (rowOf ⟨t.val, t.isLt⟩ u) l) := by
  obtain ⟨-, -, -, -, e, -⟩ := idx t
  blk_ext! [iblk, V_main_arg4, e, rowOf]

/-- The gain. -/
theorem read5 (c : Dev nD) (t : Fin cfg0.N) (k : Fin 128) :
    iblk m c 5 t (ix2 0 k) = m ((c : Thread nD τ).loc main_arg5) (ix2 0 k) := by
  obtain ⟨-, -, -, -, -, e, -⟩ := idx t
  blk_ext! [iblk, V_main_arg5, e]

/-- The state a sequence starts with. -/
theorem read6 (c : Dev nD) (t : Fin cfg0.N) (d : Fin 256) (e : Fin 128) :
    iblk m c 6 t (ix3 0 d e) = m ((c : Thread nD τ).loc main_arg6) (ix3 (⟨t.val, t.isLt⟩ : Fin 128) d e) := by
  obtain ⟨-, -, -, -, -, -, e', -⟩ := idx t
  blk_ext! [iblk, V_main_arg6, e']

/-- The state window holds `H` after the last point. -/
theorem final8 (c : Dev nD) : (dats m 0 c).arrAt 8 (cfgs 0).N = H m c := by
  refine (dats m 0 c).arrAt_eq_of_covers 8 _ (by decide +kernel) fun t hf y => ?_
  blk_simp
  rw [after0_8, outsAt0]
  idx_vars y
  have ht : t.val < 128 := t.isLt
  obtain ⟨-, -, -, -, -, -, -, -, e8⟩ := idx t
  have he : ((win0_8.blk t).view.emb (ix3 y0 y1 y2)) = ix3 (⟨t.val, ht⟩ : Fin 128) y1 y2 := by
    blk_ext [e8]
  show _ = H m c ((win0_8.blk t).view.emb (ix3 y0 y1 y2))
  rw [he]
  frame_out
  pointwise [k0_pay1]
  rw [state_apply, pay13_apply]
  simp only [pay12_apply, pay3_apply]
  have h2 : k0_pay2 (iblk m c 6 t) (ix2 y1 y2) = iblk m c 6 t (ix3 0 y1 y2) := by pointwise [k0_pay2]
  rw [h2, read6]
  simp only [read1, read2, read3]
  rw [Gla.cum_last _ 7 rfl]
  rfl

/-- The attention window holds `G` after the last point. -/
theorem final7 (c : Dev nD) (hla : ∀ (u : Fin 1024) (d : Fin 256), (show EReal from m ((c : Thread nD τ).loc main_arg3) (ix2 u d)) ≤ 0) : (dats m 0 c).arrAt 7 (cfgs 0).N = G m c := by
  refine (dats m 0 c).arrAt_eq_of_covers 7 _ (by decide +kernel) fun t hf y => ?_
  blk_simp
  rw [after0_7, outsAt0]
  idx_vars y
  have ht : t.val < 128 := t.isLt
  obtain ⟨-, -, -, -, -, -, -, e7, -⟩ := idx t
  have he : ((win0_7.blk t).view.emb (ix2 y0 y1)) = ix2 (rowOf ⟨t.val, ht⟩ y0) y1 := by
    blk_ext [e7, rowOf]
  show _ = G m c ((win0_7.blk t).view.emb (ix2 y0 y1))
  rw [he]
  frame_out
  refine (out_apply _ _ _ _ _ _ y0 y1).trans ?_
  have hb : ∀ (u : Fin 8) (d : Fin 256), k0_pay4 (iblk m c 3 t) (ix2 u d) = Gla.cum (fun u => iblk m c 3 t (ix2 u d)) u := by
    intro u d
    refine Eq.trans ?_ (pay3_apply (iblk m c 3 t) u d)
    pointwise [k0_pay4]
  have hla' : ∀ (u : Fin 8) (d : Fin 256), (show EReal from iblk m c 3 t (ix2 u d)) ≤ 0 := by
    intro u d
    rw [read3]
    exact hla _ _
  have hG : G m c (ix2 (rowOf ⟨t.val, ht⟩ y0) y1) = Gla.readout (raws m c ⟨t.val, ht⟩ y0)
      (fun l => m ((c : Thread nD τ).loc main_arg4) (ix2 (rowOf ⟨t.val, ht⟩ y0) l)) (fun e => m ((c : Thread nD τ).loc main_arg5) (ix2 0 e)) y1 := by
    have e1 : (⟨(t.val * 8 + y0.val) / 8, by omega⟩ : Fin 128) = ⟨t.val, ht⟩ := Fin.ext (by show (t.val * 8 + y0.val) / 8 = t.val; omega)
    have e2 : (⟨(t.val * 8 + y0.val) % 8, Nat.mod_lt _ (by decide)⟩ : Fin 8) = y0 := Fin.ext (by show (t.val * 8 + y0.val) % 8 = y0.val; omega)
    show Gla.readout (raws m c ⟨(t.val * 8 + y0.val) / 8, _⟩ ⟨(t.val * 8 + y0.val) % 8, _⟩) _ _ _ = _
    rw [e1, e2]
    rfl
  rw [hG]
  refine (congrArg (fun z : Fin 512 → EReal => Gla.readout z (fun l => iblk m c 4 t (ix2 y0 l)) (fun e => iblk m c 5 t (ix2 0 e)) y1)
    (funext fun l => raw_apply (iblk m c 0 t) (iblk m c 1 t) (iblk m c 3 t) (iblk m c 2 t) (fun d e => iblk m c 6 t (ix3 0 d e)) (k0_pay4 (iblk m c 3 t)) _
      hla' hb (fun u l => inter_read (iblk m c 0 t) (iblk m c 3 t) (iblk m c 6 t) u l) y0 l _ seg)).trans ?_
  simp only [read0, read1, read2, read3, read4, read5, read6]
  rfl

end Cert.Proof.Sample
end
-- ==== Proof.SampleRef.lean ====
/-
  The sample call's reference (hand-written): its two results, read at an index, are the rows and the states of `Gla`.
-/
module

public import proofs.«01_k».proof.Defs
public import proofs.«01_k».proof.Proof.Gen.Pre_decays2
public import proofs.«01_k».proof.Proof.Sample

@[expose] public section

set_option maxRecDepth 16384

noncomputable section

open Idealize.ShloMosaic Idealize.ShloMosaic.TcCoe Idealize.SL.Sem

namespace Cert.Proof.SampleRef

open Cert.Reference2Ideal Cert.Reference2Ideal.Gen

/-- An argument's 256 columns cut into sequences and heads. -/
def keys (x : FVec Ideal S1024x256 .f32) : FVec Ideal S128x4x8x64 .f32 :=
  transpose S128x4x8x64 [0, 2, 1, 3] (shapeCast _ x shapeCasts_S1024x256_S128x8x4x64) transposes_S128x8x4x64_S128x4x8x64_0_2_1_3

/-- An argument's 512 columns cut into sequences and heads. -/
def values (x : FVec Ideal S1024x512 .f32) : FVec Ideal S128x4x8x128 .f32 :=
  transpose S128x4x8x128 [0, 2, 1, 3] (shapeCast _ x shapeCasts_S1024x512_S128x8x4x128) transposes_S128x8x4x128_S128x4x8x128_0_2_1_3

/-- The running sums of the log decays. -/
def sums (la : FVec Ideal S128x4x8x64 .f32) : FVec Ideal S128x4x8x64 .f32 :=
  Host.reduceWindowAdd ![1, 1, 8, 1] ![1, 1, 1, 1] ![0, 0, 7, 0] ![0, 0, 0, 0] la (broadcastInDim S_ ![] bcast_S_S_ (constant S_ .f32 0x00000000#32)) reduceWindows_S128x4x8x64_S128x4x8x64_w1s1p0_0_w1s1p0_0_w8s1p7_0_w1s1p0_0 h_S_

/-- The scores of the later rows against the earlier ones. -/
def scores (q k b : FVec Ideal S128x4x8x64 .f32) : FVec Ideal S128x4x8x8 .f32 :=
  Host.reduceAdd (mulf (mulf (broadcastInDim S128x4x8x8x64 ![0, 1, 2, 3, 4] bcast_S128x4x8x1x64_S128x4x8x8x64_0_1_2_3_4 (broadcastInDim S128x4x8x1x64 ![0, 1, 2, 4] bcast_S128x4x8x64_S128x4x8x1x64_0_1_2_4 q)) (broadcastInDim S128x4x8x8x64 ![0, 1, 2, 3, 4] bcast_S128x4x1x8x64_S128x4x8x8x64_0_1_2_3_4 (broadcastInDim S128x4x1x8x64 ![0, 1, 3, 4] bcast_S128x4x8x64_S128x4x1x8x64_0_1_3_4 k))) (Host.exp (select (broadcastInDim S128x4x8x8x64 ![2, 3, 4] bcast_S8x8x1_S128x4x8x8x64_2_3_4 (broadcastInDim S8x8x1 ![0, 1] bcast_S8x8_S8x8x1_0_1 (select (cmpi .sge (addi (iotaInDim S8x8 32 0) (broadcastInDim S8x8 ![] bcast_S_S8x8 (constantI S_ 32 0#32))) (iotaInDim S8x8 32 1)) (broadcastInDim S8x8 ![] bcast_S_S8x8 (constantI S_ 1 1#1)) (broadcastInDim S8x8 ![] bcast_S_S8x8 (constantI S_ 1 0#1))))) (subf (broadcastInDim S128x4x8x8x64 ![0, 1, 2, 3, 4] bcast_S128x4x8x1x64_S128x4x8x8x64_0_1_2_3_4 (broadcastInDim S128x4x8x1x64 ![0, 1, 2, 4] bcast_S128x4x8x64_S128x4x8x1x64_0_1_2_4 b)) (broadcastInDim S128x4x8x8x64 ![0, 1, 2, 3, 4] bcast_S128x4x1x8x64_S128x4x8x8x64_0_1_2_3_4 (broadcastInDim S128x4x1x8x64 ![0, 1, 3, 4] bcast_S128x4x8x64_S128x4x1x8x64_0_1_3_4 b))) (broadcastInDim S128x4x8x8x64 ![] bcast_S_S128x4x8x8x64 (id (constant S_ .f32 0xFF800000#32)))))) (constant S_ .f32 0x00000000#32) reducesTo_S128x4x8x8x64_S128x4x8x8_d4 h_S_

/-- The rows before the readout. -/
def rows (q b : FVec Ideal S128x4x8x64 .f32) (p : FVec Ideal S128x4x8x8 .f32) (v : FVec Ideal S128x4x8x128 .f32) (S : FVec Ideal S128x256x128 .f32) :
    FVec Ideal S128x4x8x128 .f32 :=
  addf (Host.dotGeneral dot_S128x4x8x64_S128x4x64x128_S128x4x8x128_3_2_2_3_01_01 none (mulf q (Host.exp b)) (shapeCast _ S shapeCasts_S128x256x128_S128x4x64x128)) (Host.dotGeneral dot_S128x4x8x8_S128x4x8x128_S128x4x8x128_3_2_2_3_01_01 none p v)

/-- The readout of the rows. -/
def gated (o : FVec Ideal S128x4x8x128 .f32) (r : FVec Ideal S1024x512 .f32) (g : FVec Ideal S1x128 .f32) : FVec Ideal S1024x512 .bf16 :=
  truncf .bf16 (shapeCast _ (mulf (shapeCast _ (mulf (mulf (transpose S128x8x4x128 [0, 2, 1, 3] o transposes_S128x4x8x128_S128x8x4x128_0_2_1_3) (broadcastInDim S128x8x4x128 ![0, 1, 2, 3] bcast_S128x8x4x1_S128x8x4x128_0_1_2_3 (Host.rsqrt (addf (Host.divf (broadcastInDim S128x8x4x1 ![0, 1, 2] bcast_S128x8x4_S128x8x4x1_0_1_2 (Host.reduceAdd (mulf (transpose S128x8x4x128 [0, 2, 1, 3] o transposes_S128x4x8x128_S128x8x4x128_0_2_1_3) (transpose S128x8x4x128 [0, 2, 1, 3] o transposes_S128x4x8x128_S128x8x4x128_0_2_1_3)) (constant S_ .f32 0x00000000#32) reducesTo_S128x8x4x128_S128x8x4_d3 h_S_)) (broadcastInDim S128x8x4x1 ![] bcast_S_S128x8x4x1 (constant S_ .f32 0x43000000#32))) (broadcastInDim S128x8x4x1 ![] bcast_S_S128x8x4x1 (constant S_ .f32 0x358637BD#32)))))) (broadcastInDim S128x8x4x128 ![0, 1, 2, 3] bcast_S1x1x1x128_S128x8x4x128_0_1_2_3 (broadcastInDim S1x1x1x128 ![3] bcast_S128_S1x1x1x128_3 (shapeCast _ g shapeCasts_S1x128_S128)))) shapeCasts_S128x8x4x128_S128x8x512) (mulf (shapeCast _ r shapeCasts_S1024x512_S128x8x512) (Host.divf (broadcastInDim S128x8x512 ![] bcast_S_S128x8x512 (constant S_ .f32 0x3F800000#32)) (addf (broadcastInDim S128x8x512 ![] bcast_S_S128x8x512 (constant S_ .f32 0x3F800000#32)) (Host.exp (Host.negf (shapeCast _ r shapeCasts_S1024x512_S128x8x512))))))) shapeCasts_S128x8x512_S1024x512) bitsLt_bf16_f32

/-- The states the sequences leave. -/
def states (k b : FVec Ideal S128x4x8x64 .f32) (v : FVec Ideal S128x4x8x128 .f32) (S : FVec Ideal S128x256x128 .f32) : FVec Ideal S128x256x128 .f32 :=
  shapeCast _ (addf (mulf (broadcastInDim S128x4x64x128 ![0, 1, 2, 3] bcast_S128x4x64x1_S128x4x64x128_0_1_2_3 (broadcastInDim S128x4x64x1 ![0, 1, 2] bcast_S128x4x64_S128x4x64x1_0_1_2 (Host.exp (shapeCast _ (extractStridedSlice S128x4x1x64 ![0, 0, 7, 0] b slices_S128x4x8x64_S128x4x1x64_0_0_7_0) shapeCasts_S128x4x1x64_S128x4x64)))) (shapeCast _ S shapeCasts_S128x256x128_S128x4x64x128)) (Host.dotGeneral dot_S128x4x8x64_S128x4x8x128_S128x4x64x128_2_2_3_3_01_01 none (mulf k (Host.exp (subf (broadcastInDim S128x4x8x64 ![0, 1, 2, 3] bcast_S128x4x1x64_S128x4x8x64_0_1_2_3 (extractStridedSlice S128x4x1x64 ![0, 0, 7, 0] b slices_S128x4x8x64_S128x4x1x64_0_0_7_0)) b))) v)) shapeCasts_S128x4x64x128_S128x256x128

/-- The row `a * 8 + t` and the column `h * 64 + d`. -/
theorem keys_apply (x : FVec Ideal S1024x256 .f32) (a : Fin 128) (h : Fin 4) (t : Fin 8) (d : Fin 64) :
    keys x (ix4 a h t d) = x (ix2 (Sample.rowOf a t) ⟨h.val * 64 + d.val, by omega⟩) := by
  pointwise [keys, Sample.rowOf]

/-- The row `a * 8 + t` and the column `h * 128 + e`. -/
theorem values_apply (x : FVec Ideal S1024x512 .f32) (a : Fin 128) (h : Fin 4) (t : Fin 8) (e : Fin 128) :
    values x (ix4 a h t e) = x (ix2 (Sample.rowOf a t) ⟨h.val * 128 + e.val, by omega⟩) := by
  pointwise [values, Sample.rowOf]

/-- A running sum at an index. -/
theorem sums_apply (la : FVec Ideal S128x4x8x64 .f32) (a : Fin 128) (h : Fin 4) (t : Fin 8) (d : Fin 64) :
    sums la (ix4 a h t d) = Gla.cum (fun u => la (ix4 a h u d)) t := by
  unfold sums
  exact Gla.cumsum_apply (by rfl) _ _ (fun i => by pointwise) _ _ a h t d

/-- A score at an index: the earlier rows' products, zero for a later row. -/
theorem scores_apply (q k b : FVec Ideal S128x4x8x64 .f32) (a : Fin 128) (h : Fin 4) (t s : Fin 8) :
    scores q k b (ix4 a h t s) = (∑ d : Fin 64, if s.val ≤ t.val then
      q (ix4 a h t d) * k (ix4 a h s d) * Ideal.exp (b (ix4 a h t d) - b (ix4 a h s d)) else 0 : EReal) := by
  have hbot : (constant (F := Ideal) S_ .f32 4286578688#32 ix0 : EReal) = ⊥ := by
    show Ideal.ofBits .f32 4286578688#32 = ⊥
    simp [Ideal.ofBits, Ideal.ieee]
  pointwise [scores]
  refine Finset.sum_congr (M := EReal) rfl fun d _ => ?_
  have ht : IntOp.addi (BitVec.ofNat 32 t.val) 0#32 = BitVec.ofNat 32 t.val := BitVec.add_zero _
  rw [ht, Gla.select_sge t.val s.val (by omega) (by omega)]
  by_cases h : s.val ≤ t.val
  · rw [if_pos h, if_pos h]
    rfl
  · rw [if_neg h, if_neg h]
    show q _ * k _ * Ideal.exp (constant (F := Ideal) S_ .f32 4286578688#32 ix0 : EReal) = 0
    rw [hbot, Ideal.exp_bot, mul_zero]

/-- A row at an index. -/
theorem rows_apply (q b : FVec Ideal S128x4x8x64 .f32) (p : FVec Ideal S128x4x8x8 .f32) (v : FVec Ideal S128x4x8x128 .f32) (S : FVec Ideal S128x256x128 .f32)
    (a : Fin 128) (h : Fin 4) (t : Fin 8) (e : Fin 128) :
    rows q b p v S (ix4 a h t e) = (∑ d : Fin 64, q (ix4 a h t d) * Ideal.exp (b (ix4 a h t d)) * S (ix3 a ⟨h.val * 64 + d.val, by omega⟩ e)
      + ∑ s : Fin 8, p (ix4 a h t s) * v (ix4 a h s e) : EReal) := by
  pointwise [rows]

/-- A state at an index. -/
theorem states_apply (k b : FVec Ideal S128x4x8x64 .f32) (v : FVec Ideal S128x4x8x128 .f32) (S : FVec Ideal S128x256x128 .f32)
    (a : Fin 128) (d : Fin 256) (e : Fin 128) :
    states k b v S (ix3 a d e) = (Ideal.exp (b (ix4 a ⟨d.val / 64, by omega⟩ 7 ⟨d.val % 64, Nat.mod_lt _ (by decide)⟩)) * S (ix3 a d e)
      + ∑ t : Fin 8, k (ix4 a ⟨d.val / 64, by omega⟩ t ⟨d.val % 64, Nat.mod_lt _ (by decide)⟩)
          * Ideal.exp (b (ix4 a ⟨d.val / 64, by omega⟩ 7 ⟨d.val % 64, Nat.mod_lt _ (by decide)⟩) - b (ix4 a ⟨d.val / 64, by omega⟩ t ⟨d.val % 64, Nat.mod_lt _ (by decide)⟩))
          * v (ix4 a ⟨d.val / 64, by omega⟩ t e) : EReal) := by
  pointwise [states]

/-- The readout at an index. -/
theorem gated_apply (o : FVec Ideal S128x4x8x128 .f32) (r : FVec Ideal S1024x512 .f32) (g : FVec Ideal S1x128 .f32) (i : Fin 1024) (l : Fin 512)
    (f : Fin 512 → EReal)
    (hf : ∀ (h : Fin 4) (e : Fin 128), o (ix4 ⟨i.val / 8, by omega⟩ h ⟨i.val % 8, Nat.mod_lt _ (by decide)⟩ e) = f ⟨h.val * 128 + e.val, by omega⟩) :
    gated o r g (ix2 i l) = Gla.readout f (fun x => r (ix2 i x)) (fun x => g (ix2 0 x)) l := by
  pointwise [gated]
  have hl : ∀ p, f ⟨l.val / 128 * 128 + l.val % 128, p⟩ = f l := fun p => congrArg f (Fin.ext (Nat.div_add_mod' _ _))
  simp only [hf, hl]
  rfl

variable (m : (ℓ : Loc nD τ sig) → Buf (Elt Ideal) ℓ)

/-- The reference's attention rows are the readout of its rows. -/
theorem result_eq (c : Dev nD) : Cert.Reference2Ideal.Value.res_main_v64 m c =
    gated (rows (keys (m ((c.tc : Thread nD τ).loc main_arg0))) (sums (keys (m ((c.tc : Thread nD τ).loc main_arg3))))
      (scores (keys (m ((c.tc : Thread nD τ).loc main_arg0))) (keys (m ((c.tc : Thread nD τ).loc main_arg1))) (sums (keys (m ((c.tc : Thread nD τ).loc main_arg3)))))
      (values (m ((c.tc : Thread nD τ).loc main_arg2))) (m ((c.tc : Thread nD τ).loc main_arg6)))
      (m ((c.tc : Thread nD τ).loc main_arg4)) (m ((c.tc : Thread nD τ).loc main_arg5)) := rfl

/-- The column of a head's lane, from the lane's own column. -/
theorem lane_eq (h : Fin 4) (e : Fin 128) (d : Fin 64) (p) :
    Gla.lane ⟨h.val * 128 + e.val, p⟩ d = ⟨h.val * 64 + d.val, by omega⟩ := by
  unfold Gla.lane
  apply Fin.ext
  show (h.val * 128 + e.val) / 128 * 64 + d.val = h.val * 64 + d.val
  omega

/-- A row of the reference at an index is the mathematics' row. -/
theorem raw_eq (q k la : FVec Ideal S1024x256 .f32) (v : FVec Ideal S1024x512 .f32) (S : FVec Ideal S128x256x128 .f32)
    (a : Fin 128) (h : Fin 4) (t : Fin 8) (e : Fin 128) :
    rows (keys q) (sums (keys la)) (scores (keys q) (keys k) (sums (keys la))) (values v) S (ix4 a h t e)
      = Gla.raw (fun u d => q (ix2 (Sample.rowOf a u) d)) (fun u d => k (ix2 (Sample.rowOf a u) d)) (fun u d => v (ix2 (Sample.rowOf a u) d))
          (fun u d => la (ix2 (Sample.rowOf a u) d)) (fun d e => S (ix3 a d e)) t ⟨h.val * 128 + e.val, by omega⟩ := by
  have hm : (⟨(h.val * 128 + e.val) % 128, Nat.mod_lt _ (by decide)⟩ : Fin 128) = e := Fin.ext (by show (h.val * 128 + e.val) % 128 = _; omega)
  rw [rows_apply]
  simp only [scores_apply, sums_apply, keys_apply, values_apply, Gla.raw, Gla.inter, Gla.score, lane_eq, hm]

/-- A state of the reference at an index is the mathematics' state. -/
theorem next_eq (k la : FVec Ideal S1024x256 .f32) (v : FVec Ideal S1024x512 .f32) (S : FVec Ideal S128x256x128 .f32)
    (a : Fin 128) (d : Fin 256) (e : Fin 128) :
    states (keys k) (sums (keys la)) (values v) S (ix3 a d e)
      = Gla.next (fun u d => k (ix2 (Sample.rowOf a u) d)) (fun u d => v (ix2 (Sample.rowOf a u) d))
          (fun u d => la (ix2 (Sample.rowOf a u) d)) (fun d e => S (ix3 a d e)) d e := by
  have hd : (⟨d.val / 64 * 64 + d.val % 64, by omega⟩ : Fin 256) = d := Fin.ext (Nat.div_add_mod' _ _)
  rw [states_apply]
  simp only [sums_apply, keys_apply, values_apply, hd, Gla.next, Gla.col, Gla.cum_last _ (7 : Fin 8) rfl]

/-- The reference's attention rows are the kernel's. -/
theorem result (c : Dev nD) (mk : (ℓ : Loc Cert.Kernel2Ideal.nD Cert.Kernel2Ideal.τ Cert.Kernel2Ideal.sig) → Buf (Elt Ideal) ℓ) (ck : Dev Cert.Kernel2Ideal.nD)
    (h0 : m ((c.tc : Thread nD τ).loc main_arg0) = mk ((ck : Thread Cert.Kernel2Ideal.nD Cert.Kernel2Ideal.τ).loc Cert.Kernel2Ideal.main_arg0))
    (h1 : m ((c.tc : Thread nD τ).loc main_arg1) = mk ((ck : Thread Cert.Kernel2Ideal.nD Cert.Kernel2Ideal.τ).loc Cert.Kernel2Ideal.main_arg1))
    (h2 : m ((c.tc : Thread nD τ).loc main_arg2) = mk ((ck : Thread Cert.Kernel2Ideal.nD Cert.Kernel2Ideal.τ).loc Cert.Kernel2Ideal.main_arg2))
    (h3 : m ((c.tc : Thread nD τ).loc main_arg3) = mk ((ck : Thread Cert.Kernel2Ideal.nD Cert.Kernel2Ideal.τ).loc Cert.Kernel2Ideal.main_arg3))
    (h4 : m ((c.tc : Thread nD τ).loc main_arg4) = mk ((ck : Thread Cert.Kernel2Ideal.nD Cert.Kernel2Ideal.τ).loc Cert.Kernel2Ideal.main_arg4))
    (h5 : m ((c.tc : Thread nD τ).loc main_arg5) = mk ((ck : Thread Cert.Kernel2Ideal.nD Cert.Kernel2Ideal.τ).loc Cert.Kernel2Ideal.main_arg5))
    (h6 : m ((c.tc : Thread nD τ).loc main_arg6) = mk ((ck : Thread Cert.Kernel2Ideal.nD Cert.Kernel2Ideal.τ).loc Cert.Kernel2Ideal.main_arg6)) :
    Cert.Reference2Ideal.Value.res_main_v64 m c = Sample.G mk ck := by
  rw [result_eq, h0, h1, h2, h3, h4, h5, h6]
  funext i
  idx_vars i
  exact gated_apply _ _ _ i0 i1 (Sample.raws mk ck ⟨i0.val / 8, by omega⟩ ⟨i0.val % 8, Nat.mod_lt _ (by decide)⟩) fun h e => raw_eq _ _ _ _ _ _ h _ e

/-- Without a gate above zero the log decays are at most zero. -/
theorem decays (mk : (ℓ : Loc Cert.Kernel2Ideal.nD Cert.Kernel2Ideal.τ Cert.Kernel2Ideal.sig) → Buf (Elt Ideal) ℓ) (h : Cert.Pre_Kernel2Ideal_decays2 mk)
    (ck : Dev Cert.Kernel2Ideal.nD) (u : Fin 1024) (d : Fin 256) :
    (show EReal from mk ((ck : Thread Cert.Kernel2Ideal.nD Cert.Kernel2Ideal.τ).loc Cert.Kernel2Ideal.main_arg3) (ix2 u d)) ≤ 0 := by
  have e := congrFun (h ck) (ix2 u d)
  have e' : Ideal.cmp .ole (mk ((ck : Thread Cert.Kernel2Ideal.nD Cert.Kernel2Ideal.τ).loc Cert.Kernel2Ideal.main_arg3) (ix2 u d)) (Ideal.ofBits .f32 0x00000000#32) = 1#1 := e
  have hz : Ideal.ofBits .f32 0x00000000#32 = 0 := by simp [Ideal.ofBits, Ideal.ieee]
  rw [hz] at e'
  by_contra hn
  simp only [Ideal.cmp] at e'
  simp_all

/-- The kernel's frame at the bit instance. -/
theorem frame_p : Cert.quiescent_Kernel2 := fun m ρ _ => Cert.Kernel2.Gen.frame m ρ

/-- The kernel's frame at the ideal instance. -/
theorem frame_pi : Cert.quiescent_Kernel2Ideal := fun m ρ _ => Cert.Kernel2Ideal.Gen.frame m ρ

/-- The same under the precondition. -/
theorem frame_pi_pre : Cert.quiescent_Kernel2Ideal_pre_decays2 := fun m ρ _ => Cert.Kernel2Ideal.Gen.frame m ρ

/-- The reference's frame: it runs host operations only and declares no semaphore. -/
theorem frame_ri : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The same under the precondition. -/
theorem frame_ri_pre : Cert.quiescent_Reference2Ideal_pre_decays2 := fun m ρ _ => frame_ri m ρ trivial

/-- The kernel's attention rows and states are the reference's, for log decays of at most zero. -/
theorem algebraic : Cert.algebraic_Kernel2Ideal_Reference2Ideal_pre_decays2 := by
  intro m ρ m' ρ' hpre hagree
  refine ⟨fun c => Sample.G m c, fun c => Sample.H m c, ?_, ?_⟩
  · exact (θ_run Cert.Kernel2Ideal.defs _ _).mono
      (fun _ h c => ⟨(h c).1.trans (Sample.final7 m c (decays m hpre c)), (h c).2.1.trans (Sample.final8 m c), (h c).2.2⟩)
      (Cert.Kernel2Ideal.Value.run_blocks (F := Ideal) m ρ)
  · refine (θ_run Cert.Reference2Ideal.defs _ _).mono (fun _ h c => ⟨(h c).1.trans ?_, (h c).2.1.trans ?_, (h c).2.2⟩)
      (Cert.Reference2Ideal.Value.run (F := Ideal) m' ρ')
    · obtain ⟨h0, h1, h2, h3, h4, h5, h6⟩ := hagree c
      exact result m' c m c h0 h1 h2 h3 h4 h5 h6
    · rw [(hagree c).2.1, (hagree c).2.2.1, (hagree c).2.2.2.1, (hagree c).2.2.2.2.2.2]
      funext i
      idx_vars i
      exact next_eq _ _ _ _ i0 i1 i2

end Cert.Proof.SampleRef
end
-- ==== Proof.Proj.lean ====
/-
  The layer's input projection (hand-written): the norm of a token's row, one wide product with the joined weights, and the
  pieces read out of it: attention and index heads, the layer norm of the index key, and the recurrence's gates.
-/
module

public import proofs.«01_k».proof.Defs
public import proofs.«01_k».proof.Proof.Norm
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent
public import Idealize.ShloMosaic.Lib.Routing.Ops
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem
open Idealize.ShloMosaic.Pipeline (Dat)

namespace Cert.Proof.Proj

open Cert.Kernel4Ideal Cert.Kernel4Ideal.Gen

/-- The layer norm of a row of `n` entries, the mean taken over the number `d`. -/
def layer {n : Nat} (d : EReal) (z g b : Fin n → EReal) (l : Fin n) : EReal :=
  (z l - Ideal.div (∑ k, z k) d)
    * Ideal.rsqrt (Ideal.div (∑ k, (z k - Ideal.div (∑ k, z k) d) * (z k - Ideal.div (∑ k, z k) d)) d + Ideal.ofBits .f32 0x3727C5AC#32)
    * g l + b l

/-- The log decay of a gate. -/
def decay (g : EReal) : EReal :=
  Ideal.div (min g 0 - Ideal.log1p (Ideal.exp (0 - max g (-g)))) (Ideal.ofBits .f32 0x41800000#32)

/-- The normalized row. -/
theorem pay2_apply (v0 : Vec Ideal S512x1024 .f32) (v11 : Vec Ideal S1x1024 .f32) (r : Fin 512) (k : Fin 1024) :
    k0_pay2 v0 v11 (ix2 r k) = Norm.entry (fun k => v0 (ix2 r k)) (fun k => v11 (ix2 0 k)) k := by
  pointwise [k0_pay2, Norm.entry]

/-- The layer-normed index key. -/
theorem pay9_apply (v15 : FVec Ideal S512x1024 .bf16) (v40 : Vec Ideal S1024x128 .bf16) (v59 v63 : Vec Ideal S1x128 .f32) (r : Fin 512) (l : Fin 128) :
    k0_pay9 v15 v40 v59 v63 (ix2 r l) = layer (Ideal.ofBits .f32 0x43000000#32) (fun l => ∑ k, v15 (ix2 r k) * v40 (ix2 k l))
      (fun l => v59 (ix2 0 l)) (fun l => v63 (ix2 0 l)) l := by
  pointwise [k0_pay9, layer]

/-- The log decays. -/
theorem pay1_apply (v15 : FVec Ideal S512x1024 .bf16) (v95 : Vec Ideal S1024x128 .bf16) (v99 : Vec Ideal S128x256 .bf16) (v102 : Vec Ideal S1x256 .f32) (r : Fin 512) (l : Fin 256) :
    k0_pay1 v15 v95 v99 v102 (ix2 r l) = decay ((∑ j, (∑ k, v15 (ix2 r k) * v95 (ix2 k j)) * v99 (ix2 j l)) + v102 (ix2 0 l)) := by
  pointwise [k0_pay1, decay]
  rfl

/-- Column `j` of the wide product on a block's row. -/
def wide (x0 : Vec Ideal S512x1024 .f32) (x1 : Vec Ideal S1x1024 .f32) (x2 : Vec Ideal S1024x3200 .bf16) (r : Fin 512) (j : Fin 3200) : EReal :=
  ∑ k, Norm.entry (fun k => x0 (ix2 r k)) (fun k => x1 (ix2 0 k)) k * x2 (ix2 k j)

section Blocks

variable (x0 : Vec Ideal S512x1024 .f32) (x1 : Vec Ideal S1x1024 .f32) (x2 : Vec Ideal S1024x3200 .bf16) (x3 x4 : Vec Ideal S1x128 .f32)
  (x5 : Vec Ideal S128x256 .bf16) (x6 : Vec Ideal S1x256 .f32) (r : Fin 512)

/-- The normalized row the later products read. -/
theorem pay17_apply (k : Fin 1024) : k0_pay17 x0 x1 x2 x3 x4 x5 x6 (ix2 r k) = Norm.entry (fun k => x0 (ix2 r k)) (fun k => x1 (ix2 0 k)) k := by
  unfold k0_pay17
  frame_out
  exact pay2_apply _ _ _ _

/-- The attention queries, scaled. -/
theorem out7_apply (l : Fin 512) : out0_7 x0 x1 x2 x3 x4 x5 x6 (ix2 r l) = wide x0 x1 x2 r ⟨l.val, by omega⟩ * Ideal.ofBits .f32 0x3E38AA3B#32 := by
  unfold out0_7
  frame_out
  pointwise [k0_pay3, pay2_apply, wide]

/-- The attention keys. -/
theorem out8_apply (l : Fin 128) : out0_8 x0 x1 x2 x3 x4 x5 x6 (ix2 r l) = wide x0 x1 x2 r ⟨512 + l.val, by omega⟩ := by
  unfold out0_8
  frame_out
  pointwise [k0_pay4, pay2_apply, wide]

/-- The attention values. -/
theorem pay18_apply (l : Fin 128) : k0_pay18 x0 x1 x2 x3 x4 x5 x6 (ix2 r l) = wide x0 x1 x2 r ⟨640 + l.val, by omega⟩ := by
  unfold k0_pay18
  frame_out
  pointwise [k0_pay6, pay2_apply, wide]

/-- The attention values, stored. -/
theorem out9_apply (l : Fin 128) : out0_9 x0 x1 x2 x3 x4 x5 x6 (ix2 r l) = wide x0 x1 x2 r ⟨640 + l.val, by omega⟩ := by
  unfold out0_9
  frame_out
  exact pay18_apply x0 x1 x2 x3 x4 x5 x6 r l

/-- The attention keys, rounded. -/
theorem out10_apply (l : Fin 128) : out0_10 x0 x1 x2 x3 x4 x5 x6 (ix2 r l) = wide x0 x1 x2 r ⟨512 + l.val, by omega⟩ := by
  unfold out0_10
  frame_out
  pointwise [k0_pay5, k0_pay4, pay2_apply, wide]

/-- The attention values, rounded. -/
theorem out11_apply (l : Fin 128) : out0_11 x0 x1 x2 x3 x4 x5 x6 (ix2 r l) = wide x0 x1 x2 r ⟨640 + l.val, by omega⟩ := by
  unfold out0_11
  frame_out
  pointwise [k0_pay7, pay18_apply]

/-- The index queries. -/
theorem out12_apply (l : Fin 512) : out0_12 x0 x1 x2 x3 x4 x5 x6 (ix2 r l) = wide x0 x1 x2 r ⟨768 + l.val, by omega⟩ := by
  unfold out0_12
  frame_out
  pointwise [k0_pay8, pay17_apply, wide]

/-- The index keys. -/
theorem out13_apply (l : Fin 64) : out0_13 x0 x1 x2 x3 x4 x5 x6 (ix2 r l) = layer (Ideal.ofBits .f32 0x43000000#32) (fun l => wide x0 x1 x2 r ⟨1280 + l.val, by omega⟩)
      (fun l => x3 (ix2 0 l)) (fun l => x4 (ix2 0 l)) (⟨l.val, by omega⟩ : Fin 128) := by
  unfold out0_13
  frame_out
  pointwise [k0_pay10, pay9_apply, pay17_apply, wide]

/-- The index keys, in both halves. -/
theorem out14_apply (l : Fin 128) : out0_14 x0 x1 x2 x3 x4 x5 x6 (ix2 r l) = layer (Ideal.ofBits .f32 0x43000000#32) (fun l => wide x0 x1 x2 r ⟨1280 + l.val, by omega⟩)
      (fun l => x3 (ix2 0 l)) (fun l => x4 (ix2 0 l)) l := by
  unfold out0_14
  frame_out
  pointwise [k0_pay11, pay9_apply, pay17_apply, wide]

/-- The index heads' weights, scaled. -/
theorem out15_apply (l : Fin 128) : out0_15 x0 x1 x2 x3 x4 x5 x6 (ix2 r l) = wide x0 x1 x2 r ⟨1408 + l.val, by omega⟩ * Ideal.ofBits .f32 0x3D3504F3#32 := by
  unfold out0_15
  frame_out
  pointwise [k0_pay12, pay17_apply, wide]

/-- The recurrence's queries, scaled. -/
theorem out16_apply (l : Fin 256) : out0_16 x0 x1 x2 x3 x4 x5 x6 (ix2 r l) = wide x0 x1 x2 r ⟨1536 + l.val, by omega⟩ * Ideal.ofBits .f32 0x3E000000#32 := by
  unfold out0_16
  frame_out
  pointwise [k0_pay13, pay17_apply, wide]

/-- The recurrence's keys. -/
theorem out17_apply (l : Fin 256) : out0_17 x0 x1 x2 x3 x4 x5 x6 (ix2 r l) = wide x0 x1 x2 r ⟨1792 + l.val, by omega⟩ := by
  unfold out0_17
  frame_out
  pointwise [k0_pay14, pay17_apply, wide]

/-- The recurrence's values. -/
theorem out18_apply (l : Fin 512) : out0_18 x0 x1 x2 x3 x4 x5 x6 (ix2 r l) = wide x0 x1 x2 r ⟨2048 + l.val, by omega⟩ := by
  unfold out0_18
  frame_out
  pointwise [k0_pay15, pay17_apply, wide]

/-- The recurrence's output gates. -/
theorem out19_apply (l : Fin 512) : out0_19 x0 x1 x2 x3 x4 x5 x6 (ix2 r l) = wide x0 x1 x2 r ⟨2560 + l.val, by omega⟩ := by
  unfold out0_19
  frame_out
  pointwise [k0_pay16, pay17_apply, wide]

/-- The log decays. -/
theorem out20_apply (l : Fin 256) : out0_20 x0 x1 x2 x3 x4 x5 x6 (ix2 r l)
    = decay ((∑ j : Fin 128, wide x0 x1 x2 r ⟨3072 + j.val, by omega⟩ * x5 (ix2 j l)) + x6 (ix2 0 l)) := by
  unfold out0_20
  frame_out
  pointwise [pay1_apply, pay17_apply, wide]

end Blocks

/-- A column the joined weights hold twice has the mean of its single copy. -/
theorem mean_twice (s : EReal) : Ideal.div (s + s) (Ideal.ofBits .f32 0x43000000#32) = Ideal.div s (Ideal.ofBits .f32 0x42800000#32) := by
  have h1 : Ideal.ofBits .f32 0x43000000#32 = ((128 : ℝ) : EReal) := by simp [Ideal.ofBits, Ideal.ieee, -EReal.coe_mul]; norm_num
  have h2 : Ideal.ofBits .f32 0x42800000#32 = ((64 : ℝ) : EReal) := by simp [Ideal.ofBits, Ideal.ieee, -EReal.coe_mul]; norm_num
  rw [h1, h2, Ideal.div, Ideal.div, if_neg (by norm_num), if_neg (by norm_num), ← EReal.coe_inv, ← EReal.coe_inv]
  induction s with
  | bot => rw [EReal.bot_add, EReal.bot_mul_coe_of_pos (by norm_num), EReal.bot_mul_coe_of_pos (by norm_num)]
  | top => rw [EReal.top_add_top, EReal.top_mul_coe_of_pos (by norm_num), EReal.top_mul_coe_of_pos (by norm_num)]
  | coe x =>
    rw [← EReal.coe_add, ← EReal.coe_mul, ← EReal.coe_mul]
    congr 1
    ring

/-- The layer norm of a row held twice is the layer norm of the row. -/
theorem layer_twice (z g b : Fin 64 → EReal) (l : Fin 128) :
    layer (Ideal.ofBits .f32 0x43000000#32) (fun l : Fin 128 => z ⟨l.val % 64, Nat.mod_lt _ (by decide)⟩) (fun l => g ⟨l.val % 64, Nat.mod_lt _ (by decide)⟩)
      (fun l => b ⟨l.val % 64, Nat.mod_lt _ (by decide)⟩) l
      = layer (Ideal.ofBits .f32 0x42800000#32) z g b ⟨l.val % 64, Nat.mod_lt _ (by decide)⟩ := by
  have hs (f : Fin 64 → EReal) : ∑ l : Fin 128, f ⟨l.val % 64, Nat.mod_lt _ (by decide)⟩ = (∑ l, f l) + ∑ l, f l := by
    rw [Fin.sum_univ_tiles 2 64 rfl, Fin.sum_univ_two]
    congr 1 <;> exact Finset.sum_congr rfl fun x _ => congrArg f (Fin.ext (by simp))
  have hm : Ideal.div (∑ l : Fin 128, z ⟨l.val % 64, Nat.mod_lt _ (by decide)⟩) (Ideal.ofBits .f32 0x43000000#32) = Ideal.div (∑ l, z l) (Ideal.ofBits .f32 0x42800000#32) := by
    rw [hs, mean_twice]
  unfold layer
  rw [hm, hs fun l => (z l - Ideal.div (∑ l, z l) (Ideal.ofBits .f32 0x42800000#32)) * (z l - Ideal.div (∑ l, z l) (Ideal.ofBits .f32 0x42800000#32)), mean_twice]

/-- The log sigmoid, written as the negated log of a sum of exponentials. -/
theorem log_sigmoid (g : EReal) :
    min g 0 - Ideal.log1p (Ideal.exp (0 - max g (-g))) = -(max (-g) 0 + Ideal.log1p (Ideal.exp (-max (-g) (- -g)))) := by
  have hx : (0 - max g (-g)) = -max (-g) (- -g) := by rw [neg_neg, max_comm, zero_sub]
  have hn : min g 0 = -max (-g) 0 := by
    rcases le_total g 0 with h | h
    · rw [min_eq_left h, max_eq_left (by rw [← neg_zero]; exact EReal.neg_le_neg_iff.2 h), neg_neg]
    · rw [min_eq_right h, max_eq_right (by rw [← neg_zero]; exact EReal.neg_le_neg_iff.2 h), neg_zero]
  have hl : ∀ x : EReal, 0 ≤ x → Ideal.log1p x ≠ ⊥ := by
    intro x h0 hb
    induction x with
    | bot => exact absurd h0 (by simp)
    | top =>
      rw [Ideal.log1p, EReal.add_top_of_ne_bot (by decide)] at hb
      exact absurd hb (by decide)
    | coe x =>
      have h0' : (0 : ℝ) ≤ x := by exact_mod_cast h0
      have h1 : (1 : EReal) + (x : EReal) = ((1 + x : ℝ) : EReal) := by push_cast; rfl
      rw [Ideal.log1p, h1] at hb
      have h2 : Ideal.log ((1 + x : ℝ) : EReal) = if 1 + x ≤ 0 then ⊥ else (Real.log (1 + x) : EReal) := rfl
      rw [h2, if_neg (by linarith)] at hb
      exact EReal.coe_ne_bot _ hb
  have he : ∀ x : EReal, 0 ≤ Ideal.exp x := by
    intro x
    induction x with
    | bot => exact le_refl _
    | top => exact le_top
    | coe x => exact EReal.coe_nonneg.2 (Real.exp_pos x).le
  rw [hx, hn, EReal.neg_add (.inl fun h => ?_) (.inr (hl _ (he _)))]
  have h0 : (0 : EReal) ≤ ⊥ := h ▸ le_max_right _ _
  exact absurd h0 (by simp)

end Cert.Proof.Proj
end
-- ==== Proof.ProjIn.lean ====
/-
  What the input projection's kernel reads (hand-written): its blocks of the tokens, the joined weights the host lays out, and the
  small operands it doubles or pads.
-/
module

public import proofs.«01_k».proof.Proof.Proj
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent
public import Idealize.ShloMosaic.Lib.Routing.Ops
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem
open Idealize.ShloMosaic.Pipeline (Dat)

namespace Cert.Proof.Proj

open Cert.Kernel4Ideal Cert.Kernel4Ideal.Gen

/-- Every window's block starts at row 512 times the point, or has one block. -/
theorem idx_in (t : Fin cfg0.N) : win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]) t

/-- The attention heads' places, in the order the kernel's queries stand: query head, key-value head, lane. -/
def place (k : Fin 512) : Fin 512 := ⟨k.val % 128 / 64 * 256 + k.val / 128 * 64 + k.val % 64, by omega⟩

/-- The table of columns the host gathers by names every column's place. -/
theorem table (k : Fin 512) : lit0 k = BitVec.ofNat 32 (place k).val :=
  (by decide +kernel : ∀ k : Fin 512, lit0 k = BitVec.ofNat 32 (place k).val) k

/-- Column `j` of the joined weights, from a row of the layer's own: the queries in the kernel's order, the index key twice, zeros after the index weights and after the gate's rank. -/
def joined (w : Fin 2904 → EReal) (j : Fin 3200) : EReal :=
  if h : j.val < 512 then w ⟨(place ⟨j.val, h⟩).val, by omega⟩
  else if h : j.val < 1344 then w ⟨j.val, by omega⟩
  else if h : j.val < 1416 then w ⟨j.val - 64, by omega⟩
  else if h : j.val < 1536 then 0
  else if h : j.val < 3088 then w ⟨j.val - 184, by omega⟩
  else 0

/-- A query column. -/
theorem joined_place (w : Fin 2904 → EReal) (j : Fin 3200) (h : j.val < 512) : joined w j = w ⟨(place ⟨j.val, h⟩).val, by omega⟩ := by
  unfold joined
  rw [dif_pos h]

/-- A column that stands where it stood. -/
theorem joined_same (w : Fin 2904 → EReal) (j : Fin 3200) (h : 512 ≤ j.val) (h' : j.val < 1344) (x : Fin 2904) (hx : x.val = j.val) :
    joined w j = w x := by
  unfold joined
  rw [dif_neg (by omega), dif_pos h']
  exact congrArg w (Fin.ext hx.symm)

/-- The second copy of the index key's columns, and the index weights' after it. -/
theorem joined_twice (w : Fin 2904 → EReal) (j : Fin 3200) (h : 1344 ≤ j.val) (h' : j.val < 1416) (x : Fin 2904) (hx : x.val + 64 = j.val) :
    joined w j = w x := by
  unfold joined
  rw [dif_neg (by omega), dif_neg (by omega), dif_pos h']
  exact congrArg w (Fin.ext (by show j.val - 64 = x.val; omega))

/-- The zeros after the index weights. -/
theorem joined_gap (w : Fin 2904 → EReal) (j : Fin 3200) (h : 1416 ≤ j.val) (h' : j.val < 1536) : joined w j = 0 := by
  unfold joined
  rw [dif_neg (by omega), dif_neg (by omega), dif_neg (by omega), dif_pos h']

/-- The recurrence's columns. -/
theorem joined_rest (w : Fin 2904 → EReal) (j : Fin 3200) (h : 1536 ≤ j.val) (h' : j.val < 3088) (x : Fin 2904) (hx : x.val + 184 = j.val) :
    joined w j = w x := by
  unfold joined
  rw [dif_neg (by omega), dif_neg (by omega), dif_neg (by omega), dif_neg (by omega), dif_pos h']
  exact congrArg w (Fin.ext (by show j.val - 184 = x.val; omega))

/-- The zeros after the gate's rank. -/
theorem joined_end (w : Fin 2904 → EReal) (j : Fin 3200) (h : 3088 ≤ j.val) : joined w j = 0 := by
  unfold joined
  rw [dif_neg (by omega), dif_neg (by omega), dif_neg (by omega), dif_neg (by omega), dif_neg (by omega)]

variable (m : (ℓ : Loc nD τ sig) → Buf (Elt Ideal) ℓ)

/-- A block of the tokens' rows. -/
theorem read0 (c : Dev nD) (t : Fin cfg0.N) (r : Fin 512) (k : Fin 1024) (i : Fin 16384) (hi : i.val = t.val * 512 + r.val) :
    iblk m c 0 t (ix2 r k) = m ((c : Thread nD τ).loc main_arg0) (ix2 i k) := by
  obtain ⟨e, -⟩ := idx_in t
  blk_ext! [iblk, V_main_arg0, e]

/-- An entry of a row of 64 held twice. -/
theorem half {α : Type} (f : S64.Idx → α) (l : Fin 128) :
    (if h : l.val < 64 then f (ix1 ⟨l.val, h⟩) else f (ix1 ⟨l.val - 64, by omega⟩)) = f (ix1 ⟨l.val % 64, Nat.mod_lt _ (by decide)⟩) := by
  split
  · exact congrArg (fun x => f (ix1 x)) (Fin.ext (by show l.val = l.val % 64; omega))
  · exact congrArg (fun x => f (ix1 x)) (Fin.ext (by show l.val - 64 = l.val % 64; omega))

/-- The norm's gain. -/
theorem read1 (c : Dev nD) (t : Fin cfg0.N) (k : Fin 1024) : iblk m c 1 t (ix2 (0 : Fin 1) k) = m ((c : Thread nD τ).loc main_arg1) (ix1 k) := by
  obtain ⟨-, e, -⟩ := idx_in t
  blk_ext! [iblk, e]

/-- The index key's gain, held twice. -/
theorem read3 (c : Dev nD) (t : Fin cfg0.N) (l : Fin 128) :
    iblk m c 3 t (ix2 (0 : Fin 1) l) = m ((c : Thread nD τ).loc main_arg3) (ix1 ⟨l.val % 64, Nat.mod_lt _ (by decide)⟩) := by
  obtain ⟨-, -, -, e, -⟩ := idx_in t
  have he : (win0_3.blk t).view.emb (ix2 (0 : Fin 1) l) = ix2 (0 : Fin 1) l := by
    blk_ext [e]
  unfold iblk
  entry_read
  blk_simp
  rw [he]
  pointwise
  exact half _ _

/-- The index key's offset, held twice. -/
theorem read4 (c : Dev nD) (t : Fin cfg0.N) (l : Fin 128) :
    iblk m c 4 t (ix2 (0 : Fin 1) l) = m ((c : Thread nD τ).loc main_arg4) (ix1 ⟨l.val % 64, Nat.mod_lt _ (by decide)⟩) := by
  obtain ⟨-, -, -, -, e, -⟩ := idx_in t
  have he : (win0_4.blk t).view.emb (ix2 (0 : Fin 1) l) = ix2 (0 : Fin 1) l := by
    blk_ext [e]
  unfold iblk
  entry_read
  blk_simp
  rw [he]
  pointwise
  exact half _ _

/-- The gate's bias. -/
theorem read6 (c : Dev nD) (t : Fin cfg0.N) (l : Fin 256) : iblk m c 6 t (ix2 (0 : Fin 1) l) = m ((c : Thread nD τ).loc main_arg6) (ix1 l) := by
  obtain ⟨-, -, -, -, -, -, e⟩ := idx_in t
  blk_ext! [iblk, e]

/-- The host's gather of the query columns takes each column's place. -/
theorem gather_place {α : Type} (x : S1024x512.Idx → α) (idx : IVec S512x1 32) (k : Fin 1024) (j : Fin 512)
    (h : idx (ix2 j (0 : Fin 1)) = BitVec.ofNat 32 (place j).val) :
    Host.gather gather_S1024x512_S512x1_S1024x512_0_1_n_n_1_1_10241 x idx (ix2 k j) = x (ix2 k (place j)) := by
  unfold Host.gather
  refine congrArg x (funext fun a => Fin.ext ?_)
  match a with
  | ⟨0, _⟩ =>
    show 0 + 0 + k.val = k.val
    omega
  | ⟨1, _⟩ =>
    have hs : GatherDims.start gather_S1024x512_S512x1_S1024x512_0_1_n_n_1_1_10241 (ix2 k j) idx 1 = min (idx (ix2 j (0 : Fin 1))).toInt.toNat 511 := by
      have hm : (1 : Fin 2) ∈ GatherDims.startIndexMap gather_S1024x512_S512x1_S1024x512_0_1_n_n_1_1_10241 := List.mem_singleton.2 rfl
      unfold GatherDims.start
      rw [dif_pos hm]
      refine congrArg (fun z => min (idx z).toInt.toNat 511) (funext fun b => Fin.ext ?_)
      match b with
      | ⟨0, _⟩ => rfl
      | ⟨1, _⟩ => rfl
    have hp := (place j).isLt
    refine (congrArg (· + 0 + 0) hs).trans ?_
    rw [h, StableHlo.Predicate.toInt_ofNat_small _ (by omega)]
    show min ((place j).val : Int).toNat 511 = (place j).val
    omega

/-- The host's scatter writes the sixteen rows on top. -/
theorem scatter_top {α : Type} (x : S128x256.Idx → α) (idx : IVec S1 32) (u : S16x256.Idx → α) (hi : idx (ix1 0) = 0#32) (j : Fin 128) (l : Fin 256) :
    Host.scatter scatter_S128x256_S1_S16x256_01_n_0_0 (fun _ b => b) x idx u (ix2 j l) = if h : j.val < 16 then u (ix2 ⟨j.val, h⟩ l) else x (ix2 j l) := by
  have key : ∀ (p : Fin 16) (q : Fin 256), ScatterDims.resultIdx? scatter_S128x256_S1_S16x256_01_n_0_0 (ix2 p q) idx = some (ix2 j l) ↔ p.val = j.val ∧ q = l := by
    intro p q
    have h0 : ScatterDims.start scatter_S128x256_S1_S16x256_01_n_0_0 (ix2 p q) idx 0 = 0 := by
      have hm : (0 : Fin 2) ∈ ScatterDims.scatterDimsToOperandDims scatter_S128x256_S1_S16x256_01_n_0_0 := List.mem_singleton.2 rfl
      unfold ScatterDims.start
      rw [dif_pos hm]
      refine (congrArg (fun z => (idx z).toInt) (a₂ := ix1 0) (funext fun b => Fin.ext ?_)).trans (by rw [hi]; rfl)
      match b with
      | ⟨0, _⟩ => rfl
    have h1 : ScatterDims.start scatter_S128x256_S1_S16x256_01_n_0_0 (ix2 p q) idx 1 = 0 := by
      rfl
    have h2 : ScatterDims.window scatter_S128x256_S1_S16x256_01_n_0_0 (ix2 p q) 0 = p.val := by
      rfl
    have h3 : ScatterDims.window scatter_S128x256_S1_S16x256_01_n_0_0 (ix2 p q) 1 = q.val := by
      rfl
    refine (Routing.resultIdx?_ix2 _ _ _ _ _).trans ?_
    rw [h0, h1, h2, h3, Fin.ext_iff]
    omega
  split
  · rename_i h
    refine Routing.scatter_set_hit _ _ _ _ _ _ (fun y hy => ?_) (ix2 ⟨j.val, h⟩ l) ((key _ _).2 ⟨rfl, rfl⟩)
    idx_vars y
    obtain ⟨e1, e2⟩ := (key _ _).1 hy
    rw [e2]
    exact congrArg (fun z => u (ix2 z l)) (Fin.ext e1)
  · rename_i h
    refine Routing.scatter_set_miss _ _ _ _ _ fun y hy => ?_
    idx_vars y
    have e1 := ((key _ _).1 hy).1
    omega

/-- The joined weights as the host lays them out, from the gathered query columns and the layer's own weights. -/
def joinedW (g : FVec Ideal S1024x512 .f32) (w : FVec Ideal S1024x2904 .f32) : FVec Ideal S1024x3200 .bf16 :=
  truncf .bf16 (concatenate S1024x3200 1
    [⟨S1024x512, g⟩,
     ⟨S1024x128, extractStridedSlice S1024x128 ![0, 512] w slices_S1024x2904_S1024x128_0_512⟩,
     ⟨S1024x128, extractStridedSlice S1024x128 ![0, 640] w slices_S1024x2904_S1024x128_0_640⟩,
     ⟨S1024x512, extractStridedSlice S1024x512 ![0, 768] w slices_S1024x2904_S1024x512_0_768⟩,
     ⟨S1024x64, extractStridedSlice S1024x64 ![0, 1280] w slices_S1024x2904_S1024x64_0_1280⟩,
     ⟨S1024x64, extractStridedSlice S1024x64 ![0, 1280] w slices_S1024x2904_S1024x64_0_1280⟩,
     ⟨S1024x8, extractStridedSlice S1024x8 ![0, 1344] w slices_S1024x2904_S1024x8_0_1344⟩,
     ⟨S1024x120, broadcastInDim S1024x120 ![] bcast_S_S1024x120 (constant (F := Ideal) S_ .f32 0x00000000#32)⟩,
     ⟨S1024x256, extractStridedSlice S1024x256 ![0, 1352] w slices_S1024x2904_S1024x256_0_1352⟩,
     ⟨S1024x256, extractStridedSlice S1024x256 ![0, 1608] w slices_S1024x2904_S1024x256_0_1608⟩,
     ⟨S1024x512, extractStridedSlice S1024x512 ![0, 1864] w slices_S1024x2904_S1024x512_0_1864⟩,
     ⟨S1024x512, extractStridedSlice S1024x512 ![0, 2376] w slices_S1024x2904_S1024x512_0_2376⟩,
     ⟨S1024x16, extractStridedSlice S1024x16 ![0, 2888] w slices_S1024x2904_S1024x16_0_2888⟩,
     ⟨S1024x112, broadcastInDim S1024x112 ![] bcast_S_S1024x112 (constant (F := Ideal) S_ .f32 0x00000000#32)⟩]
    concatenates_S1024x512_S1024x128_S1024x128_S1024x512_S1024x64_S1024x64_S1024x8_S1024x120_S1024x256_S1024x256_S1024x512_S1024x512_S1024x16_S1024x112_S1024x3200_d1)
    bitsLt_bf16_f32

/-- The gathered query columns. -/
def queriesW (w : FVec Ideal S1024x2904 .f32) : FVec Ideal S1024x512 .f32 :=
  Host.gather gather_S1024x512_S512x1_S1024x512_0_1_n_n_1_1_10241
    (extractStridedSlice S1024x512 ![0, 0] w slices_S1024x2904_S1024x512_0_0)
    (broadcastInDim S512x1 ![0] bcast_S512_S512x1_0
      (select (constantI S512 1 0#1)
        (addi (fun i => lit0 (S512.rowMajor i)) (broadcastInDim S512 ![] bcast_S_S512 (constantI S_ 32 512#32)))
        (fun i => lit0 (S512.rowMajor i))))

/-- A choice equals what both its branches equal. -/
theorem dite_cases {α : Type} {p : Prop} [Decidable p] {a : p → α} {b : ¬p → α} {x : α} (h1 : ∀ h, a h = x) (h2 : ∀ h, b h = x) :
    dite p a b = x := by
  by_cases h : p
  · rw [dif_pos h]; exact h1 h
  · rw [dif_neg h]; exact h2 h

/-- An entry of the joined weights. -/
theorem joinedW_apply (g : FVec Ideal S1024x512 .f32) (w : FVec Ideal S1024x2904 .f32) (k : Fin 1024)
    (hg : ∀ j : Fin 512, g (ix2 k j) = w (ix2 k ⟨(place j).val, by omega⟩)) (j : Fin 3200) :
    joinedW g w (ix2 k j) = joined (fun x => w (ix2 k x)) j := by
  pointwise [joinedW]
  refine dite_cases (fun h => (hg _).trans (joined_place (fun x => w (ix2 k x)) j h).symm) fun h => ?_
  repeat
    refine dite_cases (fun h => ?_) fun h => ?_
    · first
        | exact (joined_same (fun x => w (ix2 k x)) j (by omega) (by omega) _ (by dsimp only; omega)).symm
        | exact (joined_twice (fun x => w (ix2 k x)) j (by omega) (by omega) _ (by dsimp only; omega)).symm
        | exact (joined_gap (fun x => w (ix2 k x)) j (by omega) (by omega)).symm
        | exact (joined_rest (fun x => w (ix2 k x)) j (by omega) (by omega) _ (by dsimp only; omega)).symm
  exact (joined_end (fun x => w (ix2 k x)) j (by omega)).symm

/-- A gathered query column. -/
theorem queriesW_apply (w : FVec Ideal S1024x2904 .f32) (k : Fin 1024) (j : Fin 512) :
    queriesW w (ix2 k j) = w (ix2 k ⟨(place j).val, by omega⟩) := by
  refine (gather_place _ _ k j ?_).trans ?_
  · pointwise
    exact (congrArg lit0 (Fin.ext (Shape.rowMajor_val_one _))).trans (table j)
  pointwise

/-- What the kernel finds in its joined weights' buffer. -/
theorem entry2 (c : Dev nD) : V m c main_v19 = joinedW (queriesW (m ((c : Thread nD τ).loc main_arg2))) (m ((c : Thread nD τ).loc main_arg2)) := rfl

/-- A block of the joined weights. -/
theorem read2 (c : Dev nD) (t : Fin cfg0.N) (k : Fin 1024) (j : Fin 3200) :
    iblk m c 2 t (ix2 k j) = joined (fun x => m ((c : Thread nD τ).loc main_arg2) (ix2 k x)) j := by
  obtain ⟨-, -, e, -⟩ := idx_in t
  have he : (win0_2.blk t).view.emb (ix2 k j) = ix2 k j := by
    blk_ext [e]
  unfold iblk
  blk_simp
  show V m c main_v19 ((win0_2.blk t).view.emb (ix2 k j)) = _
  rw [he, entry2]
  exact joinedW_apply _ _ k (queriesW_apply _ k) j

/-- The gate's second factor as the host pads it. -/
def gateW (w : FVec Ideal S16x256 .f32) : FVec Ideal S128x256 .bf16 :=
  Host.scatter scatter_S128x256_S1_S16x256_01_n_0_0 (fun _ b => b)
    (broadcastInDim S128x256 ![] bcast_S_S128x256 (constant (F := Ideal) S_ .bf16 0x0000#16))
    (broadcastInDim S1 ![] bcast_S_S1 (constantI S_ 32 0#32))
    (truncf .bf16 w bitsLt_bf16_f32)

/-- An entry of the padded factor. -/
theorem gateW_apply (w : FVec Ideal S16x256 .f32) (j : Fin 128) (l : Fin 256) :
    gateW w (ix2 j l) = if h : j.val < 16 then w (ix2 ⟨j.val, h⟩ l) else (0 : EReal) := by
  refine (scatter_top _ _ _ (by pointwise) j l).trans ?_
  split
  · pointwise
  · pointwise

/-- What the kernel finds in its gate factor's buffer. -/
theorem entry5 (c : Dev nD) : V m c main_v27 = gateW (m ((c : Thread nD τ).loc main_arg5)) := by
  entry_read
  rfl

/-- The gate's second factor, on its sixteen rows; zeros below. -/
theorem read5 (c : Dev nD) (t : Fin cfg0.N) (j : Fin 128) (l : Fin 256) :
    iblk m c 5 t (ix2 j l) = if h : j.val < 16 then m ((c : Thread nD τ).loc main_arg5) (ix2 ⟨j.val, h⟩ l) else (0 : EReal) := by
  obtain ⟨-, -, -, -, -, e, -⟩ := idx_in t
  have he : (win0_5.blk t).view.emb (ix2 j l) = ix2 j l := by
    blk_ext [e]
  unfold iblk
  blk_simp
  show V m c main_v27 ((win0_5.blk t).view.emb (ix2 j l)) = _
  rw [he, entry5]
  exact gateW_apply _ j l

end Cert.Proof.Proj
end
-- ==== Proof.ProjVal.lean ====
/-
  What the input projection computes (hand-written), every result from one row of its wide product.
-/
module

public import proofs.«01_k».proof.Proof.ProjIn
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent
public import Idealize.ShloMosaic.Lib.Routing.Ops
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem
open Idealize.ShloMosaic.Pipeline (Dat)

namespace Cert.Proof.Proj

open Cert.Kernel4Ideal Cert.Kernel4Ideal.Gen

/-- Row `i` of the wide product: the normalized token against the layer's own weights. -/
def row (x : S16384x1024.Idx → EReal) (g : S1024.Idx → EReal) (w : S1024x2904.Idx → EReal) (i : Fin 16384) (j : Fin 2904) : EReal :=
  ∑ k, Norm.entry (fun k => x (ix2 i k)) (fun k => g (ix1 k)) k * w (ix2 k j)

/-- The attention queries of a row, in the kernel's order of heads, scaled. -/
def queries (f : Fin 2904 → EReal) (l : Fin 512) : EReal := f ⟨(place l).val, by omega⟩ * Ideal.ofBits .f32 0x3E38AA3B#32

/-- `n` columns of a row from column `o` on. -/
def part {n : Nat} (o : Nat) (h : o + n ≤ 2904) (f : Fin 2904 → EReal) (l : Fin n) : EReal := f ⟨o + l.val, by omega⟩

/-- The index key of a row: the layer norm of its sixty-four columns. -/
def indexKey (g b : S64.Idx → EReal) (f : Fin 2904 → EReal) (l : Fin 64) : EReal :=
  layer (Ideal.ofBits .f32 0x42800000#32) (part 1280 (by decide) f) (fun l => g (ix1 l)) (fun l => b (ix1 l)) l

/-- The index heads' weights of a row, scaled; zeros after the eighth. -/
def indexWeights (f : Fin 2904 → EReal) (l : Fin 128) : EReal :=
  if h : l.val < 8 then f ⟨1344 + l.val, by omega⟩ * Ideal.ofBits .f32 0x3D3504F3#32 else 0

/-- The log decays of a row. -/
def decays (w : S16x256.Idx → EReal) (b : S256.Idx → EReal) (f : Fin 2904 → EReal) (l : Fin 256) : EReal :=
  decay ((∑ j : Fin 16, f ⟨2888 + j.val, by omega⟩ * w (ix2 j l)) + b (ix1 l))

/-- The joined weights' product is the layer's own product, column by column. -/
theorem joined_sum (a : Fin 1024 → EReal) (w : Fin 1024 → Fin 2904 → EReal) (j : Fin 3200) :
    ∑ k, a k * joined (w k) j = joined (fun x => ∑ k, a k * w k x) j := by
  unfold joined
  refine (dite_cases (fun h => ?_) fun h => ?_).symm
  · simp only [dif_pos h]
  simp only [dif_neg h]
  refine dite_cases (fun h => ?_) fun h => ?_
  · simp only [dif_pos h]
  simp only [dif_neg h]
  refine dite_cases (fun h => ?_) fun h => ?_
  · simp only [dif_pos h]
  simp only [dif_neg h]
  refine dite_cases (fun h => ?_) fun h => ?_
  · simp only [dif_pos h, mul_zero, Finset.sum_const_zero]
  simp only [dif_neg h]
  refine dite_cases (fun h => ?_) fun h => ?_
  · simp only [dif_pos h]
  simp only [dif_neg h, mul_zero, Finset.sum_const_zero]

end Cert.Proof.Proj
end
-- ==== Proof.ProjOut.lean ====
/-
  What the input projection's kernel leaves in its fourteen results (hand-written).
-/
module

public import proofs.«01_k».proof.Proof.ProjVal
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent
public import Idealize.ShloMosaic.Lib.Routing.Ops
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem
open Idealize.ShloMosaic.Pipeline (Dat)

namespace Cert.Proof.Proj

open Cert.Kernel4Ideal Cert.Kernel4Ideal.Gen

variable (m : (ℓ : Loc nD τ sig) → Buf (Elt Ideal) ℓ)

/-- Row `i` of the wide product from the kernel's arguments. -/
abbrev rowK (c : Dev nD) (i : Fin 16384) : Fin 2904 → EReal :=
  row (m ((c : Thread nD τ).loc main_arg0)) (m ((c : Thread nD τ).loc main_arg1)) (m ((c : Thread nD τ).loc main_arg2)) i

/-- The wide product on a block's row is the joined row. -/
theorem wide_block (c : Dev nD) (t : Fin cfg0.N) (r : Fin 512) (i : Fin 16384) (hi : i.val = t.val * 512 + r.val) (j : Fin 3200) :
    wide (iblk m c 0 t) (iblk m c 1 t) (iblk m c 2 t) r j = joined (rowK m c i) j := by
  unfold wide
  simp only [read0 m c t r _ i hi, read1, read2]
  exact joined_sum _ (fun k x => m ((c : Thread nD τ).loc main_arg2) (ix2 k x)) j

/-- A block's row at a column that stands where it stood. -/
theorem wide_same (c : Dev nD) (t : Fin cfg0.N) (r : Fin 512) (i : Fin 16384) (hi : i.val = t.val * 512 + r.val) (j : Fin 3200)
    (h : 512 ≤ j.val) (h' : j.val < 1344) (x : Fin 2904) (hx : x.val = j.val) :
    wide (iblk m c 0 t) (iblk m c 1 t) (iblk m c 2 t) r j = rowK m c i x :=
  (wide_block m c t r i hi j).trans (joined_same _ j h h' x hx)

/-- A block's row at a column of the recurrence. -/
theorem wide_rest (c : Dev nD) (t : Fin cfg0.N) (r : Fin 512) (i : Fin 16384) (hi : i.val = t.val * 512 + r.val) (j : Fin 3200)
    (h : 1536 ≤ j.val) (h' : j.val < 3088) (x : Fin 2904) (hx : x.val + 184 = j.val) :
    wide (iblk m c 0 t) (iblk m c 1 t) (iblk m c 2 t) r j = rowK m c i x :=
  (wide_block m c t r i hi j).trans (joined_rest _ j h h' x hx)

/-- A block's row at a column of the index key, held twice. -/
theorem wide_key (c : Dev nD) (t : Fin cfg0.N) (r : Fin 512) (i : Fin 16384) (hi : i.val = t.val * 512 + r.val) (l : Fin 128) :
    wide (iblk m c 0 t) (iblk m c 1 t) (iblk m c 2 t) r ⟨1280 + l.val, by omega⟩ = rowK m c i ⟨1280 + l.val % 64, by omega⟩ := by
  refine (wide_block m c t r i hi _).trans ?_
  by_cases h : l.val < 64
  · exact joined_same _ _ (by dsimp only; omega) (by dsimp only; omega) _ (by dsimp only; omega)
  · exact joined_twice _ _ (by dsimp only; omega) (by dsimp only; omega) _ (by dsimp only; omega)

/-- A block's layer norm of the index key held twice is the index key's. -/
theorem layer_block (c : Dev nD) (t : Fin cfg0.N) (r : Fin 512) (i : Fin 16384) (hi : i.val = t.val * 512 + r.val) (l : Fin 128) :
    layer (Ideal.ofBits .f32 0x43000000#32) (fun l => wide (iblk m c 0 t) (iblk m c 1 t) (iblk m c 2 t) r ⟨1280 + l.val, by omega⟩)
      (fun l => iblk m c 3 t (ix2 0 l)) (fun l => iblk m c 4 t (ix2 0 l)) l
      = indexKey (m ((c : Thread nD τ).loc main_arg3)) (m ((c : Thread nD τ).loc main_arg4)) (rowK m c i) ⟨l.val % 64, Nat.mod_lt _ (by decide)⟩ := by
  simp only [wide_key m c t r i hi, read3, read4]
  exact layer_twice (part 1280 (by decide) (rowK m c i)) (fun l => m ((c : Thread nD τ).loc main_arg3) (ix1 l)) (fun l => m ((c : Thread nD τ).loc main_arg4) (ix1 l)) l

/-- A block's index weights. -/
theorem weights_block (c : Dev nD) (t : Fin cfg0.N) (r : Fin 512) (i : Fin 16384) (hi : i.val = t.val * 512 + r.val) (l : Fin 128) :
    wide (iblk m c 0 t) (iblk m c 1 t) (iblk m c 2 t) r ⟨1408 + l.val, by omega⟩ * Ideal.ofBits .f32 0x3D3504F3#32 = indexWeights (rowK m c i) l := by
  unfold indexWeights
  rw [wide_block m c t r i hi]
  by_cases h : l.val < 8
  · rw [dif_pos h, joined_twice (rowK m c i) ⟨1408 + l.val, by omega⟩ (by dsimp only; omega) (by dsimp only; omega) ⟨1344 + l.val, by omega⟩ (by dsimp only; omega)]
  · rw [dif_neg h, joined_gap (rowK m c i) ⟨1408 + l.val, by omega⟩ (by dsimp only; omega) (by dsimp only; omega), zero_mul]

/-- A block's log decays: only the sixteen columns of the gate's rank count. -/
theorem decay_block (c : Dev nD) (t : Fin cfg0.N) (r : Fin 512) (i : Fin 16384) (hi : i.val = t.val * 512 + r.val) (l : Fin 256) :
    decay ((∑ j : Fin 128, wide (iblk m c 0 t) (iblk m c 1 t) (iblk m c 2 t) r ⟨3072 + j.val, by omega⟩ * iblk m c 5 t (ix2 j l)) + iblk m c 6 t (ix2 0 l))
      = decays (m ((c : Thread nD τ).loc main_arg5)) (m ((c : Thread nD τ).loc main_arg6)) (rowK m c i) l := by
  unfold decays
  rw [read6]
  refine congrArg (fun s => decay (s + _)) ?_
  refine (Fin.sum_univ_add (a := 16) (b := 112) (fun j : Fin (16 + 112) => wide (iblk m c 0 t) (iblk m c 1 t) (iblk m c 2 t) r ⟨3072 + j.val, by omega⟩ * iblk m c 5 t (ix2 j l))).trans ?_
  rw [Finset.sum_eq_zero (s := Finset.univ (α := Fin 112)), add_zero]
  · refine Finset.sum_congr rfl fun j _ => ?_
    rw [read5, dif_pos (show (Fin.castAdd 112 j).val < 16 from j.isLt)]
    exact congrArg (· * _) (wide_rest m c t r i hi _ (by dsimp only; omega) (by show 3072 + j.val < 3088; omega) _ (by show 2888 + j.val + 184 = 3072 + j.val; omega))
  · intro j _
    rw [read5, dif_neg (show ¬(Fin.natAdd 16 j).val < 16 by show ¬ 16 + j.val < 16; omega), mul_zero]

/-- Every result's block starts at row 512 times the point. -/
theorem idx_out (t : Fin cfg0.N) : win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![t.val, 0] ∧ win0_20.index t = ![t.val, 0] :=
  (by decide +kernel : ∀ t : Fin grid0.N, win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![t.val, 0] ∧ win0_20.index t = ![t.val, 0]) t

/-- The attention queries. -/
def G7 (c : Dev nD) : Buf (Elt Ideal) ((c : Thread nD τ).loc main_v30_0) := fun i =>
  queries (rowK m c (i 0)) (i 1)

/-- The kernel leaves the attention queries. -/
theorem final7 (c : Dev nD) : (dats m 0 c).arrAt 7 (cfgs 0).N = G7 m c := by
  refine (dats m 0 c).arrAt_eq_of_covers 7 _ (by decide +kernel) fun t hf y => ?_
  blk_simp
  rw [after0_7]
  idx_vars y
  have ht : t.val < 32 := t.isLt
  obtain ⟨e, -⟩ := idx_out t
  have he : (win0_7.blk t).view.emb (ix2 y0 y1) = ix2 (⟨t.val * 512 + y0.val, by omega⟩ : Fin 16384) y1 := by
    blk_ext [e]
  show _ = G7 m c ((win0_7.blk t).view.emb (ix2 y0 y1))
  rw [he, out7_apply]
  exact congrArg (· * _) ((wide_block m c t y0 ⟨t.val * 512 + y0.val, by omega⟩ rfl _).trans (joined_place _ _ y1.isLt))

/-- The attention keys. -/
def G8 (c : Dev nD) : Buf (Elt Ideal) ((c : Thread nD τ).loc main_v30_1) := fun i =>
  part (n := 128) 512 (by decide) (rowK m c (i 0)) (i 1)

/-- The kernel leaves the attention keys. -/
theorem final8 (c : Dev nD) : (dats m 0 c).arrAt 8 (cfgs 0).N = G8 m c := by
  refine (dats m 0 c).arrAt_eq_of_covers 8 _ (by decide +kernel) fun t hf y => ?_
  blk_simp
  rw [after0_8]
  idx_vars y
  have ht : t.val < 32 := t.isLt
  obtain ⟨-, e, -⟩ := idx_out t
  have he : (win0_8.blk t).view.emb (ix2 y0 y1) = ix2 (⟨t.val * 512 + y0.val, by omega⟩ : Fin 16384) y1 := by
    blk_ext [e]
  show _ = G8 m c ((win0_8.blk t).view.emb (ix2 y0 y1))
  rw [he, out8_apply]
  exact wide_same m c t y0 ⟨t.val * 512 + y0.val, by omega⟩ rfl _ (by dsimp only; omega) (by dsimp only; omega) ⟨512 + y1.val, by omega⟩ (by dsimp only)

/-- The attention values. -/
def G9 (c : Dev nD) : Buf (Elt Ideal) ((c : Thread nD τ).loc main_v30_2) := fun i =>
  part (n := 128) 640 (by decide) (rowK m c (i 0)) (i 1)

/-- The kernel leaves the attention values. -/
theorem final9 (c : Dev nD) : (dats m 0 c).arrAt 9 (cfgs 0).N = G9 m c := by
  refine (dats m 0 c).arrAt_eq_of_covers 9 _ (by decide +kernel) fun t hf y => ?_
  blk_simp
  rw [after0_9]
  idx_vars y
  have ht : t.val < 32 := t.isLt
  obtain ⟨-, -, e, -⟩ := idx_out t
  have he : (win0_9.blk t).view.emb (ix2 y0 y1) = ix2 (⟨t.val * 512 + y0.val, by omega⟩ : Fin 16384) y1 := by
    blk_ext [e]
  show _ = G9 m c ((win0_9.blk t).view.emb (ix2 y0 y1))
  rw [he, out9_apply]
  exact wide_same m c t y0 ⟨t.val * 512 + y0.val, by omega⟩ rfl _ (by dsimp only; omega) (by dsimp only; omega) ⟨640 + y1.val, by omega⟩ (by dsimp only)

/-- The attention keys, rounded. -/
def G10 (c : Dev nD) : Buf (Elt Ideal) ((c : Thread nD τ).loc main_v30_3) := fun i =>
  part (n := 128) 512 (by decide) (rowK m c (i 0)) (i 1)

/-- The kernel leaves the attention keys, rounded. -/
theorem final10 (c : Dev nD) : (dats m 0 c).arrAt 10 (cfgs 0).N = G10 m c := by
  refine (dats m 0 c).arrAt_eq_of_covers 10 _ (by decide +kernel) fun t hf y => ?_
  blk_simp
  rw [after0_10]
  idx_vars y
  have ht : t.val < 32 := t.isLt
  obtain ⟨-, -, -, e, -⟩ := idx_out t
  have he : (win0_10.blk t).view.emb (ix2 y0 y1) = ix2 (⟨t.val * 512 + y0.val, by omega⟩ : Fin 16384) y1 := by
    blk_ext [e]
  show _ = G10 m c ((win0_10.blk t).view.emb (ix2 y0 y1))
  rw [he, out10_apply]
  exact wide_same m c t y0 ⟨t.val * 512 + y0.val, by omega⟩ rfl _ (by dsimp only; omega) (by dsimp only; omega) ⟨512 + y1.val, by omega⟩ (by dsimp only)

/-- The attention values, rounded. -/
def G11 (c : Dev nD) : Buf (Elt Ideal) ((c : Thread nD τ).loc main_v30_4) := fun i =>
  part (n := 128) 640 (by decide) (rowK m c (i 0)) (i 1)

/-- The kernel leaves the attention values, rounded. -/
theorem final11 (c : Dev nD) : (dats m 0 c).arrAt 11 (cfgs 0).N = G11 m c := by
  refine (dats m 0 c).arrAt_eq_of_covers 11 _ (by decide +kernel) fun t hf y => ?_
  blk_simp
  rw [after0_11]
  idx_vars y
  have ht : t.val < 32 := t.isLt
  obtain ⟨-, -, -, -, e, -⟩ := idx_out t
  have he : (win0_11.blk t).view.emb (ix2 y0 y1) = ix2 (⟨t.val * 512 + y0.val, by omega⟩ : Fin 16384) y1 := by
    blk_ext [e]
  show _ = G11 m c ((win0_11.blk t).view.emb (ix2 y0 y1))
  rw [he, out11_apply]
  exact wide_same m c t y0 ⟨t.val * 512 + y0.val, by omega⟩ rfl _ (by dsimp only; omega) (by dsimp only; omega) ⟨640 + y1.val, by omega⟩ (by dsimp only)

/-- The index queries. -/
def G12 (c : Dev nD) : Buf (Elt Ideal) ((c : Thread nD τ).loc main_v30_5) := fun i =>
  part (n := 512) 768 (by decide) (rowK m c (i 0)) (i 1)

/-- The kernel leaves the index queries. -/
theorem final12 (c : Dev nD) : (dats m 0 c).arrAt 12 (cfgs 0).N = G12 m c := by
  refine (dats m 0 c).arrAt_eq_of_covers 12 _ (by decide +kernel) fun t hf y => ?_
  blk_simp
  rw [after0_12]
  idx_vars y
  have ht : t.val < 32 := t.isLt
  obtain ⟨-, -, -, -, -, e, -⟩ := idx_out t
  have he : (win0_12.blk t).view.emb (ix2 y0 y1) = ix2 (⟨t.val * 512 + y0.val, by omega⟩ : Fin 16384) y1 := by
    blk_ext [e]
  show _ = G12 m c ((win0_12.blk t).view.emb (ix2 y0 y1))
  rw [he, out12_apply]
  exact wide_same m c t y0 ⟨t.val * 512 + y0.val, by omega⟩ rfl _ (by dsimp only; omega) (by dsimp only; omega) ⟨768 + y1.val, by omega⟩ (by dsimp only)

/-- The index keys. -/
def G13 (c : Dev nD) : Buf (Elt Ideal) ((c : Thread nD τ).loc main_v30_6) := fun i =>
  indexKey (m ((c : Thread nD τ).loc main_arg3)) (m ((c : Thread nD τ).loc main_arg4)) (rowK m c (i 0)) (i 1)

/-- The kernel leaves the index keys. -/
theorem final13 (c : Dev nD) : (dats m 0 c).arrAt 13 (cfgs 0).N = G13 m c := by
  refine (dats m 0 c).arrAt_eq_of_covers 13 _ (by decide +kernel) fun t hf y => ?_
  blk_simp
  rw [after0_13]
  idx_vars y
  have ht : t.val < 32 := t.isLt
  obtain ⟨-, -, -, -, -, -, e, -⟩ := idx_out t
  have he : (win0_13.blk t).view.emb (ix2 y0 y1) = ix2 (⟨t.val * 512 + y0.val, by omega⟩ : Fin 16384) y1 := by
    blk_ext [e]
  show _ = G13 m c ((win0_13.blk t).view.emb (ix2 y0 y1))
  rw [he, out13_apply]
  exact (layer_block m c t y0 ⟨t.val * 512 + y0.val, by omega⟩ rfl _).trans (congrArg (indexKey _ _ _) (Fin.ext (Nat.mod_eq_of_lt y1.isLt)))

/-- The index keys in both halves. -/
def G14 (c : Dev nD) : Buf (Elt Ideal) ((c : Thread nD τ).loc main_v30_7) := fun i =>
  indexKey (m ((c : Thread nD τ).loc main_arg3)) (m ((c : Thread nD τ).loc main_arg4)) (rowK m c (i 0)) ⟨(i 1).val % 64, Nat.mod_lt _ (by decide)⟩

/-- The kernel leaves the index keys in both halves. -/
theorem final14 (c : Dev nD) : (dats m 0 c).arrAt 14 (cfgs 0).N = G14 m c := by
  refine (dats m 0 c).arrAt_eq_of_covers 14 _ (by decide +kernel) fun t hf y => ?_
  blk_simp
  rw [after0_14]
  idx_vars y
  have ht : t.val < 32 := t.isLt
  obtain ⟨-, -, -, -, -, -, -, e, -⟩ := idx_out t
  have he : (win0_14.blk t).view.emb (ix2 y0 y1) = ix2 (⟨t.val * 512 + y0.val, by omega⟩ : Fin 16384) y1 := by
    blk_ext [e]
  show _ = G14 m c ((win0_14.blk t).view.emb (ix2 y0 y1))
  rw [he, out14_apply]
  exact layer_block m c t y0 ⟨t.val * 512 + y0.val, by omega⟩ rfl y1

/-- The index weights. -/
def G15 (c : Dev nD) : Buf (Elt Ideal) ((c : Thread nD τ).loc main_v30_8) := fun i =>
  indexWeights (rowK m c (i 0)) (i 1)

/-- The kernel leaves the index weights. -/
theorem final15 (c : Dev nD) : (dats m 0 c).arrAt 15 (cfgs 0).N = G15 m c := by
  refine (dats m 0 c).arrAt_eq_of_covers 15 _ (by decide +kernel) fun t hf y => ?_
  blk_simp
  rw [after0_15]
  idx_vars y
  have ht : t.val < 32 := t.isLt
  obtain ⟨-, -, -, -, -, -, -, -, e, -⟩ := idx_out t
  have he : (win0_15.blk t).view.emb (ix2 y0 y1) = ix2 (⟨t.val * 512 + y0.val, by omega⟩ : Fin 16384) y1 := by
    blk_ext [e]
  show _ = G15 m c ((win0_15.blk t).view.emb (ix2 y0 y1))
  rw [he, out15_apply]
  exact weights_block m c t y0 ⟨t.val * 512 + y0.val, by omega⟩ rfl y1

/-- The recurrence queries, scaled. -/
def G16 (c : Dev nD) : Buf (Elt Ideal) ((c : Thread nD τ).loc main_v30_9) := fun i =>
  part (n := 256) 1352 (by decide) (rowK m c (i 0)) (i 1) * Ideal.ofBits .f32 0x3E000000#32

/-- The kernel leaves the recurrence queries, scaled. -/
theorem final16 (c : Dev nD) : (dats m 0 c).arrAt 16 (cfgs 0).N = G16 m c := by
  refine (dats m 0 c).arrAt_eq_of_covers 16 _ (by decide +kernel) fun t hf y => ?_
  blk_simp
  rw [after0_16]
  idx_vars y
  have ht : t.val < 32 := t.isLt
  obtain ⟨-, -, -, -, -, -, -, -, -, e, -⟩ := idx_out t
  have he : (win0_16.blk t).view.emb (ix2 y0 y1) = ix2 (⟨t.val * 512 + y0.val, by omega⟩ : Fin 16384) y1 := by
    blk_ext [e]
  show _ = G16 m c ((win0_16.blk t).view.emb (ix2 y0 y1))
  rw [he, out16_apply]
  exact congrArg (· * _) (wide_rest m c t y0 ⟨t.val * 512 + y0.val, by omega⟩ rfl _ (by dsimp only; omega) (by dsimp only; omega) ⟨1352 + y1.val, by omega⟩ (by dsimp only; omega))

/-- The recurrence keys. -/
def G17 (c : Dev nD) : Buf (Elt Ideal) ((c : Thread nD τ).loc main_v30_10) := fun i =>
  part (n := 256) 1608 (by decide) (rowK m c (i 0)) (i 1)

/-- The kernel leaves the recurrence keys. -/
theorem final17 (c : Dev nD) : (dats m 0 c).arrAt 17 (cfgs 0).N = G17 m c := by
  refine (dats m 0 c).arrAt_eq_of_covers 17 _ (by decide +kernel) fun t hf y => ?_
  blk_simp
  rw [after0_17]
  idx_vars y
  have ht : t.val < 32 := t.isLt
  obtain ⟨-, -, -, -, -, -, -, -, -, -, e, -⟩ := idx_out t
  have he : (win0_17.blk t).view.emb (ix2 y0 y1) = ix2 (⟨t.val * 512 + y0.val, by omega⟩ : Fin 16384) y1 := by
    blk_ext [e]
  show _ = G17 m c ((win0_17.blk t).view.emb (ix2 y0 y1))
  rw [he, out17_apply]
  exact wide_rest m c t y0 ⟨t.val * 512 + y0.val, by omega⟩ rfl _ (by dsimp only; omega) (by dsimp only; omega) ⟨1608 + y1.val, by omega⟩ (by dsimp only; omega)

/-- The recurrence values. -/
def G18 (c : Dev nD) : Buf (Elt Ideal) ((c : Thread nD τ).loc main_v30_11) := fun i =>
  part (n := 512) 1864 (by decide) (rowK m c (i 0)) (i 1)

/-- The kernel leaves the recurrence values. -/
theorem final18 (c : Dev nD) : (dats m 0 c).arrAt 18 (cfgs 0).N = G18 m c := by
  refine (dats m 0 c).arrAt_eq_of_covers 18 _ (by decide +kernel) fun t hf y => ?_
  blk_simp
  rw [after0_18]
  idx_vars y
  have ht : t.val < 32 := t.isLt
  obtain ⟨-, -, -, -, -, -, -, -, -, -, -, e, -⟩ := idx_out t
  have he : (win0_18.blk t).view.emb (ix2 y0 y1) = ix2 (⟨t.val * 512 + y0.val, by omega⟩ : Fin 16384) y1 := by
    blk_ext [e]
  show _ = G18 m c ((win0_18.blk t).view.emb (ix2 y0 y1))
  rw [he, out18_apply]
  exact wide_rest m c t y0 ⟨t.val * 512 + y0.val, by omega⟩ rfl _ (by dsimp only; omega) (by dsimp only; omega) ⟨1864 + y1.val, by omega⟩ (by dsimp only; omega)

/-- The recurrence output gates. -/
def G19 (c : Dev nD) : Buf (Elt Ideal) ((c : Thread nD τ).loc main_v30_12) := fun i =>
  part (n := 512) 2376 (by decide) (rowK m c (i 0)) (i 1)

/-- The kernel leaves the recurrence output gates. -/
theorem final19 (c : Dev nD) : (dats m 0 c).arrAt 19 (cfgs 0).N = G19 m c := by
  refine (dats m 0 c).arrAt_eq_of_covers 19 _ (by decide +kernel) fun t hf y => ?_
  blk_simp
  rw [after0_19]
  idx_vars y
  have ht : t.val < 32 := t.isLt
  obtain ⟨-, -, -, -, -, -, -, -, -, -, -, -, e, -⟩ := idx_out t
  have he : (win0_19.blk t).view.emb (ix2 y0 y1) = ix2 (⟨t.val * 512 + y0.val, by omega⟩ : Fin 16384) y1 := by
    blk_ext [e]
  show _ = G19 m c ((win0_19.blk t).view.emb (ix2 y0 y1))
  rw [he, out19_apply]
  exact wide_rest m c t y0 ⟨t.val * 512 + y0.val, by omega⟩ rfl _ (by dsimp only; omega) (by dsimp only; omega) ⟨2376 + y1.val, by omega⟩ (by dsimp only; omega)

/-- The log decays. -/
def G20 (c : Dev nD) : Buf (Elt Ideal) ((c : Thread nD τ).loc main_v30_13) := fun i =>
  decays (m ((c : Thread nD τ).loc main_arg5)) (m ((c : Thread nD τ).loc main_arg6)) (rowK m c (i 0)) (i 1)

/-- The kernel leaves the log decays. -/
theorem final20 (c : Dev nD) : (dats m 0 c).arrAt 20 (cfgs 0).N = G20 m c := by
  refine (dats m 0 c).arrAt_eq_of_covers 20 _ (by decide +kernel) fun t hf y => ?_
  blk_simp
  rw [after0_20]
  idx_vars y
  have ht : t.val < 32 := t.isLt
  obtain ⟨-, -, -, -, -, -, -, -, -, -, -, -, -, e⟩ := idx_out t
  have he : (win0_20.blk t).view.emb (ix2 y0 y1) = ix2 (⟨t.val * 512 + y0.val, by omega⟩ : Fin 16384) y1 := by
    blk_ext [e]
  show _ = G20 m c ((win0_20.blk t).view.emb (ix2 y0 y1))
  rw [he, out20_apply]
  exact decay_block m c t y0 ⟨t.val * 512 + y0.val, by omega⟩ rfl y1

end Cert.Proof.Proj
end
-- ==== Proof.ProjRef.lean ====
/-
  What the input projection's reference computes (hand-written), each of its fourteen results read from its wide product.
-/
module

public import proofs.«01_k».proof.Proof.ProjOut
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Quiescent
public import Idealize.ShloMosaic.Lib.Routing.Ops
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem
open Idealize.ShloMosaic.Pipeline (Dat)

namespace Cert.Proof.ProjRef

open Cert.Reference4Ideal Cert.Reference4Ideal.Gen
open Cert.Proof.Proj (row queries part indexKey indexWeights decays place layer decay log_sigmoid)

/-- The reference's normalized tokens. -/
def normed (x : FVec Ideal S16384x1024 .f32) (g : FVec Ideal S1024 .f32) : FVec Ideal S16384x1024 .f32 :=
  mulf (mulf x (broadcastInDim S16384x1024 ![0, 1] bcast_S16384x1_S16384x1024_0_1
      (Host.rsqrt (addf (Host.divf (broadcastInDim S16384x1 ![0] bcast_S16384_S16384x1_0
          (Host.reduceAdd (mulf x x) (constant S_ .f32 0x00000000#32) reducesTo_S16384x1024_S16384_d1 h_S_))
        (broadcastInDim S16384x1 ![] bcast_S_S16384x1 (constant S_ .f32 0x44800000#32)))
        (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The reference's wide product. -/
def product (x : FVec Ideal S16384x1024 .f32) (g : FVec Ideal S1024 .f32) (w : FVec Ideal S1024x2904 .f32) : FVec Ideal S16384x2904 .f32 :=
  Host.dotGeneral dot_S16384x1024_S1024x2904_S16384x2904_1_0_0_1_n_n none (normed x g) w

/-- An entry of the wide product is the row's. -/
theorem product_apply (x : FVec Ideal S16384x1024 .f32) (g : FVec Ideal S1024 .f32) (w : FVec Ideal S1024x2904 .f32) (i : Fin 16384) (j : Fin 2904) :
    product x g w (ix2 i j) = row x g w i j := by
  pointwise [product, normed, row, Norm.entry]

section Pieces

variable (z : FVec Ideal S16384x2904 .f32) (i : Fin 16384)

/-- The attention queries, reordered and scaled. -/
def heads : FVec Ideal S16384x512 .bf16 :=
  truncf .bf16 (mulf (shapeCast _ (transpose S16384x4x2x64 [0, 2, 1, 3]
      (shapeCast _ (extractStridedSlice S16384x512 ![0, 0] z slices_S16384x2904_S16384x512_0_0) shapeCasts_S16384x512_S16384x2x4x64)
      transposes_S16384x2x4x64_S16384x4x2x64_0_2_1_3) shapeCasts_S16384x4x2x64_S16384x512)
    (broadcastInDim S16384x512 ![] bcast_S_S16384x512 (constant S_ .f32 0x3E38AA3B#32))) bitsLt_bf16_f32

/-- An entry of the attention queries. -/
theorem heads_apply (l : Fin 512) : heads z (ix2 i l) = queries (fun j => z (ix2 i j)) l := by
  pointwise [heads]
  unfold queries
  refine congrArg (fun x => z (ix2 i x) * Ideal.ofBits .f32 0x3E38AA3B#32) (Fin.ext ?_)
  show l.val / 64 % 2 * 256 + l.val / 128 * 64 + l.val % 64 = l.val % 128 / 64 * 256 + l.val / 128 * 64 + l.val % 64
  omega

/-- The layer norm of the index key's columns. -/
def key (g b : FVec Ideal S64 .f32) : FVec Ideal S16384x64 .f32 :=
  addf (mulf (mulf
    (subf (extractStridedSlice S16384x64 ![0, 1280] z slices_S16384x2904_S16384x64_0_1280)
      (broadcastInDim S16384x64 ![0, 1] bcast_S16384x1_S16384x64_0_1 (Host.divf (broadcastInDim S16384x1 ![0] bcast_S16384_S16384x1_0
        (Host.reduceAdd (extractStridedSlice S16384x64 ![0, 1280] z slices_S16384x2904_S16384x64_0_1280) (constant S_ .f32 0x00000000#32) reducesTo_S16384x64_S16384_d1 h_S_))
        (broadcastInDim S16384x1 ![] bcast_S_S16384x1 (constant S_ .f32 0x42800000#32)))))
    (broadcastInDim S16384x64 ![0, 1] bcast_S16384x1_S16384x64_0_1 (Host.rsqrt (addf (Host.divf (broadcastInDim S16384x1 ![0] bcast_S16384_S16384x1_0
      (Host.reduceAdd (mulf
        (subf (extractStridedSlice S16384x64 ![0, 1280] z slices_S16384x2904_S16384x64_0_1280)
          (broadcastInDim S16384x64 ![0, 1] bcast_S16384x1_S16384x64_0_1 (Host.divf (broadcastInDim S16384x1 ![0] bcast_S16384_S16384x1_0
            (Host.reduceAdd (extractStridedSlice S16384x64 ![0, 1280] z slices_S16384x2904_S16384x64_0_1280) (constant S_ .f32 0x00000000#32) reducesTo_S16384x64_S16384_d1 h_S_))
            (broadcastInDim S16384x1 ![] bcast_S_S16384x1 (constant S_ .f32 0x42800000#32)))))
        (subf (extractStridedSlice S16384x64 ![0, 1280] z slices_S16384x2904_S16384x64_0_1280)
          (broadcastInDim S16384x64 ![0, 1] bcast_S16384x1_S16384x64_0_1 (Host.divf (broadcastInDim S16384x1 ![0] bcast_S16384_S16384x1_0
            (Host.reduceAdd (extractStridedSlice S16384x64 ![0, 1280] z slices_S16384x2904_S16384x64_0_1280) (constant S_ .f32 0x00000000#32) reducesTo_S16384x64_S16384_d1 h_S_))
            (broadcastInDim S16384x1 ![] bcast_S_S16384x1 (constant S_ .f32 0x42800000#32))))))
        (constant S_ .f32 0x00000000#32) reducesTo_S16384x64_S16384_d1 h_S_))
      (broadcastInDim S16384x1 ![] bcast_S_S16384x1 (constant S_ .f32 0x42800000#32)))
      (broadcastInDim S16384x1 ![] bcast_S_S16384x1 (constant S_ .f32 0x3727C5AC#32))))))
    (broadcastInDim S16384x64 ![0, 1] bcast_S1x64_S16384x64_0_1 (broadcastInDim S1x64 ![1] bcast_S64_S1x64_1 g)))
    (broadcastInDim S16384x64 ![0, 1] bcast_S1x64_S16384x64_0_1 (broadcastInDim S1x64 ![1] bcast_S64_S1x64_1 b))

/-- An entry of the index key. -/
theorem key_apply (g b : FVec Ideal S64 .f32) (l : Fin 64) : key z g b (ix2 i l) = indexKey g b (fun j => z (ix2 i j)) l := by
  pointwise [key, indexKey, layer, part]

/-- The index key in both halves. -/
def twice (k : FVec Ideal S16384x64 .f32) : FVec Ideal S16384x128 .bf16 :=
  truncf .bf16 (concatenate S16384x128 1 [⟨S16384x64, k⟩, ⟨S16384x64, k⟩] concatenates_S16384x64_S16384x64_S16384x128_d1) bitsLt_bf16_f32

/-- An entry of the doubled index key. -/
theorem twice_apply (k : FVec Ideal S16384x64 .f32) (l : Fin 128) : twice k (ix2 i l) = k (ix2 i ⟨l.val % 64, Nat.mod_lt _ (by decide)⟩) := by
  pointwise [twice]
  split
  · exact congrArg (fun x => k (ix2 i x)) (Fin.ext (by show l.val = l.val % 64; omega))
  · exact congrArg (fun x => k (ix2 i x)) (Fin.ext (by show l.val - 64 = l.val % 64; omega))

/-- The index weights, padded. -/
def weights : FVec Ideal S16384x128 .f32 :=
  pad S16384x128 ![0, 0] ![0, 120] ![0, 0] (mulf (extractStridedSlice S16384x8 ![0, 1344] z slices_S16384x2904_S16384x8_0_1344)
    (broadcastInDim S16384x8 ![] bcast_S_S16384x8 (constant S_ .f32 0x3D3504F3#32))) (sitofp .f32 (constantI S_ 32 0#32)) pads_S16384x8_S16384x128_000_01200 h_S_

/-- The integer zero as a float. -/
theorem zero : (FloatOps.sitofp .f32 (0#32) : Ideal .f32) = (0 : EReal) := by
  show (((0#32 : BitVec 32).toInt : ℝ) : EReal) = 0
  simp

/-- An entry of the index weights. -/
theorem weights_apply (l : Fin 128) : weights z (ix2 i l) = indexWeights (fun j => z (ix2 i j)) l := by
  pointwise [weights, indexWeights]
  rw [zero]

/-- The gate of the log decays. -/
def gate (w : FVec Ideal S16x256 .f32) (b : FVec Ideal S256 .f32) : FVec Ideal S16384x256 .f32 :=
  addf (Host.dotGeneral dot_S16384x16_S16x256_S16384x256_1_0_0_1_n_n none (extractStridedSlice S16384x16 ![0, 2888] z slices_S16384x2904_S16384x16_0_2888) w)
    (broadcastInDim S16384x256 ![0, 1] bcast_S1x256_S16384x256_0_1 (broadcastInDim S1x256 ![1] bcast_S256_S1x256_1 b))

/-- The log sigmoid over sixteen, as the reference spells it. -/
def logs (a : FVec Ideal S16384x256 .f32) : FVec Ideal S16384x256 .f32 :=
  Host.divf (Host.negf (select
      (cmpf .une (subf (Host.negf a) (broadcastInDim S16384x256 ![] bcast_S_S16384x256 (constant S_ .f32 0x00000000#32)))
        (subf (Host.negf a) (broadcastInDim S16384x256 ![] bcast_S_S16384x256 (constant S_ .f32 0x00000000#32))))
      (addf (Host.negf a) (broadcastInDim S16384x256 ![] bcast_S_S16384x256 (constant S_ .f32 0x00000000#32)))
      (addf (maximumf (Host.negf a) (broadcastInDim S16384x256 ![] bcast_S_S16384x256 (constant S_ .f32 0x00000000#32)))
        (Host.log1p (Host.exp (Host.negf (Host.absf (subf (Host.negf a) (broadcastInDim S16384x256 ![] bcast_S_S16384x256 (constant S_ .f32 0x00000000#32))))))))))
    (broadcastInDim S16384x256 ![] bcast_S_S16384x256 (constant S_ .f32 0x41800000#32))

/-- An entry of the log sigmoid. -/
theorem logs_apply (a : FVec Ideal S16384x256 .f32) (l : Fin 256) : logs a (ix2 i l) = decay (a (ix2 i l)) := by
  unfold decay
  rw [log_sigmoid]
  pointwise [logs]
  rw [if_neg (fun h => h rfl)]
  rfl

/-- An entry of the gate. -/
theorem gate_apply (w : FVec Ideal S16x256 .f32) (b : FVec Ideal S256 .f32) (l : Fin 256) :
    decay (gate z w b (ix2 i l)) = decays w b (fun j => z (ix2 i j)) l := by
  unfold decays
  pointwise [gate]

/-- Columns of the wide product from 512 on. -/
theorem cut512 (l : Fin 128) : extractStridedSlice S16384x128 ![0, 512] z slices_S16384x2904_S16384x128_0_512 (ix2 i l) =
    part (n := 128) 512 (by decide) (fun j => z (ix2 i j)) l := by pointwise [part]

/-- Columns of the wide product from 640 on. -/
theorem cut640 (l : Fin 128) : extractStridedSlice S16384x128 ![0, 640] z slices_S16384x2904_S16384x128_0_640 (ix2 i l) =
    part (n := 128) 640 (by decide) (fun j => z (ix2 i j)) l := by pointwise [part]

/-- Columns of the wide product from 768 on. -/
theorem cut768 (l : Fin 512) : extractStridedSlice S16384x512 ![0, 768] z slices_S16384x2904_S16384x512_0_768 (ix2 i l) =
    part (n := 512) 768 (by decide) (fun j => z (ix2 i j)) l := by pointwise [part]

/-- Columns of the wide product from 1352 on, scaled. -/
theorem cut1352 (l : Fin 256) : mulf (extractStridedSlice S16384x256 ![0, 1352] z slices_S16384x2904_S16384x256_0_1352)
      (broadcastInDim S16384x256 ![] bcast_S_S16384x256 (constant S_ .f32 0x3E000000#32)) (ix2 i l) =
    part (n := 256) 1352 (by decide) (fun j => z (ix2 i j)) l * Ideal.ofBits .f32 0x3E000000#32 := by pointwise [part]

/-- Columns of the wide product from 1608 on. -/
theorem cut1608 (l : Fin 256) : extractStridedSlice S16384x256 ![0, 1608] z slices_S16384x2904_S16384x256_0_1608 (ix2 i l) =
    part (n := 256) 1608 (by decide) (fun j => z (ix2 i j)) l := by pointwise [part]

/-- Columns of the wide product from 1864 on. -/
theorem cut1864 (l : Fin 512) : extractStridedSlice S16384x512 ![0, 1864] z slices_S16384x2904_S16384x512_0_1864 (ix2 i l) =
    part (n := 512) 1864 (by decide) (fun j => z (ix2 i j)) l := by pointwise [part]

/-- Columns of the wide product from 2376 on. -/
theorem cut2376 (l : Fin 512) : extractStridedSlice S16384x512 ![0, 2376] z slices_S16384x2904_S16384x512_0_2376 (ix2 i l) =
    part (n := 512) 2376 (by decide) (fun j => z (ix2 i j)) l := by pointwise [part]

end Pieces

/-- A `256`-, `512`-, `128`- or `64`-column array read from the wide product is read from its rows. -/
theorem lift {n : Nat} {α : Type} (x : FVec Ideal S16384x1024 .f32) (g : FVec Ideal S1024 .f32) (w : FVec Ideal S1024x2904 .f32)
    (A : Fin 16384 → Fin n → α) (R : (Fin 2904 → EReal) → Fin n → α)
    (h : ∀ i l, A i l = R (fun j => product x g w (ix2 i j)) l) (i : Fin 16384) (l : Fin n) : A i l = R (row x g w i) l := by
  rw [h, show (fun j => product x g w (ix2 i j)) = row x g w i from funext (product_apply x g w i)]

section Run

variable (m : (ℓ : Loc nD τ sig) → Buf (Elt Ideal) ℓ)

/-- The wide product of the reference's run. -/
abbrev productR (c : Dev nD) : FVec Ideal S16384x2904 .f32 :=
  product (m ((c.tc : Thread nD τ).loc main_arg0)) (m ((c.tc : Thread nD τ).loc main_arg1)) (m ((c.tc : Thread nD τ).loc main_arg2))

/-- The index key of the reference's run. -/
theorem key_eq (c : Dev nD) : Cert.Reference4Ideal.Value.res_main_v46 m c =
    key (productR m c) (m ((c.tc : Thread nD τ).loc main_arg3)) (m ((c.tc : Thread nD τ).loc main_arg4)) := rfl

/-- The doubled index key of the reference's run. -/
theorem twice_eq (c : Dev nD) : Cert.Reference4Ideal.Value.res_main_v69 m c =
    twice (key (productR m c) (m ((c.tc : Thread nD τ).loc main_arg3)) (m ((c.tc : Thread nD τ).loc main_arg4))) := rfl

/-- The log decays of the reference's run. -/
theorem logs_eq (c : Dev nD) : Cert.Reference4Ideal.Value.res_main_v57 m c =
    logs (gate (productR m c) (m ((c.tc : Thread nD τ).loc main_arg5)) (m ((c.tc : Thread nD τ).loc main_arg6))) := rfl

end Run

/-- The two programs' memories hold the same arguments. -/
abbrev Same (m : (ℓ : Loc Cert.Kernel4Ideal.nD Cert.Kernel4Ideal.τ Cert.Kernel4Ideal.sig) → Buf (Elt Ideal) ℓ) (m' : (ℓ : Loc nD τ sig) → Buf (Elt Ideal) ℓ) (c : Dev nD) : Prop :=
  m' ((c.tc : Thread nD τ).loc main_arg0) = m ((c.tc : Thread Cert.Kernel4Ideal.nD Cert.Kernel4Ideal.τ).loc Cert.Kernel4Ideal.main_arg0)
  ∧ m' ((c.tc : Thread nD τ).loc main_arg1) = m ((c.tc : Thread Cert.Kernel4Ideal.nD Cert.Kernel4Ideal.τ).loc Cert.Kernel4Ideal.main_arg1)
  ∧ m' ((c.tc : Thread nD τ).loc main_arg2) = m ((c.tc : Thread Cert.Kernel4Ideal.nD Cert.Kernel4Ideal.τ).loc Cert.Kernel4Ideal.main_arg2)
  ∧ m' ((c.tc : Thread nD τ).loc main_arg3) = m ((c.tc : Thread Cert.Kernel4Ideal.nD Cert.Kernel4Ideal.τ).loc Cert.Kernel4Ideal.main_arg3)
  ∧ m' ((c.tc : Thread nD τ).loc main_arg4) = m ((c.tc : Thread Cert.Kernel4Ideal.nD Cert.Kernel4Ideal.τ).loc Cert.Kernel4Ideal.main_arg4)
  ∧ m' ((c.tc : Thread nD τ).loc main_arg5) = m ((c.tc : Thread Cert.Kernel4Ideal.nD Cert.Kernel4Ideal.τ).loc Cert.Kernel4Ideal.main_arg5)
  ∧ m' ((c.tc : Thread nD τ).loc main_arg6) = m ((c.tc : Thread Cert.Kernel4Ideal.nD Cert.Kernel4Ideal.τ).loc Cert.Kernel4Ideal.main_arg6)

section Meet

variable (m : (ℓ : Loc Cert.Kernel4Ideal.nD Cert.Kernel4Ideal.τ Cert.Kernel4Ideal.sig) → Buf (Elt Ideal) ℓ) (m' : (ℓ : Loc nD τ sig) → Buf (Elt Ideal) ℓ) (c : Dev nD)

/-- The reference's wide product is the product of the kernel's arguments. -/
theorem product_eq (h : Same m m' c) : productR m' c =
    product (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) := by
  obtain ⟨h0, h1, h2, h3, h4, h5, h6⟩ := h
  unfold productR
  rw [h0, h1, h2]

/-- The attention queries agree. -/
theorem meet7 (h : Same m m' c) : heads (productR m' c) = Proj.G7 m c := by
  rw [product_eq m m' c h]
  funext i
  idx_vars i
  exact lift _ _ _ (fun i l => _) _ (heads_apply _) i0 i1

/-- The keys agree. -/
theorem meet8 (h : Same m m' c) : extractStridedSlice S16384x128 ![0, 512] (productR m' c) slices_S16384x2904_S16384x128_0_512 = Proj.G8 m c := by
  rw [product_eq m m' c h]
  funext i
  idx_vars i
  exact lift _ _ _ (fun i l => _) _ (cut512 _) i0 i1

/-- The values agree. -/
theorem meet9 (h : Same m m' c) : extractStridedSlice S16384x128 ![0, 640] (productR m' c) slices_S16384x2904_S16384x128_0_640 = Proj.G9 m c := by
  rw [product_eq m m' c h]
  funext i
  idx_vars i
  exact lift _ _ _ (fun i l => _) _ (cut640 _) i0 i1

/-- The keys in short form agree. -/
theorem meet10 (h : Same m m' c) : truncf .bf16 (extractStridedSlice S16384x128 ![0, 512] (productR m' c) slices_S16384x2904_S16384x128_0_512) bitsLt_bf16_f32 = Proj.G10 m c := by
  rw [product_eq m m' c h]
  funext i
  idx_vars i
  exact lift _ _ _ (fun i l => _) _ (cut512 _) i0 i1

/-- The values in short form agree. -/
theorem meet11 (h : Same m m' c) : truncf .bf16 (extractStridedSlice S16384x128 ![0, 640] (productR m' c) slices_S16384x2904_S16384x128_0_640) bitsLt_bf16_f32 = Proj.G11 m c := by
  rw [product_eq m m' c h]
  funext i
  idx_vars i
  exact lift _ _ _ (fun i l => _) _ (cut640 _) i0 i1

/-- The index queries agree. -/
theorem meet12 (h : Same m m' c) : truncf .bf16 (extractStridedSlice S16384x512 ![0, 768] (productR m' c) slices_S16384x2904_S16384x512_0_768) bitsLt_bf16_f32 = Proj.G12 m c := by
  rw [product_eq m m' c h]
  funext i
  idx_vars i
  exact lift _ _ _ (fun i l => _) _ (cut768 _) i0 i1

/-- The index key agrees. -/
theorem meet13 (h : Same m m' c) : key (productR m' c) (m' ((c.tc : Thread nD τ).loc main_arg3)) (m' ((c.tc : Thread nD τ).loc main_arg4)) = Proj.G13 m c := by
  rw [product_eq m m' c h, h.2.2.2.1, h.2.2.2.2.1]
  funext i
  idx_vars i
  exact lift _ _ _ (fun i l => _) _ (fun i l => key_apply _ i _ _ l) i0 i1

/-- The doubled index key agrees. -/
theorem meet14 (h : Same m m' c) : twice (key (productR m' c) (m' ((c.tc : Thread nD τ).loc main_arg3)) (m' ((c.tc : Thread nD τ).loc main_arg4))) = Proj.G14 m c := by
  rw [product_eq m m' c h, h.2.2.2.1, h.2.2.2.2.1]
  funext i
  idx_vars i
  exact (twice_apply i0 _ i1).trans (lift _ _ _ (fun i l => _) _ (fun i l => key_apply _ i _ _ l) i0 _)

/-- The index weights agree. -/
theorem meet15 (h : Same m m' c) : weights (productR m' c) = Proj.G15 m c := by
  rw [product_eq m m' c h]
  funext i
  idx_vars i
  exact lift _ _ _ (fun i l => _) _ (weights_apply _) i0 i1

/-- The recurrence's scaled queries agree. -/
theorem meet16 (h : Same m m' c) : mulf (extractStridedSlice S16384x256 ![0, 1352] (productR m' c) slices_S16384x2904_S16384x256_0_1352) (broadcastInDim S16384x256 ![] bcast_S_S16384x256 (constant S_ .f32 0x3E000000#32)) = Proj.G16 m c := by
  rw [product_eq m m' c h]
  funext i
  idx_vars i
  exact lift _ _ _ (fun i l => _) (fun f l => part (n := 256) 1352 (by decide) f l * Ideal.ofBits .f32 0x3E000000#32) (cut1352 _) i0 i1

/-- The recurrence's keys agree. -/
theorem meet17 (h : Same m m' c) : extractStridedSlice S16384x256 ![0, 1608] (productR m' c) slices_S16384x2904_S16384x256_0_1608 = Proj.G17 m c := by
  rw [product_eq m m' c h]
  funext i
  idx_vars i
  exact lift _ _ _ (fun i l => _) _ (cut1608 _) i0 i1

/-- The recurrence's values agree. -/
theorem meet18 (h : Same m m' c) : extractStridedSlice S16384x512 ![0, 1864] (productR m' c) slices_S16384x2904_S16384x512_0_1864 = Proj.G18 m c := by
  rw [product_eq m m' c h]
  funext i
  idx_vars i
  exact lift _ _ _ (fun i l => _) _ (cut1864 _) i0 i1

/-- The recurrence's output gates agree. -/
theorem meet19 (h : Same m m' c) : extractStridedSlice S16384x512 ![0, 2376] (productR m' c) slices_S16384x2904_S16384x512_0_2376 = Proj.G19 m c := by
  rw [product_eq m m' c h]
  funext i
  idx_vars i
  exact lift _ _ _ (fun i l => _) _ (cut2376 _) i0 i1

/-- The log decays agree. -/
theorem meet20 (h : Same m m' c) : logs (gate (productR m' c) (m' ((c.tc : Thread nD τ).loc main_arg5)) (m' ((c.tc : Thread nD τ).loc main_arg6))) = Proj.G20 m c := by
  rw [product_eq m m' c h, h.2.2.2.2.2.1, h.2.2.2.2.2.2]
  funext i
  idx_vars i
  exact (logs_apply i0 _ i1).trans (lift _ _ _ (fun i l => _) _ (fun i l => gate_apply _ i _ _ l) i0 i1)

end Meet

/-- The kernel's frame at any float implementation. -/
theorem frame_p : Cert.quiescent_Kernel4 := fun m ρ _ => Cert.Kernel4.Gen.frame m ρ

/-- The kernel's frame at the ideal instance. -/
theorem frame_pi : Cert.quiescent_Kernel4Ideal := fun m ρ _ => Cert.Kernel4Ideal.Gen.frame m ρ

/-- The reference's frame: it runs host operations only and declares no semaphore. -/
theorem frame_ri : Cert.quiescent_Reference4Ideal := fun m ρ _ =>
  (θ_run Cert.Reference4Ideal.defs _ _).mono
    (fun r h => ⟨fun c => (h c).2.2.2.2.2.2.2.2.2.2.2.2.2.2, sem_eq_zero_of_no_sems (by decide) r.2⟩)
    (Cert.Reference4Ideal.Value.run (F := Ideal) m ρ)

set_option maxHeartbeats 4000000 in
/-- The kernel's fourteen arrays are the reference's. -/
theorem algebraic : Cert.algebraic_Kernel4Ideal_Reference4Ideal := by
  intro m ρ m' ρ' hpre hagree
  refine ⟨fun c => Proj.G7 m c, fun c => Proj.G8 m c, fun c => Proj.G9 m c, fun c => Proj.G10 m c, fun c => Proj.G11 m c,
    fun c => Proj.G12 m c, fun c => Proj.G13 m c, fun c => Proj.G14 m c, fun c => Proj.G15 m c, fun c => Proj.G16 m c,
    fun c => Proj.G17 m c, fun c => Proj.G18 m c, fun c => Proj.G19 m c, fun c => Proj.G20 m c, ?_, ?_⟩
  · refine (θ_run Cert.Kernel4Ideal.defs _ _).mono (fun _ h c => ?_) (Cert.Kernel4Ideal.Value.run_blocks (F := Ideal) m ρ)
    obtain ⟨r0, r1, r2, r3, r4, r5, r6, r7, r8, r9, r10, r11, r12, r13, rest⟩ := h c
    exact ⟨r0.trans (Proj.final7 m c), r1.trans (Proj.final8 m c), r2.trans (Proj.final9 m c), r3.trans (Proj.final10 m c),
      r4.trans (Proj.final11 m c), r5.trans (Proj.final12 m c), r6.trans (Proj.final13 m c), r7.trans (Proj.final14 m c),
      r8.trans (Proj.final15 m c), r9.trans (Proj.final16 m c), r10.trans (Proj.final17 m c), r11.trans (Proj.final18 m c),
      r12.trans (Proj.final19 m c), r13.trans (Proj.final20 m c), rest⟩
  · refine (θ_run Cert.Reference4Ideal.defs _ _).mono (fun _ h c => ?_) (Cert.Reference4Ideal.Value.run (F := Ideal) m' ρ')
    have s : Same m m' c := hagree c
    obtain ⟨r0, r1, r2, r3, r4, r5, r6, r7, r8, r9, r10, r11, r12, r13, rest⟩ := h c
    exact ⟨r0.trans (meet7 m m' c s), r1.trans (meet8 m m' c s), r2.trans (meet9 m m' c s), r3.trans (meet10 m m' c s),
      r4.trans (meet11 m m' c s), r5.trans (meet12 m m' c s), (r6.trans (key_eq m' c)).trans (meet13 m m' c s),
      (r7.trans (twice_eq m' c)).trans (meet14 m m' c s), r8.trans (meet15 m m' c s), r9.trans (meet16 m m' c s),
      r10.trans (meet17 m m' c s), r11.trans (meet18 m m' c s), r12.trans (meet19 m m' c s),
      (r13.trans (logs_eq m' c)).trans (meet20 m m' c s), rest⟩

end Cert.Proof.ProjRef
end
-- ==== Proof.Bucket.lean ====
/-
  The bucket of a relative position (hand-written): sixteen buckets for the nearest sixteen distances, then sixteen
  spaced by the logarithm. Its word is a bucket's number, 0 to 31, for every distance of a table.
-/
module

public import Idealize.ShloMosaic.Lib.Pipeline.ValueKit
public import Idealize.ShloMosaic.Lib.Pointwise
public import Idealize.ShloMosaic.Lib.IdealHost
public import Idealize.ShloMosaic.Lib.Affine

@[expose] public section

noncomputable section

open Idealize.ShloMosaic

namespace Cert.Proof.Bucket

/-- The logarithmic part's place: sixteen times the distance's logarithm to base eight, in sixteenths of the distance. -/
def place (n : BitVec 32) : EReal :=
  Ideal.div (Ideal.log (Ideal.div (((IntOp.maxsi n 1#32).toInt : ℝ) : EReal) (Ideal.ofBits .f32 0x41800000#32))) (Ideal.ofBits .f32 0x40051592#32)
    * Ideal.ofBits .f32 0x41800000#32

/-- The bucket of a distance. -/
def bucket (d : BitVec 32) : BitVec 32 :=
  Scalar.select (IntOp.cmpi .slt (IntOp.maxsi d 0#32) 16#32) (IntOp.maxsi d 0#32)
    (IntOp.minsi (IntOp.addi 16#32 (Ideal.fptosi 32 (place (IntOp.maxsi d 0#32)))) 31#32)

/-- The greater of two words, read signed. -/
theorem toInt_maxsi (x y : BitVec 32) : (IntOp.maxsi x y).toInt = max x.toInt y.toInt := by
  unfold IntOp.maxsi
  split <;> rename_i h <;> simp only [BitVec.slt_iff_toInt_lt, Bool.not_eq_true, Bool.eq_false_iff, ne_eq, not_lt] at h <;> omega

/-- The lesser of two words, read signed. -/
theorem toInt_minsi (x y : BitVec 32) : (IntOp.minsi x y).toInt = min x.toInt y.toInt := by
  unfold IntOp.minsi
  split <;> rename_i h <;> simp only [BitVec.slt_iff_toInt_lt, Bool.not_eq_true, Bool.eq_false_iff, ne_eq, not_lt] at h <;> omega

/-- The place of a distance from 16 to 4096 is a real between 0 and 4096. -/
theorem place_real (n : BitVec 32) (h1 : 16 ≤ n.toInt) (h2 : n.toInt ≤ 4096) : ∃ r : ℝ, place n = (r : EReal) ∧ 0 ≤ r ∧ r ≤ 4096 := by
  have e16 : Ideal.ofBits .f32 0x41800000#32 = ((16 : ℝ) : EReal) := by simp [Ideal.ofBits, Ideal.ieee, -EReal.coe_mul]; norm_num
  obtain ⟨c, ec, hc⟩ : ∃ c : ℝ, Ideal.ofBits .f32 0x40051592#32 = (c : EReal) ∧ 1 ≤ c := by
    refine ⟨8721810 / 4194304, ?_, by norm_num⟩
    simp [Ideal.ofBits, Ideal.ieee, -EReal.coe_mul]; norm_num
  have hm : (IntOp.maxsi n 1#32).toInt = n.toInt := by
    have : (1#32).toInt = 1 := by decide
    rw [toInt_maxsi, this]; omega
  have hz : (1 : ℝ) ≤ (n.toInt : ℝ) * (1 / 16) := by
    have : (16 : ℝ) ≤ (n.toInt : ℝ) := by exact_mod_cast h1
    linarith
  have hz2 : (n.toInt : ℝ) * (1 / 16) ≤ 256 := by
    have : (n.toInt : ℝ) ≤ 4096 := by exact_mod_cast h2
    linarith
  generalize hq : (n.toInt : ℝ) * (1 / 16) = q at hz hz2
  have hl := Real.log_nonneg hz
  have hl2 := Real.log_le_sub_one_of_pos (show 0 < q by linarith)
  have hc0 : 0 < c := by linarith
  have hi : 1 / c ≤ 1 := by rw [div_le_one hc0]; exact hc
  have hi0 : 0 ≤ 1 / c := by positivity
  refine ⟨Real.log q * (1 / c) * 16, ?_, by positivity, ?_⟩
  · unfold place
    rw [e16, ec, hm, Ideal.div_coe hc0.ne', Ideal.div_coe (show (16 : ℝ) ≠ 0 by norm_num), ← EReal.coe_mul, hq, Ideal.log_coe, if_neg (by linarith), ← EReal.coe_mul, ← EReal.coe_mul]
  · nlinarith [mul_le_mul hl2 hi hi0 (show 0 ≤ q - 1 by linarith)]

/-- A table's distance has a bucket's number. -/
theorem bucket_lt (d : BitVec 32) (h : d.toInt ≤ 4096) : (bucket d).toNat < 32 := by
  have e0 : (0#32).toInt = 0 := by decide
  have e16 : (16#32).toInt = 16 := by decide
  have e31 : (31#32).toInt = 31 := by decide
  have hn : (IntOp.maxsi d 0#32).toInt = max d.toInt 0 := by rw [toInt_maxsi, e0]
  suffices hs : 0 ≤ (bucket d).toInt ∧ (bucket d).toInt < 32 by
    have := BitVec.toInt_eq_toNat_cond (bucket d)
    split at this <;> omega
  unfold bucket Scalar.select
  generalize IntOp.maxsi d 0#32 = n at hn
  split
  · rename_i hc
    have : n.toInt < 16 := by
      have := IntOp.cmpi_slt.1 hc
      omega
    omega
  · rename_i hc
    have h16 : 16 ≤ n.toInt := by
      by_contra hlt
      exact hc (IntOp.cmpi_slt.2 (by omega))
    obtain ⟨r, hr, hr0, hr1⟩ := place_real n h16 (by omega)
    have hf0 : 0 ≤ ⌊r⌋ := Int.floor_nonneg.2 hr0
    have hf1 : ⌊r⌋ ≤ 4096 := by
      have : (⌊r⌋ : ℝ) ≤ 4096 := (Int.floor_le r).trans hr1
      exact_mod_cast this
    rw [toInt_minsi, e31, hr]
    unfold Ideal.fptosi IntOp.addi
    rw [Ideal.toIntClamped_coe, if_pos hr0]
    have hcl : max (-((2 ^ (32 - 1) : Nat) : Int)) (min (((2 ^ (32 - 1) : Nat) : Int) - 1) ⌊r⌋) = ⌊r⌋ := by
      norm_num
      omega
    rw [hcl, BitVec.toInt_add, e16, BitVec.toInt_ofInt]
    have hb : (⌊r⌋).bmod (2 ^ 32) = ⌊r⌋ := by
      rw [Int.bmod_def]; omega
    have hb2 : (16 + ⌊r⌋).bmod (2 ^ 32) = 16 + ⌊r⌋ := by
      rw [Int.bmod_def]; omega
    rw [hb, hb2]
    omega

/-- The first selections over a table, as many as a number says: each takes its bucket's value where the bucket is its number. -/
def chain {S : Shape} (b : IVec S 32) (l : Fin 32 → EReal) : (n : Nat) → n ≤ 32 → FVec Ideal S .f32
  | 0, _ => broadcast S (Scalar.ofBits (F := Ideal) .f32 0x00000000#32)
  | n + 1, h => select (cmpi .eq b (broadcast S (BitVec.ofNat 32 n))) (broadcast S (l ⟨n, h⟩)) (chain b l n (Nat.le_of_succ_le h))

/-- The selections, at an entry whose bucket is among them. -/
theorem chain_apply {S : Shape} (b : IVec S 32) (l : Fin 32 → EReal) (y : S.Idx) (hb : (b y).toNat < 32) :
    ∀ (n : Nat) (h : n ≤ 32), (b y).toNat < n → chain b l n h y = l ⟨(b y).toNat, hb⟩
  | 0, _, hn => absurd hn (Nat.not_lt_zero _)
  | n + 1, h, hn => by
    show Scalar.select (IntOp.cmpi .eq (b y) (BitVec.ofNat 32 n)) (l ⟨n, h⟩) (chain b l n (Nat.le_of_succ_le h) y) = _
    unfold Scalar.select
    split
    · rename_i he
      have e := congrArg BitVec.toNat (IntOp.cmpi_eq.1 he)
      rw [BitVec.toNat_ofNat, Nat.mod_eq_of_lt (by omega)] at e
      exact congrArg l (Fin.ext e.symm)
    · rename_i he
      refine chain_apply b l y hb n _ ?_
      have hne : (b y).toNat ≠ n := fun e => he (IntOp.cmpi_eq.2 (BitVec.eq_of_toNat_eq (by rw [BitVec.toNat_ofNat, Nat.mod_eq_of_lt (by omega)]; exact e)))
      omega

/-- The reference's wrap of a negative index leaves a bucket's number as it is. -/
theorem wrap (b : BitVec 32) (h : b.toNat < 32) : Scalar.select (IntOp.cmpi .slt b 0#32) (IntOp.addi b 32#32) b = BitVec.ofNat 32 b.toNat := by
  unfold Scalar.select
  rw [if_neg]
  · exact BitVec.eq_of_toNat_eq (by rw [BitVec.toNat_ofNat, Nat.mod_eq_of_lt (by omega)])
  · intro e
    have hl := IntOp.cmpi_slt.1 e
    have h0 : (0#32).toInt = 0 := by decide
    have hb := BitVec.toInt_eq_toNat_cond b
    split at hb <;> omega

end Cert.Proof.Bucket

end
-- ==== Proof.Bias.lean ====
/-
  The relative-position bias tables (hand-written): the kernel builds each table by thirty-two selections, one for each
  bucket, where the reference takes rows of the bias by the bucket's number.
-/
module

public import proofs.«01_k».proof.Proof.Bucket
public import proofs.«01_k».proof.Proof.Gen.Kernel6.Frame
public import proofs.«01_k».proof.Proof.Gen.Kernel6Ideal.Value
public import Idealize.ShloMosaic.Lib.Pipeline.ValueKit
public import Idealize.ShloMosaic.Lib.Pipeline.ReadBack
public import Idealize.ShloMosaic.Lib.Pointwise
public import Idealize.ShloMosaic.Lib.StableHlo.Predicate

@[expose] public section

set_option maxRecDepth 2048

noncomputable section

open Idealize.ShloMosaic Idealize.ShloMosaic.TcCoe Idealize.SL.Sem
open Idealize.ShloMosaic.Pipeline (Dat)

namespace Cert.Proof.Bias

open Cert.Kernel6Ideal Cert.Kernel6Ideal.Gen Cert.Proof.Bucket

/-- The distance of a table's entry: the first table is one tile further. -/
def dist (t : Fin 2) (s c : Fin 256) : BitVec 32 :=
  IntOp.addi (IntOp.subi (BitVec.ofNat 32 c.val) (BitVec.ofNat 32 s.val)) (if t = 0 then 256#32 else 0#32)

/-- The distance is at most 4096. -/
theorem dist_le (t : Fin 2) (s c : Fin 256) : (dist t s c).toInt ≤ 4096 := by
  have hc := c.isLt
  have hs := s.isLt
  unfold dist IntOp.addi IntOp.subi
  rw [BitVec.toInt_add, BitVec.toInt_sub, StableHlo.Predicate.toInt_ofNat_small _ (by omega), StableHlo.Predicate.toInt_ofNat_small _ (by omega)]
  have e : (if t = 0 then 256#32 else 0#32 : BitVec 32).toInt = if t = 0 then 256 else 0 := by
    split <;> decide
  rw [e, Int.bmod_def, Int.bmod_def]
  split <;> split <;> omega

/-- The bucket of a table's entry. -/
def row (t : Fin 2) (s c : Fin 256) : Fin 32 := ⟨(bucket (dist t s c)).toNat, bucket_lt _ (dist_le t s c)⟩

/-- A table's entry: the bias of its bucket and its head, in units of the base-two logarithm. -/
def entry (x : FVec Ideal S32x8 .f32) (t : Fin 2) (h : Fin 8) (s c : Fin 256) : EReal :=
  x (ix2 (row t s c) h) * Ideal.ofBits .f32 0x3FB8AA3B#32

/-- The tables. -/
def G (x : FVec Ideal S32x8 .f32) : FVec Ideal S2x8x256x256 .f32 := fun y => entry x (y 0) (y 1) (y 2) (y 3)

/-- The word a position of the bias's buffer holds. -/
def word (arg0 : Memref sig .tc .smem S32x8 .f32) (harg0 : arg0.IsWhole) (x0 : FVec Ideal S32x8 .f32) (h : Fin 8) (j : Fin 32) : EReal :=
  View.readAt (Elt Ideal) arg0.view
    (Rect.unit (s := S32x8) ![j.val, h.val] S1x1.size (by intro a; match a with | ⟨0, _⟩ => exact j.isLt | ⟨1, _⟩ => exact h.isLt)).toLoadRect (harg0.unread x0)
    (Shape.Idx.first (Nat.lt_of_lt_of_eq Nat.one_pos numel1_S1x1.symm))

/-- That word is the bias. -/
theorem word_eq (arg0 : Memref sig .tc .smem S32x8 .f32) (harg0 : arg0.IsWhole) (x0 : FVec Ideal S32x8 .f32) (h : Fin 8) (j : Fin 32) :
    word arg0 harg0 x0 h j = x0 (ix2 j h) := by
  unfold word
  rw [View.readAt_eq_ld, harg0.read_unread]
  refine congrArg x0 (funext fun a => Fin.ext ?_)
  match a with
  | ⟨0, _⟩ => simp [Rect.unit, Shape.Idx.first]
  | ⟨1, _⟩ => simp [Rect.unit, Shape.Idx.first]

/-- The first table's buckets. -/
theorem bucket0 (s c : Fin 256) : k0_pay2 (F := Ideal) (ix2 s c) = bucket (dist 0 s c) := by
  pointwise [k0_pay2, bucket, place, dist]
  rfl

/-- The second table's buckets. -/
theorem bucket1 (s c : Fin 256) :
    k0_pay73 (F := Ideal) (iota .tc S256x256 32 [0] iota_S256x256_d0_w32) (iota .tc S256x256 32 [1] iota_S256x256_d1_w32) (ix2 s c) = bucket (dist 1 s c) := by
  pointwise [k0_pay73, bucket, place, dist]
  rfl

/-- A store of the kernel is a block of the tables. -/
theorem piece (arg0 : Memref sig .tc .smem S32x8 .f32) (harg0 : arg0.IsWhole) (xx : FVec Ideal S32x8 .f32) (t : Fin 2) (h : Fin 8) (b : IVec S256x256 32)
    (hb : ∀ s c, b (ix2 s c) = bucket (dist t s c))
    (inb : ∀ a, (![t.val, h.val, 0, 0] : Fin 4 → Nat) a + S1x1x256x256.size a ≤ S2x8x256x256.size a) (x : S1x1x256x256.Idx) :
    shapeCast S1x1x256x256 (mulf (chain b (word arg0 harg0 xx h) 32 le_rfl) (broadcast S256x256 (Scalar.ofBits (F := Ideal) .f32 0x3FB8AA3B#32))) shapeCasts_S256x256_S1x1x256x256 x
      = G xx ((Rect.unit (s := S2x8x256x256) ![t.val, h.val, 0, 0] S1x1x256x256.size inb).emb x) := by
  idx_vars x
  have he : (Rect.unit (s := S2x8x256x256) ![t.val, h.val, 0, 0] S1x1x256x256.size inb).emb (ix4 x0 x1 x2 x3) = ix4 t h x2 x3 := by
    blk_ext
  rw [he]
  have hlt : (b (ix2 x2 x3)).toNat < 32 := by
    rw [hb]
    exact bucket_lt _ (dist_le t x2 x3)
  pointwise
  rw [chain_apply b _ _ hlt 32 le_rfl hlt, word_eq]
  show xx (ix2 (⟨(b (ix2 x2 x3)).toNat, hlt⟩ : Fin 32) h) * _ = xx (ix2 (row t x2 x3) h) * _
  rw [show (⟨(b (ix2 x2 x3)).toNat, hlt⟩ : Fin 32) = row t x2 x3 from Fin.ext (by show (b (ix2 x2 x3)).toNat = (bucket (dist t x2 x3)).toNat; rw [hb])]

/-- The kernel's stores are blocks of the tables. -/
theorem pieces (c : Dev nD) (arg0 : Memref sig .tc .smem S32x8 .f32) (harg0 : arg0.IsWhole) (arg1 : Memref sig .tc .vmem S2x8x256x256 .f32) (harg1 : arg1.IsWhole)
    (x0 : FVec Ideal S32x8 .f32) : View.PiecesOf (Val := Elt Ideal) (e := .f32) (G x0) (kernelRun0_A (F := Ideal) c arg0 harg0 arg1 harg1 x0).1 := by
  unfold kernelRun0_A
  dsimp only
  exact ⟨fun x => piece arg0 harg0 x0 1 7 _ bucket1 inb_S2x8x256x256_S1x1x256x256_1_7_0_0 x,
    fun x => piece arg0 harg0 x0 1 6 _ bucket1 inb_S2x8x256x256_S1x1x256x256_1_6_0_0 x,
    fun x => piece arg0 harg0 x0 1 5 _ bucket1 inb_S2x8x256x256_S1x1x256x256_1_5_0_0 x,
    fun x => piece arg0 harg0 x0 1 4 _ bucket1 inb_S2x8x256x256_S1x1x256x256_1_4_0_0 x,
    fun x => piece arg0 harg0 x0 1 3 _ bucket1 inb_S2x8x256x256_S1x1x256x256_1_3_0_0 x,
    fun x => piece arg0 harg0 x0 1 2 _ bucket1 inb_S2x8x256x256_S1x1x256x256_1_2_0_0 x,
    fun x => piece arg0 harg0 x0 1 1 _ bucket1 inb_S2x8x256x256_S1x1x256x256_1_1_0_0 x,
    fun x => piece arg0 harg0 x0 1 0 _ bucket1 inb_S2x8x256x256_S1x1x256x256_1_0_0_0 x,
    fun x => piece arg0 harg0 x0 0 7 _ bucket0 inb_S2x8x256x256_S1x1x256x256_0_7_0_0 x,
    fun x => piece arg0 harg0 x0 0 6 _ bucket0 inb_S2x8x256x256_S1x1x256x256_0_6_0_0 x,
    fun x => piece arg0 harg0 x0 0 5 _ bucket0 inb_S2x8x256x256_S1x1x256x256_0_5_0_0 x,
    fun x => piece arg0 harg0 x0 0 4 _ bucket0 inb_S2x8x256x256_S1x1x256x256_0_4_0_0 x,
    fun x => piece arg0 harg0 x0 0 3 _ bucket0 inb_S2x8x256x256_S1x1x256x256_0_3_0_0 x,
    fun x => piece arg0 harg0 x0 0 2 _ bucket0 inb_S2x8x256x256_S1x1x256x256_0_2_0_0 x,
    fun x => piece arg0 harg0 x0 0 1 _ bucket0 inb_S2x8x256x256_S1x1x256x256_0_1_0_0 x,
    fun x => piece arg0 harg0 x0 0 0 _ bucket0 inb_S2x8x256x256_S1x1x256x256_0_0_0_0 x, trivial⟩

/-- Stores that are blocks of an array and cover it leave the array. -/
theorem read_back (V : View sig .tc .vmem S2x8x256x256 .f32) (H : FVec Ideal S2x8x256x256 .f32) (L : List (View.Piece (Elt Ideal) S2x8x256x256 .f32))
    (h : View.PiecesOf (Val := Elt Ideal) (e := .f32) H L) (hc : ∀ y, ∃ p ∈ L, y ∈ p.1.set) :
    V.read (Elt Ideal) (V.writes (Elt Ideal) V.junk L) = H := by
  rw [View.read_writes_junk_eq_canon]
  funext y
  have e := View.canon_append_of_piecesOf H [] L h y (hc y)
  rwa [List.append_nil] at e

/-- What the body leaves in its output's buffer: the tables of the bias it finds. -/
theorem out_eq (c : Dev nD) (arg0 : Memref sig .tc .smem S32x8 .f32) (harg0 : arg0.IsWhole) (arg1 : Memref sig .tc .vmem S2x8x256x256 .f32) (harg1 : arg1.IsWhole)
    (x0 : FVec Ideal S32x8 .f32) : out0_A_1 (F := Ideal) c arg0 harg0 arg1 harg1 x0 = G x0 := by
  have hp := pieces c arg0 harg0 arg1 harg1 x0
  have hc := cover0_A_1 (F := Ideal) c arg0 harg0 arg1 harg1 x0
  unfold out0_A_1
  generalize (kernelRun0_A (F := Ideal) c arg0 harg0 arg1 harg1 x0).1 = L at hp hc ⊢
  exact read_back _ (G x0) L hp hc

variable (m : (ℓ : Loc nD τ sig) → Buf (Elt Ideal) ℓ)

/-- The block of the bias is the argument. -/
theorem read0 (c : Dev nD) (t : Fin cfg0.N) : (iblk m c 0 t : FVec Ideal S32x8 .f32) = m ((c : Thread nD τ).loc main_arg0) := by
  have e : ∀ t : Fin cfg0.N, win0_0.index t = ![0, 0] := by decide +kernel
  funext y
  idx_vars y
  blk_ext! [iblk, e t]

/-- The array the call leaves is the tables of the argument. -/
theorem final (c : Dev nD) : (dats m 0 c).arrAt 1 (cfgs 0).N = G (m ((c : Thread nD τ).loc main_arg0)) := by
  have e : ∀ t : Fin cfg0.N, win0_1.index t = ![0, 0, 0, 0] := by decide +kernel
  refine (dats m 0 c).arrAt_eq_of_covers 1 _ (by decide +kernel) fun t hf y => ?_
  blk_simp
  rw [after0_1]
  unfold outsAt0
  rw [out_eq, read0]
  idx_vars y
  have he : ((win0_1.blk t).view.emb (ix4 y0 y1 y2 y3)) = ix4 y0 y1 y2 y3 := by
    blk_ext [e t]
  show _ = G _ ((win0_1.blk t).view.emb (ix4 y0 y1 y2 y3))
  rw [he]

end Cert.Proof.Bias
end
-- ==== Proof.BiasRef.lean ====
/-
  The bias tables' reference (hand-written): its rows of the bias, read at an entry, and the call's claims.
-/
module

public import proofs.«01_k».proof.Defs
public import proofs.«01_k».proof.Proof.Bias
public import proofs.«01_k».proof.Proof.Gen.Reference6Ideal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Bias

open Cert.Reference6Ideal Cert.Reference6Ideal.Gen Cert.Proof.Bucket

/-- The reference takes the rows its indices name. -/
theorem gather_rows (x : FVec Ideal S32x8 .f32) (idx : IVec S2x256x256x1 32) (t : Fin 2) (s c : Fin 256) (h : Fin 8) (r : Fin 32)
    (hr : idx (ix4 t s c (0 : Fin 1)) = BitVec.ofNat 32 r.val) :
    Host.gather gather_S32x8_S2x256x256x1_S2x256x256x8_3_0_n_n_0_3_18 x idx (ix4 t s c h) = x (ix2 r h) := by
  unfold Host.gather
  refine congrArg x (funext fun a => Fin.ext ?_)
  match a with
  | ⟨0, _⟩ =>
    have hs : GatherDims.start gather_S32x8_S2x256x256x1_S2x256x256x8_3_0_n_n_0_3_18 (ix4 t s c h) idx 0 = min (idx (ix4 t s c (0 : Fin 1))).toInt.toNat 31 := by
      have hm : (0 : Fin 2) ∈ GatherDims.startIndexMap gather_S32x8_S2x256x256x1_S2x256x256x8_3_0_n_n_0_3_18 := List.mem_singleton.2 rfl
      unfold GatherDims.start
      rw [dif_pos hm]
      refine congrArg (fun z => min (idx z).toInt.toNat 31) (funext fun b => Fin.ext ?_)
      match b with
      | ⟨0, _⟩ => rfl
      | ⟨1, _⟩ => rfl
      | ⟨2, _⟩ => rfl
      | ⟨3, _⟩ => rfl
    have hp := r.isLt
    refine (congrArg (· + 0 + 0) hs).trans ?_
    rw [hr, StableHlo.Predicate.toInt_ofNat_small _ (by omega)]
    show min ((r.val : Int)).toNat 31 = r.val
    omega
  | ⟨1, _⟩ =>
    show 0 + 0 + h.val = h.val
    omega

/-- The reference's array is the tables. -/
theorem reference (m : (ℓ : Loc nD τ sig) → Buf (Elt Ideal) ℓ) (c : Dev nD) :
    Cert.Reference6Ideal.Value.res_out0 (F := Ideal) m c = G (m ((c.tc : Thread nD τ).loc main_arg0)) := by
  unfold Cert.Reference6Ideal.Value.res_out0 Cert.Reference6Ideal.Value.res_main_v44
  generalize m ((c.tc : Thread nD τ).loc main_arg0) = x
  funext y
  idx_vars y
  pointwise
  refine congrArg (· * Ideal.ofBits .f32 0x3FB8AA3B#32) ((gather_rows x _ y0 y2 y3 y1 (row y0 y2 y3) ?_))
  have hb := bucket_lt _ (dist_le y0 y2 y3)
  pointwise
  have hd : (if h : y0.val < 1 then IntOp.addi (IntOp.subi (BitVec.ofNat 32 y3.val) (BitVec.ofNat 32 y2.val)) 256#32
      else IntOp.subi (BitVec.ofNat 32 y3.val) (BitVec.ofNat 32 y2.val)) = dist y0 y2 y3 := by
    unfold dist
    fin_cases y0
    · rfl
    · exact (BitVec.add_zero _).symm
  rw [hd]
  exact wrap _ hb

/-- The kernel's frame at the bit instance. -/
theorem frame_p : Cert.quiescent_Kernel6 := fun m ρ _ => Cert.Kernel6.Gen.frame m ρ

/-- The kernel's frame at the ideal instance. -/
theorem frame_pi : Cert.quiescent_Kernel6Ideal := fun m ρ _ => Cert.Kernel6Ideal.Gen.frame m ρ

/-- The reference's frame: it runs host operations only and declares no semaphore. -/
theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The kernel's tables are the reference's. -/
theorem algebraic : Cert.algebraic_Kernel6Ideal_Reference6Ideal := by
  intro m ρ m' ρ' _ hagree
  refine ⟨fun c => G (m ((c.tc : Thread Cert.Kernel6Ideal.nD Cert.Kernel6Ideal.τ).loc Cert.Kernel6Ideal.main_arg0)), ?_, ?_⟩
  · exact (θ_run Cert.Kernel6Ideal.defs _ _).mono (fun _ h c => ⟨(h c).1.trans (final m c), (h c).2⟩)
      (Cert.Kernel6Ideal.Value.run_blocks (F := Ideal) m ρ)
  · refine (θ_run Cert.Reference6Ideal.defs _ _).mono (fun _ h c => ⟨(h c).1.trans ?_, (h c).2⟩)
      (Cert.Reference6Ideal.Value.run (F := Ideal) m' ρ')
    exact (reference m' c).trans (congrArg G (hagree c))

end Cert.Proof.Bias

end
-- ==== Proof.BiasSample.lean ====
/-
  The sample tokens' relative-position bias tables (hand-written): the kernel builds each head's table by thirty-two selections, one for each
  bucket, where the reference takes rows of the bias by the bucket's number.
-/
module

public import proofs.«01_k».proof.Proof.Bucket
public import proofs.«01_k».proof.Proof.Gen.Kernel7.Frame
public import proofs.«01_k».proof.Proof.Gen.Kernel7Ideal.Value
public import Idealize.ShloMosaic.Lib.Pipeline.ValueKit
public import Idealize.ShloMosaic.Lib.Pipeline.ReadBack
public import Idealize.ShloMosaic.Lib.Pointwise
public import Idealize.ShloMosaic.Lib.StableHlo.Predicate

@[expose] public section

set_option maxRecDepth 2048

noncomputable section

open Idealize.ShloMosaic Idealize.ShloMosaic.TcCoe Idealize.SL.Sem
open Idealize.ShloMosaic.Pipeline (Dat)

namespace Cert.Proof.BiasSample

open Cert.Kernel7Ideal Cert.Kernel7Ideal.Gen Cert.Proof.Bucket

/-- The distance of a table's entry. -/
def dist (s : Fin 8) (c : Fin 2176) : BitVec 32 :=
  IntOp.addi (IntOp.subi (BitVec.ofNat 32 s.val) (BitVec.ofNat 32 c.val)) 2048#32

/-- The distance is at most 4096. -/
theorem dist_le (s : Fin 8) (c : Fin 2176) : (dist s c).toInt ≤ 4096 := by
  have hc := c.isLt
  have hs := s.isLt
  unfold dist IntOp.addi IntOp.subi
  rw [BitVec.toInt_add, BitVec.toInt_sub, StableHlo.Predicate.toInt_ofNat_small _ (by omega), StableHlo.Predicate.toInt_ofNat_small _ (by omega),
    show (2048#32).toInt = 2048 by decide, Int.bmod_def, Int.bmod_def]
  split <;> split <;> omega

/-- A bucket as a row of the bias. -/
def rowOf (w : BitVec 32) (h : w.toNat < 32) : Fin 32 := ⟨w.toNat, h⟩

/-- Equal buckets are the same row. -/
theorem rowOf_congr (w v : BitVec 32) (hw : w.toNat < 32) (hv : v.toNat < 32) (h : w = v) : rowOf w hw = rowOf v hv := by
  subst h
  rfl

/-- The bucket of a table's entry. -/
def row (s : Fin 8) (c : Fin 2176) : Fin 32 := rowOf (bucket (dist s c)) (bucket_lt _ (dist_le s c))

/-- A table's entry: the bias of its bucket and its head, in units of the base-two logarithm. -/
def entry (x : FVec Ideal S32x8 .f32) (h : Fin 8) (s : Fin 8) (c : Fin 2176) : EReal :=
  x (ix2 (row s c) h) * Ideal.ofBits .f32 0x3FB8AA3B#32

/-- The tables. -/
def G (x : FVec Ideal S32x8 .f32) : FVec Ideal S1x8x8x2176 .f32 := fun y => entry x (y 1) (y 2) (y 3)

/-- The word a position of the bias's buffer holds. -/
def word (arg0 : Memref sig .tc .smem S32x8 .f32) (harg0 : arg0.IsWhole) (x0 : FVec Ideal S32x8 .f32) (h : Fin 8) (j : Fin 32) : EReal :=
  View.readAt (Elt Ideal) arg0.view
    (Rect.unit (s := S32x8) ![j.val, h.val] S1x1.size (by intro a; match a with | ⟨0, _⟩ => exact j.isLt | ⟨1, _⟩ => exact h.isLt)).toLoadRect (harg0.unread x0)
    (Shape.Idx.first (Nat.lt_of_lt_of_eq Nat.one_pos numel1_S1x1.symm))

/-- That word is the bias. -/
theorem word_eq (arg0 : Memref sig .tc .smem S32x8 .f32) (harg0 : arg0.IsWhole) (x0 : FVec Ideal S32x8 .f32) (h : Fin 8) (j : Fin 32) :
    word arg0 harg0 x0 h j = x0 (ix2 j h) := by
  unfold word
  rw [View.readAt_eq_ld, harg0.read_unread]
  refine congrArg x0 (funext fun a => Fin.ext ?_)
  match a with
  | ⟨0, _⟩ => simp [Rect.unit, Shape.Idx.first]
  | ⟨1, _⟩ => simp [Rect.unit, Shape.Idx.first]

/-- The table's buckets. -/
theorem bucket0 (s : Fin 8) (c : Fin 2176) : k0_pay2 (F := Ideal) (ix2 s c) = bucket (dist s c) := by
  pointwise [k0_pay2, bucket, place, dist]
  rfl

/-- A store of the kernel is a block of the tables. -/
theorem piece (arg0 : Memref sig .tc .smem S32x8 .f32) (harg0 : arg0.IsWhole) (xx : FVec Ideal S32x8 .f32) (h : Fin 8) (b : IVec S8x2176 32)
    (hb : ∀ s c, b (ix2 s c) = bucket (dist s c))
    (inb : ∀ a, (![0, h.val, 0, 0] : Fin 4 → Nat) a + S1x1x8x2176.size a ≤ S1x8x8x2176.size a) (x : S1x1x8x2176.Idx) :
    shapeCast S1x1x8x2176 (mulf (chain b (word arg0 harg0 xx h) 32 le_rfl) (broadcast S8x2176 (Scalar.ofBits (F := Ideal) .f32 0x3FB8AA3B#32))) shapeCasts_S8x2176_S1x1x8x2176 x
      = G xx ((Rect.unit (s := S1x8x8x2176) ![0, h.val, 0, 0] S1x1x8x2176.size inb).emb x) := by
  idx_vars x
  have he : (Rect.unit (s := S1x8x8x2176) ![0, h.val, 0, 0] S1x1x8x2176.size inb).emb (ix4 x0 x1 x2 x3) = ix4 0 h x2 x3 := by
    blk_ext
  rw [he]
  have hlt : (b (ix2 x2 x3)).toNat < 32 := by
    rw [hb]
    exact bucket_lt _ (dist_le x2 x3)
  pointwise
  rw [chain_apply b _ _ hlt 32 le_rfl hlt, word_eq]
  exact congrArg (fun r => xx (ix2 r h) * Ideal.ofBits .f32 0x3FB8AA3B#32) (rowOf_congr _ _ hlt (bucket_lt _ (dist_le x2 x3)) (hb x2 x3))

/-- The kernel's stores are blocks of the tables. -/
theorem pieces (c : Dev nD) (arg0 : Memref sig .tc .smem S32x8 .f32) (harg0 : arg0.IsWhole) (arg1 : Memref sig .tc .vmem S1x8x8x2176 .f32) (harg1 : arg1.IsWhole)
    (x0 : FVec Ideal S32x8 .f32) : View.PiecesOf (Val := Elt Ideal) (e := .f32) (G x0) (kernelRun0_A (F := Ideal) c arg0 harg0 arg1 harg1 x0).1 := by
  unfold kernelRun0_A
  dsimp only
  exact ⟨fun x => piece arg0 harg0 x0 7 _ bucket0 inb_S1x8x8x2176_S1x1x8x2176_0_7_0_0 x,
    fun x => piece arg0 harg0 x0 6 _ bucket0 inb_S1x8x8x2176_S1x1x8x2176_0_6_0_0 x,
    fun x => piece arg0 harg0 x0 5 _ bucket0 inb_S1x8x8x2176_S1x1x8x2176_0_5_0_0 x,
    fun x => piece arg0 harg0 x0 4 _ bucket0 inb_S1x8x8x2176_S1x1x8x2176_0_4_0_0 x,
    fun x => piece arg0 harg0 x0 3 _ bucket0 inb_S1x8x8x2176_S1x1x8x2176_0_3_0_0 x,
    fun x => piece arg0 harg0 x0 2 _ bucket0 inb_S1x8x8x2176_S1x1x8x2176_0_2_0_0 x,
    fun x => piece arg0 harg0 x0 1 _ bucket0 inb_S1x8x8x2176_S1x1x8x2176_0_1_0_0 x,
    fun x => piece arg0 harg0 x0 0 _ bucket0 inb_S1x8x8x2176_S1x1x8x2176_0_0_0_0 x, trivial⟩

/-- Stores that are blocks of an array and cover it leave the array. -/
theorem read_back (V : View sig .tc .vmem S1x8x8x2176 .f32) (H : FVec Ideal S1x8x8x2176 .f32) (L : List (View.Piece (Elt Ideal) S1x8x8x2176 .f32))
    (h : View.PiecesOf (Val := Elt Ideal) (e := .f32) H L) (hc : ∀ y, ∃ p ∈ L, y ∈ p.1.set) :
    V.read (Elt Ideal) (V.writes (Elt Ideal) V.junk L) = H := by
  rw [View.read_writes_junk_eq_canon]
  funext y
  have e := View.canon_append_of_piecesOf H [] L h y (hc y)
  rwa [List.append_nil] at e

/-- What the body leaves in its output's buffer: the tables of the bias it finds. -/
theorem out_eq (c : Dev nD) (arg0 : Memref sig .tc .smem S32x8 .f32) (harg0 : arg0.IsWhole) (arg1 : Memref sig .tc .vmem S1x8x8x2176 .f32) (harg1 : arg1.IsWhole)
    (x0 : FVec Ideal S32x8 .f32) : out0_A_1 (F := Ideal) c arg0 harg0 arg1 harg1 x0 = G x0 := by
  have hp := pieces c arg0 harg0 arg1 harg1 x0
  have hc := cover0_A_1 (F := Ideal) c arg0 harg0 arg1 harg1 x0
  unfold out0_A_1
  generalize (kernelRun0_A (F := Ideal) c arg0 harg0 arg1 harg1 x0).1 = L at hp hc ⊢
  exact read_back _ (G x0) L hp hc

variable (m : (ℓ : Loc nD τ sig) → Buf (Elt Ideal) ℓ)

/-- The block of the bias is the argument. -/
theorem read0 (c : Dev nD) (t : Fin cfg0.N) : (iblk m c 0 t : FVec Ideal S32x8 .f32) = m ((c : Thread nD τ).loc main_arg0) := by
  have e : ∀ t : Fin cfg0.N, win0_0.index t = ![0, 0] := by decide +kernel
  funext y
  idx_vars y
  blk_ext! [iblk, e t]

/-- The array the call leaves is the tables of the argument. -/
theorem final (c : Dev nD) : (dats m 0 c).arrAt 1 (cfgs 0).N = G (m ((c : Thread nD τ).loc main_arg0)) := by
  have e : ∀ t : Fin cfg0.N, win0_1.index t = ![0, 0, 0, 0] := by decide +kernel
  refine (dats m 0 c).arrAt_eq_of_covers 1 _ (by decide +kernel) fun t hf y => ?_
  blk_simp
  rw [after0_1]
  unfold outsAt0
  rw [out_eq, read0]
  idx_vars y
  have he : ((win0_1.blk t).view.emb (ix4 y0 y1 y2 y3)) = ix4 y0 y1 y2 y3 := by
    blk_ext [e t]
  show _ = G _ ((win0_1.blk t).view.emb (ix4 y0 y1 y2 y3))
  rw [he]

end Cert.Proof.BiasSample
end
-- ==== Proof.BiasSampleRef.lean ====
/-
  The sample tokens' bias tables' reference (hand-written): its rows of the bias, read at an entry, and the call's claims.
-/
module

public import proofs.«01_k».proof.Defs
public import proofs.«01_k».proof.Proof.BiasSample
public import proofs.«01_k».proof.Proof.Gen.Reference7Ideal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.BiasSample

open Cert.Reference7Ideal Cert.Reference7Ideal.Gen Cert.Proof.Bucket

/-- The reference takes the rows its indices name. -/
theorem gather_rows (x : FVec Ideal S32x8 .f32) (idx : IVec S8x2176x1 32) (s : Fin 8) (c : Fin 2176) (h : Fin 8) (r : Fin 32)
    (hr : idx (ix3 s c (0 : Fin 1)) = BitVec.ofNat 32 r.val) :
    Host.gather gather_S32x8_S8x2176x1_S8x2176x8_2_0_n_n_0_2_18 x idx (ix3 s c h) = x (ix2 r h) := by
  unfold Host.gather
  refine congrArg x (funext fun a => Fin.ext ?_)
  match a with
  | ⟨0, _⟩ =>
    have hs : GatherDims.start gather_S32x8_S8x2176x1_S8x2176x8_2_0_n_n_0_2_18 (ix3 s c h) idx 0 = min (idx (ix3 s c (0 : Fin 1))).toInt.toNat 31 := by
      have hm : (0 : Fin 2) ∈ GatherDims.startIndexMap gather_S32x8_S8x2176x1_S8x2176x8_2_0_n_n_0_2_18 := List.mem_singleton.2 rfl
      unfold GatherDims.start
      rw [dif_pos hm]
      refine congrArg (fun z => min (idx z).toInt.toNat 31) (funext fun b => Fin.ext ?_)
      match b with
      | ⟨0, _⟩ => rfl
      | ⟨1, _⟩ => rfl
      | ⟨2, _⟩ => rfl
    have hp := r.isLt
    refine (congrArg (· + 0 + 0) hs).trans ?_
    rw [hr, StableHlo.Predicate.toInt_ofNat_small _ (by omega)]
    show min ((r.val : Int)).toNat 31 = r.val
    omega
  | ⟨1, _⟩ =>
    show 0 + 0 + h.val = h.val
    omega

/-- A row's number, as a word, for a bucket of any value. -/
theorem rowOf_word (w : BitVec 32) (h : w.toNat < 32) : BitVec.ofNat 32 (rowOf w h).val = BitVec.ofNat 32 w.toNat := rfl

/-- A row's number, as a word, is its bucket. -/
theorem row_word (s : Fin 8) (c : Fin 2176) : BitVec.ofNat 32 (row s c).val = BitVec.ofNat 32 (bucket (dist s c)).toNat :=
  rowOf_word _ (bucket_lt _ (dist_le s c))

/-- The reference's array is the tables. -/
theorem reference (m : (ℓ : Loc nD τ sig) → Buf (Elt Ideal) ℓ) (c : Dev nD) :
    Cert.Reference7Ideal.Value.res_out0 (F := Ideal) m c = G (m ((c.tc : Thread nD τ).loc main_arg0)) := by
  unfold Cert.Reference7Ideal.Value.res_out0 Cert.Reference7Ideal.Value.res_main_v39
  generalize m ((c.tc : Thread nD τ).loc main_arg0) = x
  funext y
  idx_vars y
  pointwise
  refine congrArg (· * Ideal.ofBits .f32 0x3FB8AA3B#32) (gather_rows x _ y2 y3 y1 (row y2 y3) ?_)
  have hb := bucket_lt _ (dist_le y2 y3)
  rw [row_word]
  pointwise
  rw [← wrap _ hb]
  unfold bucket place dist
  rfl

/-- The kernel's frame at the bit instance. -/
theorem frame_p : Cert.quiescent_Kernel7 := fun m ρ _ => Cert.Kernel7.Gen.frame m ρ

/-- The kernel's frame at the ideal instance. -/
theorem frame_pi : Cert.quiescent_Kernel7Ideal := fun m ρ _ => Cert.Kernel7Ideal.Gen.frame m ρ

/-- The reference's frame: it runs host operations only and declares no semaphore. -/
theorem frame_ri : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The kernel's tables are the reference's. -/
theorem algebraic : Cert.algebraic_Kernel7Ideal_Reference7Ideal := by
  intro m ρ m' ρ' _ hagree
  refine ⟨fun c => G (m ((c.tc : Thread Cert.Kernel7Ideal.nD Cert.Kernel7Ideal.τ).loc Cert.Kernel7Ideal.main_arg0)), ?_, ?_⟩
  · exact (θ_run Cert.Kernel7Ideal.defs _ _).mono (fun _ h c => ⟨(h c).1.trans (final m c), (h c).2⟩)
      (Cert.Kernel7Ideal.Value.run_blocks (F := Ideal) m ρ)
  · refine (θ_run Cert.Reference7Ideal.defs _ _).mono (fun _ h c => ⟨(h c).1.trans ?_, (h c).2⟩)
      (Cert.Reference7Ideal.Value.run (F := Ideal) m' ρ')
    exact (reference m' c).trans (congrArg G (hagree c))

end Cert.Proof.BiasSample

end
-- ==== Proof.PromptRun.lean ====
module

public import proofs.«01_k».proof.Proof.Gen.Kernel8Ideal.Frame
public import proofs.«01_k».proof.Proof.Gen.Kernel8Ideal.Loops
public import Idealize.ShloMosaic.Lib.WritesUnit

@[expose] public section
set_option maxRecDepth 16384

/-! One point of the gated linear attention of a prompt: what its loop of eight chunks leaves. -/

noncomputable section
namespace Cert.Proof.Prompt
open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The point starts a batch: the state is cleared there. -/
abbrev fresh (i : grid0.Coords) : Prop :=
  (Scalar.cmpi .ne (Scalar.extui (Scalar.cmpi .eq (BitVec.ofNat 32 (i 1).val) 0#32)) 0#32) = 1#1

/-- The zero offsets of a matrix, in one form and the other. -/
theorem zero2 : (![0, 0] : Fin 2 → ℕ) = fun _ => 0 := by
  funext a
  match a with
  | 0 => rfl
  | 1 => rfl

/-- Those of a stack of matrices. -/
theorem zero3 : (![0, 0, 0] : Fin 3 → ℕ) = fun _ => 0 := by
  funext a
  match a with
  | 0 => rfl
  | 1 => rfl
  | 2 => rfl

/-- A store over a whole buffer is what the buffer then holds. -/
theorem read_whole {κ' : Kind} {sp' : Space} {s : Shape} {e : EltTy} (v : View sig κ' sp' s e)
    (f : BufTy.Contents (Elt F) v.ty) {off : Fin s.rank → ℕ} (h : off = fun _ => 0)
    (inb : ∀ a, off a + s.size a ≤ s.size a) (w : s.Idx → Elt F e) (L : List (View.Piece (Elt F) s e)) :
    v.read (Elt F) (v.writes (Elt F) f ((⟨Rect.unit off s.size inb, w⟩ : View.Piece (Elt F) s e) :: L)) = w := by
  funext y
  exact View.read_writes_cons_unit_of_mem v f inb w L y y h (fun a => (Nat.zero_add _).symm)

/-- A load of a whole buffer is what the buffer holds. -/
theorem load_whole {κ' : Kind} {sp' : Space} {s : Shape} {e : EltTy} (v : View sig κ' sp' s e)
    (f : BufTy.Contents (Elt F) v.ty) {off : Fin s.rank → ℕ} (h : off = fun _ => 0)
    (inb : ∀ a, off a + s.size a ≤ s.size a) :
    v.readAt (Elt F) (Rect.unit off s.size inb).toLoadRect f = v.read (Elt F) f := by
  subst h
  funext y
  show v.read (Elt F) f _ = _
  congr 1; funext a; apply Fin.ext
  show 0 + 1 * (y a).val = (y a).val
  omega

variable (c : Dev nD) (i : grid0.Coords)
  (arg2 : Memref sig .tc .vmem S512x256 .f32) (harg2 : arg2.IsWhole)
  (arg3 : Memref sig .tc .vmem S512x256 .f32) (harg3 : arg3.IsWhole)
  (arg4 : Memref sig .tc .vmem S512x512 .f32) (harg4 : arg4.IsWhole)
  (arg5 : Memref sig .tc .vmem S512x256 .f32) (harg5 : arg5.IsWhole)
  (arg6 : Memref sig .tc .vmem S512x512 .f32) (harg6 : arg6.IsWhole)
  (arg7 : Memref sig .tc .vmem S1x128 .f32) (harg7 : arg7.IsWhole)
  (arg8 : Memref sig .tc .vmem S512x512 .bf16) (harg8 : arg8.IsWhole)
  (arg9 : Memref sig .tc .vmem S1x256x128 .f32) (harg9 : arg9.IsWhole)
  (arg10 : Memref sig .tc .vmem S256x128 .f32) (harg10 : arg10.IsWhole)
  (arg11 : Memref sig .tc .vmem S64x256 .f32) (harg11 : arg11.IsWhole)
  (arg12 : Memref sig .tc .vmem S64x512 .f32) (harg12 : arg12.IsWhole)

/-- A chunk's stores depend on the state it finds, and on no other buffer it writes. -/
theorem trip_of_state
  (X2 : BufTy.Contents (Elt F) arg2.view.ty)
  (X3 : BufTy.Contents (Elt F) arg3.view.ty)
  (X4 : BufTy.Contents (Elt F) arg4.view.ty)
  (X5 : BufTy.Contents (Elt F) arg5.view.ty)
  (X6 : BufTy.Contents (Elt F) arg6.view.ty)
  (X7 : BufTy.Contents (Elt F) arg7.view.ty)
  (k : Fin k0_t1_loop.trips) (f8 g8 : BufTy.Contents (Elt F) arg8.view.ty) (f10 : BufTy.Contents (Elt F) arg10.view.ty)
  (f11 g11 : BufTy.Contents (Elt F) arg11.view.ty) (f12 g12 : BufTy.Contents (Elt F) arg12.view.ty) :
    tripL_k0_t1 (F := F) Variants.none c none i arg2 harg2 arg3 harg3 arg4 harg4 arg5 harg5 arg6 harg6 arg7 harg7 arg8 harg8 arg9 harg9 arg10 harg10 arg11 harg11 arg12 harg12 X2 X3 X4 X5 X6 X7 k f8 f10 f11 f12
      = tripL_k0_t1 (F := F) Variants.none c none i arg2 harg2 arg3 harg3 arg4 harg4 arg5 harg5 arg6 harg6 arg7 harg7 arg8 harg8 arg9 harg9 arg10 harg10 arg11 harg11 arg12 harg12 X2 X3 X4 X5 X6 X7 k g8 f10 g11 g12 := by
  unfold tripL_k0_t1 trip_k0_t1
  rfl

/-- Nor do the stores of the chunks before `k`, taken together. -/
theorem loop_of_state
  (X2 : BufTy.Contents (Elt F) arg2.view.ty)
  (X3 : BufTy.Contents (Elt F) arg3.view.ty)
  (X4 : BufTy.Contents (Elt F) arg4.view.ty)
  (X5 : BufTy.Contents (Elt F) arg5.view.ty)
  (X6 : BufTy.Contents (Elt F) arg6.view.ty)
  (X7 : BufTy.Contents (Elt F) arg7.view.ty)
  (f8 g8 : BufTy.Contents (Elt F) arg8.view.ty) (f10 : BufTy.Contents (Elt F) arg10.view.ty)
  (f11 g11 : BufTy.Contents (Elt F) arg11.view.ty) (f12 g12 : BufTy.Contents (Elt F) arg12.view.ty) (k : ℕ) (hk : k ≤ k0_t1_loop.trips) :
    pb_k0_t1 (F := F) Variants.none c none i arg2 harg2 arg3 harg3 arg4 harg4 arg5 harg5 arg6 harg6 arg7 harg7 arg8 harg8 arg9 harg9 arg10 harg10 arg11 harg11 arg12 harg12 X2 X3 X4 X5 X6 X7 f8 f10 f11 f12 k
      = pb_k0_t1 (F := F) Variants.none c none i arg2 harg2 arg3 harg3 arg4 harg4 arg5 harg5 arg6 harg6 arg7 harg7 arg8 harg8 arg9 harg9 arg10 harg10 arg11 harg11 arg12 harg12 X2 X3 X4 X5 X6 X7 g8 f10 g11 g12 k := by
  induction k with
  | zero => rfl
  | succ k ih =>
    have e := ih (Nat.le_of_succ_le hk)
    rw [pb_k0_t1_succ (k := ⟨k, hk⟩), pb_k0_t1_succ (k := ⟨k, hk⟩)]
    dsimp only at e ⊢
    rw [e]
    generalize pb_k0_t1 (F := F) Variants.none c none i arg2 harg2 arg3 harg3 arg4 harg4 arg5 harg5 arg6 harg6 arg7 harg7 arg8 harg8 arg9 harg9 arg10 harg10 arg11 harg11 arg12 harg12
      X2 X3 X4 X5 X6 X7
      g8 f10 g11 g12 k = P
    have t := trip_of_state c i arg2 harg2 arg3 harg3 arg4 harg4 arg5 harg5 arg6 harg6 arg7 harg7 arg8 harg8 arg9 harg9 arg10 harg10 arg11 harg11 arg12 harg12 X2 X3 X4 X5 X6 X7 ⟨k, hk⟩
      (arg8.view.writes (Elt F) f8 P.1) (arg8.view.writes (Elt F) g8 P.1) (arg10.view.writes (Elt F) f10 P.2.1)
      (arg11.view.writes (Elt F) f11 P.2.2.1) (arg11.view.writes (Elt F) g11 P.2.2.1)
      (arg12.view.writes (Elt F) f12 P.2.2.2) (arg12.view.writes (Elt F) g12 P.2.2.2)
    exact congrArg (fun T : List (View.Piece (Elt F) S512x512 .bf16) × List (View.Piece (Elt F) S256x128 .f32)
        × List (View.Piece (Elt F) S64x256 .f32) × List (View.Piece (Elt F) S64x512 .f32) =>
      (T.1 ++ P.1, T.2.1 ++ P.2.1, T.2.2.1 ++ P.2.2.1, T.2.2.2 ++ P.2.2.2)) t

/-- The stores of the chunks before `k`, from the input blocks and the state at the point's start. -/
def loop (x0 : Vec F S512x256 .f32) (x1 : Vec F S512x256 .f32) (x2 : Vec F S512x512 .f32)
  (x3 : Vec F S512x256 .f32) (x4 : Vec F S512x512 .f32) (x5 : Vec F S1x128 .f32) (S : Vec F S256x128 .f32) (k : ℕ) :=
  pb_k0_t1 (F := F) Variants.none c none i arg2 harg2 arg3 harg3 arg4 harg4 arg5 harg5 arg6 harg6 arg7 harg7 arg8 harg8 arg9 harg9 arg10 harg10 arg11 harg11 arg12 harg12
    (harg2.unread x0) (harg3.unread x1) (harg4.unread x2) (harg5.unread x3) (harg6.unread x4) (harg7.unread x5)
    arg8.view.junk (harg10.unread S) arg11.view.junk arg12.view.junk k

/-- The state after the chunks before `k`. -/
def state (x0 : Vec F S512x256 .f32) (x1 : Vec F S512x256 .f32) (x2 : Vec F S512x512 .f32)
  (x3 : Vec F S512x256 .f32) (x4 : Vec F S512x512 .f32) (x5 : Vec F S1x128 .f32) (S : Vec F S256x128 .f32) (k : ℕ) : Vec F S256x128 .f32 :=
  arg10.view.read (Elt F) (arg10.view.writes (Elt F) (harg10.unread S)
    (loop c i arg2 harg2 arg3 harg3 arg4 harg4 arg5 harg5 arg6 harg6 arg7 harg7 arg8 harg8 arg9 harg9 arg10 harg10 arg11 harg11 arg12 harg12 x0 x1 x2 x3 x4 x5 S k).2.1)

/-- The state a point starts from: cleared at a batch's first. -/
def enter (S : Vec F S256x128 .f32) : Vec F S256x128 .f32 := by
  classical exact if fresh i then k0_pay1 else S

/-- The block of outputs a point leaves. -/
def block (x0 : Vec F S512x256 .f32) (x1 : Vec F S512x256 .f32) (x2 : Vec F S512x512 .f32)
  (x3 : Vec F S512x256 .f32) (x4 : Vec F S512x512 .f32) (x5 : Vec F S1x128 .f32) (S : Vec F S256x128 .f32) : Vec F S512x512 .bf16 :=
  arg8.view.read (Elt F) (arg8.view.writes (Elt F) arg8.view.junk
    (loop c i arg2 harg2 arg3 harg3 arg4 harg4 arg5 harg5 arg6 harg6 arg7 harg7 arg8 harg8 arg9 harg9 arg10 harg10 arg11 harg11 arg12 harg12 x0 x1 x2 x3 x4 x5 S k0_t1_loop.trips).1)

/-- The point's stores cover its block of outputs. -/
theorem block_cover (x0 : Vec F S512x256 .f32) (x1 : Vec F S512x256 .f32) (x2 : Vec F S512x512 .f32)
  (x3 : Vec F S512x256 .f32) (x4 : Vec F S512x512 .f32) (x5 : Vec F S1x128 .f32) (S : Vec F S256x128 .f32) (y : S512x512.Idx) :
    ∃ pc ∈ (loop c i arg2 harg2 arg3 harg3 arg4 harg4 arg5 harg5 arg6 harg6 arg7 harg7 arg8 harg8 arg9 harg9 arg10 harg10 arg11 harg11 arg12 harg12 x0 x1 x2 x3 x4 x5 S k0_t1_loop.trips).1, y ∈ pc.1.set :=
  View.cover_of_tiledL (loop c i arg2 harg2 arg3 harg3 arg4 harg4 arg5 harg5 arg6 harg6 arg7 harg7 arg8 harg8 arg9 harg9 arg10 harg10 arg11 harg11 arg12 harg12 x0 x1 x2 x3 x4 x5 S k0_t1_loop.trips).1 S32x512.size (by sl_kernel_rfl) y

/-- The loop's stores from buffers holding anything, at a state: those named above. -/
theorem loop_from (x0 : Vec F S512x256 .f32) (x1 : Vec F S512x256 .f32) (x2 : Vec F S512x512 .f32)
  (x3 : Vec F S512x256 .f32) (x4 : Vec F S512x512 .f32) (x5 : Vec F S1x128 .f32) (S : Vec F S256x128 .f32)
    (f8 : BufTy.Contents (Elt F) arg8.view.ty) (f11 : BufTy.Contents (Elt F) arg11.view.ty) (f12 : BufTy.Contents (Elt F) arg12.view.ty) (g10 : BufTy.Contents (Elt F) arg10.view.ty) (hg : arg10.view.read (Elt F) g10 = S) :
    pb_k0_t1 (F := F) Variants.none c none i arg2 harg2 arg3 harg3 arg4 harg4 arg5 harg5 arg6 harg6 arg7 harg7 arg8 harg8 arg9 harg9 arg10 harg10 arg11 harg11 arg12 harg12
      (harg2.unread x0) (harg3.unread x1) (harg4.unread x2) (harg5.unread x3) (harg6.unread x4) (harg7.unread x5)
      f8 g10 f11 f12 k0_t1_loop.trips
      = loop c i arg2 harg2 arg3 harg3 arg4 harg4 arg5 harg5 arg6 harg6 arg7 harg7 arg8 harg8 arg9 harg9 arg10 harg10 arg11 harg11 arg12 harg12 x0 x1 x2 x3 x4 x5 S k0_t1_loop.trips := by
  obtain rfl := harg10.eq_unread hg
  unfold loop
  exact loop_of_state c i arg2 harg2 arg3 harg3 arg4 harg4 arg5 harg5 arg6 harg6 arg7 harg7 arg8 harg8 arg9 harg9 arg10 harg10 arg11 harg11 arg12 harg12 _ _ _ _ _ _ _ _ _ _ _ _ _ _ le_rfl

/-- The outputs of a point, from buffers holding anything. -/
theorem block_from (x0 : Vec F S512x256 .f32) (x1 : Vec F S512x256 .f32) (x2 : Vec F S512x512 .f32)
  (x3 : Vec F S512x256 .f32) (x4 : Vec F S512x512 .f32) (x5 : Vec F S1x128 .f32) (S : Vec F S256x128 .f32)
    (f8 : BufTy.Contents (Elt F) arg8.view.ty) (f11 : BufTy.Contents (Elt F) arg11.view.ty) (f12 : BufTy.Contents (Elt F) arg12.view.ty) (g10 : BufTy.Contents (Elt F) arg10.view.ty) (hg : arg10.view.read (Elt F) g10 = S) :
    arg8.view.read (Elt F) (arg8.view.writes (Elt F) f8 (pb_k0_t1 (F := F) Variants.none c none i arg2 harg2 arg3 harg3 arg4 harg4 arg5 harg5 arg6 harg6 arg7 harg7 arg8 harg8 arg9 harg9 arg10 harg10 arg11 harg11 arg12 harg12
      (harg2.unread x0) (harg3.unread x1) (harg4.unread x2) (harg5.unread x3) (harg6.unread x4) (harg7.unread x5)
      f8 g10 f11 f12 k0_t1_loop.trips).1)
      = block c i arg2 harg2 arg3 harg3 arg4 harg4 arg5 harg5 arg6 harg6 arg7 harg7 arg8 harg8 arg9 harg9 arg10 harg10 arg11 harg11 arg12 harg12 x0 x1 x2 x3 x4 x5 S := by
  rw [loop_from (hg := hg)]
  exact View.read_writes_of_cover _ _ _ _ _ (block_cover c i arg2 harg2 arg3 harg3 arg4 harg4 arg5 harg5 arg6 harg6 arg7 harg7 arg8 harg8 arg9 harg9 arg10 harg10 arg11 harg11 arg12 harg12 x0 x1 x2 x3 x4 x5 S)

/-- The state after a point, from buffers holding anything. -/
theorem state_from (x0 : Vec F S512x256 .f32) (x1 : Vec F S512x256 .f32) (x2 : Vec F S512x512 .f32)
  (x3 : Vec F S512x256 .f32) (x4 : Vec F S512x512 .f32) (x5 : Vec F S1x128 .f32) (S : Vec F S256x128 .f32)
    (f8 : BufTy.Contents (Elt F) arg8.view.ty) (f11 : BufTy.Contents (Elt F) arg11.view.ty) (f12 : BufTy.Contents (Elt F) arg12.view.ty) (g10 : BufTy.Contents (Elt F) arg10.view.ty) (hg : arg10.view.read (Elt F) g10 = S) :
    arg10.view.read (Elt F) (arg10.view.writes (Elt F) g10 (pb_k0_t1 (F := F) Variants.none c none i arg2 harg2 arg3 harg3 arg4 harg4 arg5 harg5 arg6 harg6 arg7 harg7 arg8 harg8 arg9 harg9 arg10 harg10 arg11 harg11 arg12 harg12
      (harg2.unread x0) (harg3.unread x1) (harg4.unread x2) (harg5.unread x3) (harg6.unread x4) (harg7.unread x5)
      f8 g10 f11 f12 k0_t1_loop.trips).2.1)
      = state c i arg2 harg2 arg3 harg3 arg4 harg4 arg5 harg5 arg6 harg6 arg7 harg7 arg8 harg8 arg9 harg9 arg10 harg10 arg11 harg11 arg12 harg12 x0 x1 x2 x3 x4 x5 S k0_t1_loop.trips := by
  rw [loop_from (hg := hg)]
  obtain rfl := harg10.eq_unread hg
  rfl

set_option maxHeartbeats 1000000 in
/-- A point's body, from the input blocks and the state it finds, runs and leaves the outputs and
    the state named above. -/
theorem point (x0 : Vec F S512x256 .f32) (x1 : Vec F S512x256 .f32) (x2 : Vec F S512x512 .f32)
  (x3 : Vec F S512x256 .f32) (x4 : Vec F S512x512 .f32) (x5 : Vec F S1x128 .f32) (S : Vec F S256x128 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare S ∗ (∃ d, owns (c : Thread nD τ) arg11 fullShare d) ∗ (∃ d, owns (c : Thread nD τ) arg12 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (block c i arg2 harg2 arg3 harg3 arg4 harg4 arg5 harg5 arg6 harg6 arg7 harg7 arg8 harg8 arg9 harg9 arg10 harg10 arg11 harg11 arg12 harg12 x0 x1 x2 x3 x4 x5 (enter i S)) ∗ owns (c : Thread nD τ) arg9 fullShare (k0_pay3 (state c i arg2 harg2 arg3 harg3 arg4 harg4 arg5 harg5 arg6 harg6 arg7 harg7 arg8 harg8 arg9 harg9 arg10 harg10 arg11 harg11 arg12 harg12 x0 x1 x2 x3 x4 x5 (enter i S) k0_t1_loop.trips)) ∗ owns (c : Thread nD τ) arg10 fullShare (state c i arg2 harg2 arg3 harg3 arg4 harg4 arg5 harg5 arg6 harg6 arg7 harg7 arg8 harg8 arg9 harg9 arg10 harg10 arg11 harg11 arg12 harg12 x0 x1 x2 x3 x4 x5 (enter i S) k0_t1_loop.trips) ∗ (∃ d, owns (c : Thread nD τ) arg11 fullShare d) ∗ (∃ d, owns (c : Thread nD τ) arg12 fullShare d)) -∗ K ⟨⟩))
      ⊢ wp frame (wpE (defs₀ (F := F)) Variants.none c none) E (cc0_gla_prompt i arg2 harg2 arg3 harg3 arg4 harg4 arg5 harg5 arg6 harg6 arg7 harg7 arg8 harg8 arg9 harg9 arg10 harg10 arg11 harg11 arg12 harg12) K := by
  simp only [cc0_gla_prompt_eq_skeleton]; unfold cc0_gla_prompt_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg10.eq_unread hfs
  by_cases hc0 : fresh i
  · have he : enter (F := F) i S = k0_pay1 := by unfold enter; exact if_pos hc0
    rw [he]
    sl_exec (disch := first | sl_exact hc0)
    sl_step
    iapply Hk
    have hz : arg10.view.read (Elt F) (arg10.view.writes (Elt F) arg10.view.junk
        [(⟨Rect.unit ![0, 0] S256x128.size inb_S256x128_S256x128_0_0, k0_pay1⟩ : View.Piece (Elt F) S256x128 .f32)]) = k0_pay1 :=
      read_whole (s := S256x128) (off := ![0, 0]) _ _ zero2 _ _ _
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro; exact block_from (hg := hz) ..
    isplitl [H7]
    · iexists _; isplitr; swap; · iexact H7
      ipureintro
      refine (read_whole (s := S1x256x128) (off := ![0, 0, 0]) _ _ zero3 _ _ _).trans ?_
      refine congrArg k0_pay3 ?_
      refine (load_whole (s := S256x128) (off := ![0, 0]) _ _ zero2 _).trans ?_
      rw [View.writes_append]; exact state_from (hg := hz) ..
    isplitl [HS0]
    · iexists _; isplitr; swap; · iexact HS0
      ipureintro; rw [View.writes_append]; exact state_from (hg := hz) ..
    isplitl [HS1]
    · iexists _, _; isplitr; swap; · iexact HS1
      ipureintro; rfl
    iexists _, _; isplitr; swap; · iexact HS2
    ipureintro; rfl
  · have he : enter (F := F) i S = S := by unfold enter; exact if_neg hc0
    rw [he]
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro; exact block_from (hg := harg10.read_unread _) ..
    isplitl [H7]
    · iexists _; isplitr; swap; · iexact H7
      ipureintro
      refine (read_whole (s := S1x256x128) (off := ![0, 0, 0]) _ _ zero3 _ _ _).trans ?_
      refine congrArg k0_pay3 ?_
      refine (load_whole (s := S256x128) (off := ![0, 0]) _ _ zero2 _).trans ?_
      exact state_from (hg := harg10.read_unread _) ..
    isplitl [HS0]
    · iexists _; isplitr; swap; · iexact HS0
      ipureintro; exact state_from (hg := harg10.read_unread _) ..
    isplitl [HS1]
    · iexists _, _; isplitr; swap; · iexact HS1
      ipureintro; rfl
    iexists _, _; isplitr; swap; · iexact HS2
    ipureintro; rfl

end Cert.Proof.Prompt
end
-- ==== Proof.PromptFrame.lean ====
module

public import proofs.«01_k».proof.Defs
public import proofs.«01_k».proof.Proof.PromptRun
public import proofs.«01_k».proof.Proof.Gen.Kernel8.Frame
public import proofs.«01_k».proof.Proof.Gen.Pre_decays8
public import Idealize.ShloMosaic.Lib.Claim

@[expose] public section
set_option maxRecDepth 16384

/-! The gated linear attention of the prompts: its run, with the state handed from point to point. -/

noncomputable section
namespace Cert.Proof.Prompt
open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- A point starts a batch when it is a multiple of sixteen. -/
theorem fresh_iff (t : Fin cfg0.N) : fresh (grid0.coords t) ↔ t.val % 16 = 0 := by
  have ht : t.val < 32 := Nat.lt_of_lt_of_eq t.isLt N_0
  have e : (grid0.coords t 1).val = t.val / 1 % 16 := Pipeline.Grid.coords_val t 1 (by decide) rfl
  simp only [fresh, e]
  word_cmp

/-- The state after `k` chunks of point `t`, entered at the state `S`. -/
def within (c : Dev nD) (t : Fin cfg0.N) (S : Vec F S256x128 .f32) (k : ℕ) : Vec F S256x128 .f32 :=
  state c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) (iblk m c 3 t) (iblk m c 4 t) (iblk m c 5 t) S k

/-- The outputs of point `t`, entered at the state `S`. -/
def rows (c : Dev nD) (t : Fin cfg0.N) (S : Vec F S256x128 .f32) : Vec F S512x512 .bf16 :=
  block c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) (iblk m c 3 t) (iblk m c 4 t) (iblk m c 5 t) S

/-- The state the points before `n` leave. -/
def held (c : Dev nD) : ℕ → Vec F S256x128 .f32
  | 0 => k0_pay1
  | n + 1 => if h : n < cfg0.N then
      within m c ⟨n, h⟩ (enter (grid0.coords ⟨n, h⟩) (held c n)) k0_t1_loop.trips else k0_pay1

/-- The state point `t` enters its loop with. -/
def entered (c : Dev nD) (t : Fin cfg0.N) : Vec F S256x128 .f32 := enter (grid0.coords t) (held m c t.val)

/-- The state point `t` leaves. -/
theorem held_succ (c : Dev nD) (t : Fin cfg0.N) :
    held m c (t.val + 1) = within m c t (entered m c t) k0_t1_loop.trips := by
  rw [held]
  exact dif_pos t.isLt

/-- Between points the state is what the points before left, except where a batch starts, when
    it may be anything. -/
def carried (c : Dev nD) (n : ℕ) : sProp (MT nD τ sig Unit (Elt F) ℕ (UR sig nD τ) ℕ) :=
  iprop(iprop((∃ d, ⌜n % 16 ≠ 0 → d = held m c n⌝ ∗ owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r))

/-- The proof data of the call: the arrays as found, the inputs' blocks kept, the outputs named
    above, and the carried state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => rows m c t (entered m c t)
    | ⟨7, _⟩ => k0_pay3 (held m c (t.val + 1))
  Φ t := carried m c t.val
  q _ := fullShare
  owed _ := 0

/-- The arrays of the proof data are those found at the start. -/
theorem A_eq (c : Dev nD) (w : Fin cfg0.W) : (dats m 0 c).A w = V m c (Pipeline.arrRef spec0 w) := by
  dsimp only [dats]

/-! What each staging buffer holds after and before the body. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = rows m c t (entered m c t) := by dsimp only [dats]
theorem after7 (c : Dev nD) (t : Fin cfg0.N) : (dats m 0 c).after 7 t = k0_pay3 (held m c (t.val + 1)) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- What the body finds at point `t`. -/
def bodyPre (c : Dev nD) (t : Fin cfg0.N) : sProp (MT nD τ sig Unit (Elt F) ℕ (UR sig nD τ) ℕ) :=
  iprop(carried m c t.val ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- What it leaves. -/
def bodyPost (c : Dev nD) (t : Fin cfg0.N) : sProp (MT nD τ sig Unit (Elt F) ℕ (UR sig nD τ) ℕ) :=
  iprop(carried m c (t.val + 1) ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t))

/-- The state a point enters does not depend on what is found where a batch starts. -/
theorem enter_eq (c : Dev nD) (t : Fin cfg0.N) (d : Vec F S256x128 .f32) (h : t.val % 16 ≠ 0 → d = held m c t.val) :
    enter (grid0.coords t) d = entered m c t := by
  unfold entered enter
  by_cases hc : fresh (grid0.coords t)
  · rw [if_pos hc, if_pos hc]
  · rw [if_neg hc, if_neg hc, h (fun e => hc ((fresh_iff t).mpr e))]

set_option maxHeartbeats 1000000 in
/-- The body at point `t` takes the carried state and the blocks to those after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5, after6, after7]
  unfold carried
  rw [held_succ]
  iintro ⟨⟨⟨⟨%d, %hd, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have he := enter_eq m c t d hd
  unfold within rows
  rw [← he]
  iapply (point c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) (iblk m c 3 t) (iblk m c 4 t) (iblk m c 5 t) d Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]
      · iexists _; isplitr
        swap; · iexact HS0
        ipureintro; exact fun _ => rfl
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body the call runs at point `t`. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch buffers at the start, at any contents. -/
theorem phi_eq (c : Dev nD) :
    (Pipeline.ΦA spec0 c : sProp (MT nD τ sig Unit (Elt F) ℕ (UR sig nD τ) ℕ))
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- Anything in the scratch buffers will do before the first point. -/
theorem hin (c : Dev nD) : Pipeline.ΦA spec0 c ⊢ (dats m 0 c).Φ 0 := by
  rw [show (dats m 0 c).Φ 0 = carried m c 0 from rfl, phi_eq]
  unfold carried
  iintro ⟨⟨⟨%d, HS0⟩, HS1, HS2⟩, Hg⟩
  isplitl [HS0 HS1 HS2]
  · isplitl [HS0]
    · iexists d; isplitr
      · ipureintro; exact fun h => absurd rfl h
      iexact HS0
    isplitl [HS1]
    · iexact HS1
    iexact HS2
  iexact Hg

/-- After the last point the carried state is forgotten. -/
theorem hout (c : Dev nD) : (dats m 0 c).Φ (Fin.last cfg0.N) ⊢ Pipeline.ΦA spec0 c := by
  rw [show (dats m 0 c).Φ (Fin.last cfg0.N) = carried m c cfg0.N from rfl, phi_eq]
  unfold carried
  iintro ⟨⟨⟨%d, -, HS0⟩, HS1, HS2⟩, Hg⟩
  isplitl [HS0 HS1 HS2]
  · isplitl [HS0]
    · iexists _; iexact HS0
    isplitl [HS1]
    · iexact HS1
    iexact HS2
  iexact Hg

set_option backward.isDefEq.respectTransparency.types false in
/-- The whole call: its arrays at the end, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The whole call: its arrays at the end. -/
theorem run : θ_run defs (onTc (τ := τ) (main (F := F))) (s₀ m ρ) (Pipeline.FramePost cfgs (dats m) 0 (V m)) :=
  (θ_run defs _ _).mono (fun _ h => h.1) (run_quiescent m ρ)

/-- The call ends, with its arguments as they were and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run m ρ)) ((θ_run defs _ _).mono (fun _ h => h.2) (run_quiescent m ρ))

/-- The two programs run the same body. -/
theorem tables : Cert.Kernel8.defs₀ (F := F) = Cert.Kernel8Ideal.defs₀ (F := F) := by
  unfold Cert.Kernel8.defs₀ Cert.Kernel8Ideal.defs₀
  refine congrArg (Defs.onTc (τ := Cert.Kernel8.τ)) ?_
  funext l x
  match l, x with
  | 0, (t, s) => rfl
  | ⟨_ + 1, h⟩, _ => exact absurd h (Nat.not_lt.2 (Nat.le_add_left _ _))

/-- And the same program. -/
theorem mains : Cert.Kernel8.main (F := F) = Cert.Kernel8Ideal.main (F := F) := rfl

/-- And the same table of calls. -/
theorem calls : Cert.Kernel8.defs (F := F) = Cert.Kernel8Ideal.defs (F := F) := by
  unfold Cert.Kernel8.defs Cert.Kernel8Ideal.defs
  rw [tables]
  rfl

/-- The call as it stands ends, with its arguments as they were and every counter at zero. -/
theorem frame_p : Cert.quiescent_Kernel8 := by
  intro m ρ _
  rw [calls, mains]
  exact frame_any (F := Bits) m ρ

/-- So does the idealized call. -/
theorem frame_pi : Cert.quiescent_Kernel8Ideal := fun m ρ _ => frame_any m ρ

/-- And the idealized call where decays are not positive. -/
theorem frame_pi_pre : Cert.quiescent_Kernel8Ideal_pre_decays8 := fun m ρ _ => frame_any m ρ

end Cert.Proof.Prompt
end
-- ==== Proof.PromptState.lean ====
module

public import proofs.«01_k».proof.Proof.PromptFrame
public import proofs.«01_k».proof.Proof.Gla
public import Idealize.ShloMosaic.Lib.Pointwise
public import Idealize.ShloMosaic.Lib.WholeRead
public import Idealize.ShloMosaic.Lib.IdealHost
public import Idealize.ShloMosaic.Lib.Pipeline.ValueKit

@[expose] public section
set_option maxRecDepth 16384

/-! The state of the gated linear attention of the prompts, chunk by chunk. -/

noncomputable section
namespace Cert.Proof.Prompt
open Cert.Kernel8Ideal Cert.Kernel8Ideal.Gen
open Idealize.ShloMosaic Idealize.ShloMosaic.TcCoe Idealize.ShloMosaic.Tactic

/-- The state a chunk leaves, from the chunk's rows and the state before it. -/
def step {F : FTy → Type} [FloatOps F] (k : Vec F S64x256 .f32) (v : Vec F S64x512 .f32) (la : Vec F S64x256 .f32) (S : Vec F S256x128 .f32) : Vec F S256x128 .f32 :=
  k0_pay22 v k0_pay10 (k0_pay13 k (k0_pay4 la)) (k0_pay18 v k0_pay10 (k0_pay13 k (k0_pay4 la)) (k0_pay14 la S))

/-- Row `u` of chunk `k` of a block. -/
def at64 (k : Fin k0_t1_loop.trips) (u : Fin 64) : Fin 512 :=
  ⟨64 * k.val + u.val, by have h : k.val < 8 := k.isLt; omega⟩

/-- A state row's head. -/
theorem row (d : Fin 256) (e : Fin 128) : k0_pay10 (ix2 d e) = BitVec.ofNat 32 (d.val / 64) := by
  have h : k0_pay10 (ix2 d e) = k0_pay10 (ix2 d 0) := by pointwise [k0_pay10]
  rw [h]
  exact (by decide +kernel : ∀ d : Fin 256, k0_pay10 (ix2 d 0) = BitVec.ofNat 32 (d.val / 64)) d

/-- The running sum of the log decays. -/
theorem pay4_apply (la : Vec Ideal S64x256 .f32) (t : Fin 64) (l : Fin 256) :
   k0_pay4 la (ix2 t l) = Gla.cum (fun u => la (ix2 u l)) t := by
  pointwise [k0_pay4, Gla.cum]
  refine Finset.sum_congr rfl fun u _ => ?_
  rw [Gla.sitofp_bit, Gla.select_sge _ _ (by omega) (by omega), ite_mul, one_mul, zero_mul]

/-- The carried state times the chunk's whole decay. -/
theorem pay14_apply (la : Vec Ideal S64x256 .f32) (s : Vec Ideal S256x128 .f32) (d : Fin 256) (e : Fin 128) :
   k0_pay14 la s (ix2 d e) = Ideal.exp (∑ u : Fin 64, la (ix2 u d)) * s (ix2 d e) := by
  pointwise [k0_pay14]

/-- A key times its decay to the end of the chunk. -/
theorem pay13_apply (k : Vec Ideal S64x256 .f32) (b : Vec Ideal S64x256 .f32) (t : Fin 64) (d : Fin 256)  :
   k0_pay13 k b (ix2 t d) = k (ix2 t d) * Ideal.exp (b (ix2 63 d) - b (ix2 t d)) := by
  pointwise [k0_pay13]

/-- The next state: the decayed state plus the keys times the values of the same head. -/
theorem state_apply (v : Vec Ideal S64x512 .f32) (ke : FVec Ideal S64x256 .bf16) (s : FVec Ideal S256x128 .f32) (d : Fin 256) (e : Fin 128)  :
   k0_pay22 v k0_pay10 ke (k0_pay18 v k0_pay10 ke s) (ix2 d e) = s (ix2 d e) + ∑ t, ke (ix2 t d) * v (ix2 t (Gla.col d e)) := by
  have h9 := row d e
  generalize k0_pay10 = R at *
  pointwise [k0_pay22, k0_pay18]
  rw [h9, Gla.select_eq _ _ (by omega) (by omega), Gla.select_eq _ _ (by omega) (by omega),
    Gla.select_eq _ _ (by omega) (by omega), Gla.select_eq _ _ (by omega) (by omega)]
  exact Gla.four_state (s (ix2 d e)) (fun l => ∑ x, ke (ix2 x d) * v (ix2 x l)) (d.val / 64) (by omega) e

/-- A chunk's step is the layer's. -/
theorem step_apply (k : Vec Ideal S64x256 .f32) (v : Vec Ideal S64x512 .f32) (la : Vec Ideal S64x256 .f32) (S : Vec Ideal S256x128 .f32) (d : Fin 256) (e : Fin 128) :
    step k v la S (ix2 d e) = Gla.next (fun u d => k (ix2 u d)) (fun u l => v (ix2 u l)) (fun u d => la (ix2 u d)) (fun d e => S (ix2 d e)) d e := by
  unfold step
  rw [state_apply, pay14_apply]
  unfold Gla.next
  refine congrArg (fun z : EReal => _ + z) (Finset.sum_congr rfl fun t _ => ?_)
  rw [pay13_apply, pay4_apply, pay4_apply, Gla.cum_last _ (63 : Fin 64) rfl]

/-- The first chunk of a batch starts from nothing. -/
theorem pay1_apply (i : S256x128.Idx) : (k0_pay1 (F := Ideal) : FVec Ideal S256x128 .f32) i = (0 : EReal) := by
  idx_vars i
  pointwise [k0_pay1]

/-- The state that is written back is the carried one. -/
theorem pay3_apply (S : Vec Ideal S256x128 .f32) (d : Fin 256) (e : Fin 128) : k0_pay3 S (ix3 0 d e) = S (ix2 d e) := by
  pointwise [k0_pay3]

/-- Where a chunk's rows of 256 lanes lie in the block. -/
theorem chunk_idx (k : Fin k0_t1_loop.trips) (h) (j : S64x256.Idx) :
    (Rect.unit (s := S512x256) (k0_off1 k) ![64, 256] h).toLoadRect.idx j = ix2 (at64 k (j 0)) (j 1) := by
  have h0 : k0_off1 k 0 = 64 * k.val := (by decide +kernel : ∀ k : Fin k0_t1_loop.trips, k0_off1 k 0 = 64 * k.val) k
  have h1 : k0_off1 k 1 = 0 := (by decide +kernel : ∀ k : Fin k0_t1_loop.trips, k0_off1 k 1 = 0) k
  funext a
  match a with
  | ⟨0, _⟩ => apply Fin.ext; show k0_off1 k 0 + 1 * (j 0).val = 64 * k.val + (j 0).val; omega
  | ⟨1, _⟩ => apply Fin.ext; show k0_off1 k 1 + 1 * (j 1).val = (j 1).val; omega

/-- Where a chunk's rows of 512 lanes lie in the block. -/
theorem chunk_idx2 (k : Fin k0_t1_loop.trips) (h) (j : S64x512.Idx) :
    (Rect.unit (s := S512x512) (k0_off2 k) ![64, 512] h).toLoadRect.idx j = ix2 (at64 k (j 0)) (j 1) := by
  have h0 : k0_off2 k 0 = 64 * k.val := (by decide +kernel : ∀ k : Fin k0_t1_loop.trips, k0_off2 k 0 = 64 * k.val) k
  have h1 : k0_off2 k 1 = 0 := (by decide +kernel : ∀ k : Fin k0_t1_loop.trips, k0_off2 k 1 = 0) k
  funext a
  match a with
  | ⟨0, _⟩ => apply Fin.ext; show k0_off2 k 0 + 1 * (j 0).val = 64 * k.val + (j 0).val; omega
  | ⟨1, _⟩ => apply Fin.ext; show k0_off2 k 1 + 1 * (j 1).val = (j 1).val; omega

section
variable {F : FTy → Type} [FloatOps F]
variable (c : Dev nD) (i : grid0.Coords)
  (arg2 : Memref sig .tc .vmem S512x256 .f32) (harg2 : arg2.IsWhole)
  (arg3 : Memref sig .tc .vmem S512x256 .f32) (harg3 : arg3.IsWhole)
  (arg4 : Memref sig .tc .vmem S512x512 .f32) (harg4 : arg4.IsWhole)
  (arg5 : Memref sig .tc .vmem S512x256 .f32) (harg5 : arg5.IsWhole)
  (arg6 : Memref sig .tc .vmem S512x512 .f32) (harg6 : arg6.IsWhole)
  (arg7 : Memref sig .tc .vmem S1x128 .f32) (harg7 : arg7.IsWhole)
  (arg8 : Memref sig .tc .vmem S512x512 .bf16) (harg8 : arg8.IsWhole)
  (arg9 : Memref sig .tc .vmem S1x256x128 .f32) (harg9 : arg9.IsWhole)
  (arg10 : Memref sig .tc .vmem S256x128 .f32) (harg10 : arg10.IsWhole)
  (arg11 : Memref sig .tc .vmem S64x256 .f32) (harg11 : arg11.IsWhole)
  (arg12 : Memref sig .tc .vmem S64x512 .f32) (harg12 : arg12.IsWhole)

/-- One chunk's store to the state. -/
theorem trip_eq (x0 : Vec F S512x256 .f32) (x1 : Vec F S512x256 .f32) (x2 : Vec F S512x512 .f32)
  (x3 : Vec F S512x256 .f32) (x4 : Vec F S512x512 .f32) (x5 : Vec F S1x128 .f32) (S : Vec F S256x128 .f32) (k : Fin k0_t1_loop.trips) (f8 : BufTy.Contents (Elt F) arg8.view.ty) (f11 : BufTy.Contents (Elt F) arg11.view.ty) (f12 : BufTy.Contents (Elt F) arg12.view.ty) :
    arg10.view.read (Elt F) (arg10.view.writes (Elt F) (harg10.unread S)
      ((trip_k0_t1 (F := F) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) k).2.1 f8 (harg10.unread S) f11 f12))
     = step (fun j => x1 (ix2 (at64 k (j 0)) (j 1))) (fun j => x2 (ix2 (at64 k (j 0)) (j 1))) (fun j => x3 (ix2 (at64 k (j 0)) (j 1))) S := by
  unfold trip_k0_t1
  dsimp only
  simp only [trip_k0_t1.sl.r_10,trip_k0_t1.sl.r_7,trip_k0_t1.sl.r_8,trip_k0_t1.sl.r_4,trip_k0_t1.sl.r_3,trip_k0_t1.sl.r_2,trip_k0_t1.sl.r_1]
  refine (read_whole _ _ zero2 _ _ _).trans ?_
  have e1 : ∀ h, View.readAt (Elt F) arg3.view (Rect.unit (k0_off1 k) ![64, 256] h).toLoadRect (harg3.unread x1) = fun j => x1 (ix2 (at64 k (j 0)) (j 1)) := by
    intro h; funext j; exact (Memref.IsWhole.readAt_unread harg3 x1 _ j).trans (congrArg x1 (chunk_idx k h j))
  have e2 : ∀ h, View.readAt (Elt F) arg4.view (Rect.unit (k0_off2 k) ![64, 512] h).toLoadRect (harg4.unread x2) = fun j => x2 (ix2 (at64 k (j 0)) (j 1)) := by
    intro h; funext j; exact (Memref.IsWhole.readAt_unread harg4 x2 _ j).trans (congrArg x2 (chunk_idx2 k h j))
  have e3 : ∀ h, View.readAt (Elt F) arg5.view (Rect.unit (k0_off1 k) ![64, 256] h).toLoadRect (harg5.unread x3) = fun j => x3 (ix2 (at64 k (j 0)) (j 1)) := by
    intro h; funext j; exact (Memref.IsWhole.readAt_unread harg5 x3 _ j).trans (congrArg x3 (chunk_idx k h j))
  have e4 : View.readAt (Elt F) arg10.view (Rect.unit ![0, 0] ![256, 128] inb_S256x128_S256x128_0_0).toLoadRect (harg10.unread S) = S :=
    (load_whole _ _ zero2 _).trans (harg10.read_unread S)
  rw [e1, e2, e3, e4]
  rfl

/-- The state after one chunk more. -/
theorem state_succ (x0 : Vec F S512x256 .f32) (x1 : Vec F S512x256 .f32) (x2 : Vec F S512x512 .f32)
  (x3 : Vec F S512x256 .f32) (x4 : Vec F S512x512 .f32) (x5 : Vec F S1x128 .f32) (S : Vec F S256x128 .f32) (k : ℕ) (hk : k < k0_t1_loop.trips) :
    state c i arg2 harg2 arg3 harg3 arg4 harg4 arg5 harg5 arg6 harg6 arg7 harg7 arg8 harg8 arg9 harg9 arg10 harg10 arg11 harg11 arg12 harg12 x0 x1 x2 x3 x4 x5 S (k + 1)
      = step (fun j => x1 (ix2 (at64 ⟨k, hk⟩ (j 0)) (j 1))) (fun j => x2 (ix2 (at64 ⟨k, hk⟩ (j 0)) (j 1))) (fun j => x3 (ix2 (at64 ⟨k, hk⟩ (j 0)) (j 1)))
         (state c i arg2 harg2 arg3 harg3 arg4 harg4 arg5 harg5 arg6 harg6 arg7 harg7 arg8 harg8 arg9 harg9 arg10 harg10 arg11 harg11 arg12 harg12 x0 x1 x2 x3 x4 x5 S k) := by
  unfold state loop
  have h := pb_k0_t1_succ (F := F) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) arg8.view.junk (harg10.unread S) arg11.view.junk arg12.view.junk ⟨k, hk⟩
  refine (congrArg (fun P : List (View.Piece (Elt F) S512x512 .bf16) × List (View.Piece (Elt F) S256x128 .f32)
        × List (View.Piece (Elt F) S64x256 .f32) × List (View.Piece (Elt F) S64x512 .f32) =>
      arg10.view.read (Elt F) (arg10.view.writes (Elt F) (harg10.unread S) P.2.1)) h).trans ?_
  dsimp only
  generalize pb_k0_t1 (F := F) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) arg8.view.junk (harg10.unread S) arg11.view.junk arg12.view.junk k = P
  rw [View.writes_append]
  have e := harg10.eq_unread (Val := Elt F) (f := arg10.view.writes (Elt F) (harg10.unread S) P.2.1) rfl
  generalize arg10.view.writes (Elt F) (harg10.unread S) P.2.1 = f at e ⊢
  obtain ⟨S', rfl⟩ : ∃ S', f = harg10.unread S' := ⟨_, e⟩
  rw [harg10.read_unread]
  exact trip_eq c i arg2 harg2 arg3 harg3 arg4 harg4 arg5 harg5 arg6 harg6 arg7 harg7 arg8 harg8 arg9 harg9 arg10 harg10 arg11 harg11 arg12 harg12 x0 x1 x2 x3 x4 x5 S' ⟨k, hk⟩ _ _ _
end
end Cert.Proof.Prompt
end
-- ==== Proof.PromptVal.lean ====
module

public import proofs.«01_k».proof.Proof.PromptState

@[expose] public section
set_option maxRecDepth 16384

/-! The gated linear attention of the prompts: the states, point by point, are the layer's. -/

noncomputable section
namespace Cert.Proof.Prompt
open Cert.Kernel8Ideal Cert.Kernel8Ideal.Gen
open Idealize.ShloMosaic Idealize.ShloMosaic.TcCoe Idealize.ShloMosaic.Tactic Idealize.SL.Sem

/-- Row `u` of chunk `n` of batch `b`. -/
def rowAt (b n : ℕ) (u : Fin 64) : Fin 16384 := ⟨(b * 8192 + n * 64 + u.val) % 16384, Nat.mod_lt _ (by decide)⟩

/-- The state batch `b` carries into its chunk `n`. -/
def carry (k : Fin 16384 → Fin 256 → EReal) (v : Fin 16384 → Fin 512 → EReal) (a : Fin 16384 → Fin 256 → EReal) (b : ℕ) :
    ℕ → Fin 256 → Fin 128 → EReal
  | 0 => fun _ _ => 0
  | n + 1 => Gla.next (fun u => k (rowAt b n u)) (fun u => v (rowAt b n u)) (fun u => a (rowAt b n u)) (carry k v a b n)

variable (m : (ℓ : Loc nD τ sig) → Buf (Elt Ideal) ℓ)

/-- The state of the launch's arrays before chunk `n` of batch `b`. -/
def carried' (c : Dev nD) (b n : ℕ) : Fin 256 → Fin 128 → EReal :=
  carry (fun r d => m ((c : Thread nD τ).loc main_arg1) (ix2 r d)) (fun r d => m ((c : Thread nD τ).loc main_arg2) (ix2 r d))
    (fun r d => m ((c : Thread nD τ).loc main_arg3) (ix2 r d)) b n

/-- Every row window's block starts at the grid point's rows; the gain has one block, a batch's state one. -/
theorem idx (t : Fin cfg0.N) : win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val / 16, 0, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val / 16, 0, 0]) t

/-- Row `r` of point `t`'s block. -/
def blockRow (t : Fin cfg0.N) (r : Fin 512) : Fin 16384 :=
  ⟨t.val * 512 + r.val, by have h : t.val < 32 := Nat.lt_of_lt_of_eq t.isLt N_0; omega⟩

/-- The query block's rows. -/
theorem read0 (c : Dev nD) (t : Fin cfg0.N) (u : Fin 512) (d : Fin 256) :
    iblk m c 0 t (ix2 u d) = m ((c : Thread nD τ).loc main_arg0) (ix2 (blockRow t u) d) := by
  obtain ⟨e, -⟩ := idx t
  blk_ext! [iblk, V_main_arg0, e, blockRow]

/-- The key block's rows. -/
theorem read1 (c : Dev nD) (t : Fin cfg0.N) (u : Fin 512) (d : Fin 256) :
    iblk m c 1 t (ix2 u d) = m ((c : Thread nD τ).loc main_arg1) (ix2 (blockRow t u) d) := by
  obtain ⟨-, e, -⟩ := idx t
  blk_ext! [iblk, V_main_arg1, e, blockRow]

/-- The value block's rows. -/
theorem read2 (c : Dev nD) (t : Fin cfg0.N) (u : Fin 512) (d : Fin 512) :
    iblk m c 2 t (ix2 u d) = m ((c : Thread nD τ).loc main_arg2) (ix2 (blockRow t u) d) := by
  obtain ⟨-, -, e, -⟩ := idx t
  blk_ext! [iblk, V_main_arg2, e, blockRow]

/-- The log decay block's rows. -/
theorem read3 (c : Dev nD) (t : Fin cfg0.N) (u : Fin 512) (d : Fin 256) :
    iblk m c 3 t (ix2 u d) = m ((c : Thread nD τ).loc main_arg3) (ix2 (blockRow t u) d) := by
  obtain ⟨-, -, -, e, -⟩ := idx t
  blk_ext! [iblk, V_main_arg3, e, blockRow]

/-- The gate block's rows. -/
theorem read4 (c : Dev nD) (t : Fin cfg0.N) (u : Fin 512) (d : Fin 512) :
    iblk m c 4 t (ix2 u d) = m ((c : Thread nD τ).loc main_arg4) (ix2 (blockRow t u) d) := by
  obtain ⟨-, -, -, -, e, -⟩ := idx t
  blk_ext! [iblk, V_main_arg4, e, blockRow]

/-- The gain. -/
theorem read5 (c : Dev nD) (t : Fin cfg0.N) (k : Fin 128) :
    iblk m c 5 t (ix2 0 k) = m ((c : Thread nD τ).loc main_arg5) (ix2 0 k) := by
  obtain ⟨-, -, -, -, -, e, -⟩ := idx t
  blk_ext! [iblk, V_main_arg5, e]

/-- Chunk `k` of point `t` is chunk `8 (t mod 16) + k` of batch `t / 16`. -/
theorem row_eq (t : Fin cfg0.N) (k : Fin k0_t1_loop.trips) (u : Fin 64) :
    blockRow t (at64 k u) = rowAt (t.val / 16) (8 * (t.val % 16) + k.val) u := by
  have ht : t.val < 32 := Nat.lt_of_lt_of_eq t.isLt N_0
  have hk : k.val < 8 := k.isLt
  apply Fin.ext
  show t.val * 512 + (64 * k.val + u.val) = (t.val / 16 * 8192 + (8 * (t.val % 16) + k.val) * 64 + u.val) % 16384
  omega

/-- Within a point the state is the layer's, chunk after chunk. -/
theorem within_eq (c : Dev nD) (t : Fin cfg0.N) (S : Vec Ideal S256x128 .f32)
    (hS : ∀ d e, S (ix2 d e) = carried' m c (t.val / 16) (8 * (t.val % 16)) d e) :
    ∀ k, k ≤ k0_t1_loop.trips → ∀ d e, within m c t S k (ix2 d e) = carried' m c (t.val / 16) (8 * (t.val % 16) + k) d e := by
  intro k
  induction k with
  | zero =>
    intro _ d e
    refine Eq.trans ?_ (hS d e)
    exact congrFun (Memref.IsWhole.read_unread (Memref.isWhole_whole cc0_scratch0) S) (ix2 d e)
  | succ k ih =>
    intro hk d e
    have ih' := ih (Nat.le_of_succ_le hk)
    unfold within at ih' ⊢
    rw [state_succ _ _ _ _ _ _ _ _ _ _ _ _ _ _ _ _ _ _ _ _ _ _ _ _ _ _ _ _ _ _ _ _ hk, step_apply]
    have hc : (fun d e => _) = carried' m c (t.val / 16) (8 * (t.val % 16) + k) := funext fun d => funext fun e => ih' d e
    rw [hc]
    show Gla.next (fun u d => iblk m c 1 t (ix2 (at64 ⟨k, hk⟩ u) d)) (fun u d => iblk m c 2 t (ix2 (at64 ⟨k, hk⟩ u) d))
      (fun u d => iblk m c 3 t (ix2 (at64 ⟨k, hk⟩ u) d)) _ d e = _
    simp only [read1, read2, read3, row_eq]
    rfl

/-- A point enters its loop with the layer's state. -/
theorem entered_eq (c : Dev nD) : ∀ (n : ℕ) (h : n < cfg0.N) (d : Fin 256) (e : Fin 128),
    entered m c ⟨n, h⟩ (ix2 d e) = carried' m c (n / 16) (8 * (n % 16)) d e := by
  intro n
  induction n with
  | zero =>
    intro h d e
    have hf : fresh (grid0.coords ⟨0, h⟩) := (fresh_iff ⟨0, h⟩).2 rfl
    unfold entered enter
    rw [if_pos hf]
    exact pay1_apply _
  | succ n ih =>
    intro h d e
    have hn : n < cfg0.N := Nat.lt_of_succ_lt h
    by_cases hm : (n + 1) % 16 = 0
    · have hf : fresh (grid0.coords ⟨n + 1, h⟩) := (fresh_iff ⟨n + 1, h⟩).2 hm
      unfold entered enter
      rw [if_pos hf, hm]
      exact pay1_apply _
    · have hf : ¬ fresh (grid0.coords ⟨n + 1, h⟩) := fun h' => hm ((fresh_iff ⟨n + 1, h⟩).1 h')
      unfold entered enter
      rw [if_neg hf]
      have hs := held_succ m c ⟨n, hn⟩
      rw [hs, within_eq m c ⟨n, hn⟩ _ (ih hn) _ le_rfl d e]
      have e1 : (n + 1) / 16 = n / 16 := by omega
      have e2 : 8 * ((n + 1) % 16) = 8 * (n % 16) + k0_t1_loop.trips := by
        show 8 * ((n + 1) % 16) = 8 * (n % 16) + 8
        omega
      rw [e1, e2]

/-- The states the batches leave. -/
def H (c : Dev nD) : S2x256x128.Idx → EReal := fun i => carried' m c (i 0).val 128 (i 1) (i 2)

/-- The state window holds `H` after the last point. -/
theorem final7 (c : Dev nD) : (dats m 0 c).arrAt 7 (cfgs 0).N = H m c := by
  refine (dats m 0 c).arrAt_eq_of_covers 7 _ (by decide +kernel) fun t hf y => ?_
  blk_simp
  rw [after7]
  idx_vars y
  have ht : t.val < 32 := Nat.lt_of_lt_of_eq t.isLt N_0
  have hl : t.val % 16 = 15 := (flush0_7 t).1 hf
  obtain ⟨-, -, -, -, -, -, -, e7⟩ := idx t
  have he : ((win0_7.blk t).view.emb (ix3 y0 y1 y2)) = ix3 (⟨t.val / 16, by omega⟩ : Fin 2) y1 y2 := by
    blk_ext [e7]
  show _ = H m c ((win0_7.blk t).view.emb (ix3 y0 y1 y2))
  rw [he]
  obtain rfl : y0 = 0 := Subsingleton.elim _ _
  refine (pay3_apply _ y1 y2).trans ?_
  have hs := held_succ m c t
  rw [hs, within_eq m c t _ (entered_eq m c t.val t.isLt) _ le_rfl y1 y2, hl]
  rfl

end Cert.Proof.Prompt
end
-- ==== Proof.PromptRows.lean ====
module

public import proofs.«01_k».proof.Proof.PromptVal

@[expose] public section
set_option maxRecDepth 16384

/-! The gated linear attention of the prompts: the output rows of a chunk, in two halves of 32 rows. -/

noncomputable section
namespace Cert.Proof.Prompt
open Cert.Kernel8Ideal Cert.Kernel8Ideal.Gen
open Idealize.ShloMosaic Idealize.ShloMosaic.TcCoe Idealize.ShloMosaic.Tactic

/-- The products of all rows of a half with one of its rows, lane by lane. -/
def blocks (q k b : Vec Ideal S32x256 .f32) : Fin 32 → FVec Ideal S32x256 .f32 :=
  ![k0_pay29 (iota Kind.tc S32x256 32 [0] iota_S32x256_d0_w32) q k b,
    k0_pay30 (iota Kind.tc S32x256 32 [0] iota_S32x256_d0_w32) q k b,
    k0_pay33 (iota Kind.tc S32x256 32 [0] iota_S32x256_d0_w32) q k (k0_pay31 b) k0_pay32,
    k0_pay34 (iota Kind.tc S32x256 32 [0] iota_S32x256_d0_w32) q k b,
    k0_pay35 (iota Kind.tc S32x256 32 [0] iota_S32x256_d0_w32) q k b,
    k0_pay38 (k0_pay36 (iota Kind.tc S32x256 32 [0] iota_S32x256_d0_w32)) (k0_pay37 q k b),
    k0_pay39 (iota Kind.tc S32x256 32 [0] iota_S32x256_d0_w32) q k b,
    k0_pay40 (iota Kind.tc S32x256 32 [0] iota_S32x256_d0_w32) q k b,
    k0_pay41 (iota Kind.tc S32x256 32 [0] iota_S32x256_d0_w32) q k b,
    k0_pay43 (iota Kind.tc S32x256 32 [0] iota_S32x256_d0_w32) q k (k0_pay42 b),
    k0_pay44 (iota Kind.tc S32x256 32 [0] iota_S32x256_d0_w32) q k b,
    k0_pay45 (iota Kind.tc S32x256 32 [0] iota_S32x256_d0_w32) q k b,
    k0_pay48 (k0_pay46 (iota Kind.tc S32x256 32 [0] iota_S32x256_d0_w32)) (k0_pay47 q k b) (FloatOps.ofBits .f32 0#32),
    k0_pay49 (iota Kind.tc S32x256 32 [0] iota_S32x256_d0_w32) q k b,
    k0_pay50 (iota Kind.tc S32x256 32 [0] iota_S32x256_d0_w32) q k b,
    k0_pay51 (iota Kind.tc S32x256 32 [0] iota_S32x256_d0_w32) q k b,
    k0_pay53 (iota Kind.tc S32x256 32 [0] iota_S32x256_d0_w32) q k (k0_pay52 b),
    k0_pay54 (iota Kind.tc S32x256 32 [0] iota_S32x256_d0_w32) q k b,
    k0_pay55 (iota Kind.tc S32x256 32 [0] iota_S32x256_d0_w32) q k b,
    k0_pay59 (k0_pay56 (iota Kind.tc S32x256 32 [0] iota_S32x256_d0_w32)) (k0_pay57 q k b) k0_pay58,
    k0_pay60 (iota Kind.tc S32x256 32 [0] iota_S32x256_d0_w32) q k b,
    k0_pay61 (iota Kind.tc S32x256 32 [0] iota_S32x256_d0_w32) q k b,
    k0_pay62 (iota Kind.tc S32x256 32 [0] iota_S32x256_d0_w32) q k b,
    k0_pay64 (iota Kind.tc S32x256 32 [0] iota_S32x256_d0_w32) q k (k0_pay63 b) 23#32,
    k0_pay65 (iota Kind.tc S32x256 32 [0] iota_S32x256_d0_w32) q k b,
    k0_pay66 (iota Kind.tc S32x256 32 [0] iota_S32x256_d0_w32) q k b,
    k0_pay67 (iota Kind.tc S32x256 32 [0] iota_S32x256_d0_w32) q k b,
    k0_pay68 (iota Kind.tc S32x256 32 [0] iota_S32x256_d0_w32) q k b,
    k0_pay69 (iota Kind.tc S32x256 32 [0] iota_S32x256_d0_w32) q k b,
    k0_pay70 (iota Kind.tc S32x256 32 [0] iota_S32x256_d0_w32) q k b,
    select (cmpi .sge (iota Kind.tc S32x256 32 [0] iota_S32x256_d0_w32) k0_pay72) (mulf (mulf q (broadcastTo S32x256 (extractStridedSlice S1x256 ![30, 0] k slices_S32x256_o30_0_S1x256) broadcasts_S1x256_S32x256))
      (k0_pay71 b)) (broadcast S32x256 (FloatOps.ofBits .f32 0x00000000#32)),
    select (cmpi .sge (iota Kind.tc S32x256 32 [0] iota_S32x256_d0_w32) (broadcast S32x256 31#32)) (mulf (mulf q (broadcastTo S32x256 (extractStridedSlice S1x256 ![31, 0] k slices_S32x256_o31_0_S1x256) broadcasts_S1x256_S32x256))
      (exp (minimumf (subf b (broadcastTo S32x256 (extractStridedSlice S1x256 ![31, 0] b slices_S32x256_o31_0_S1x256) broadcasts_S1x256_S32x256))
        (broadcast S32x256 (FloatOps.ofBits .f32 0x00000000#32))))) (broadcast S32x256 (FloatOps.ofBits .f32 0x00000000#32))]

/-- The products summed over the lanes of a head: 32 blocks of 32 rows. -/
def words (sg : FVec Ideal S256x512 .bf16) (q k b : Vec Ideal S32x256 .f32) : FVec Ideal S1024x512 .f32 :=
  k0_pay73 sg (iota Kind.tc S32x256 32 [0] iota_S32x256_d0_w32) q k b (k0_pay29 (iota Kind.tc S32x256 32 [0] iota_S32x256_d0_w32) q k b) (k0_pay30 (iota Kind.tc S32x256 32 [0] iota_S32x256_d0_w32) q k b) (k0_pay33 (iota Kind.tc S32x256 32 [0] iota_S32x256_d0_w32) q k (k0_pay31 b) k0_pay32) (k0_pay34 (iota Kind.tc S32x256 32 [0] iota_S32x256_d0_w32) q k b) (k0_pay35 (iota Kind.tc S32x256 32 [0] iota_S32x256_d0_w32) q k b) (k0_pay38 (k0_pay36 (iota Kind.tc S32x256 32 [0] iota_S32x256_d0_w32)) (k0_pay37 q k b)) (k0_pay39 (iota Kind.tc S32x256 32 [0] iota_S32x256_d0_w32) q k b) (k0_pay40 (iota Kind.tc S32x256 32 [0] iota_S32x256_d0_w32) q k b) (k0_pay41 (iota Kind.tc S32x256 32 [0] iota_S32x256_d0_w32) q k b) (k0_pay43 (iota Kind.tc S32x256 32 [0] iota_S32x256_d0_w32) q k (k0_pay42 b)) (k0_pay44 (iota Kind.tc S32x256 32 [0] iota_S32x256_d0_w32) q k b) (k0_pay45 (iota Kind.tc S32x256 32 [0] iota_S32x256_d0_w32) q k b) (k0_pay48 (k0_pay46 (iota Kind.tc S32x256 32 [0] iota_S32x256_d0_w32)) (k0_pay47 q k b) (FloatOps.ofBits .f32 0#32)) (k0_pay49 (iota Kind.tc S32x256 32 [0] iota_S32x256_d0_w32) q k b) (k0_pay50 (iota Kind.tc S32x256 32 [0] iota_S32x256_d0_w32) q k b) (k0_pay51 (iota Kind.tc S32x256 32 [0] iota_S32x256_d0_w32) q k b) (k0_pay53 (iota Kind.tc S32x256 32 [0] iota_S32x256_d0_w32) q k (k0_pay52 b)) (k0_pay54 (iota Kind.tc S32x256 32 [0] iota_S32x256_d0_w32) q k b) (k0_pay55 (iota Kind.tc S32x256 32 [0] iota_S32x256_d0_w32) q k b) (k0_pay59 (k0_pay56 (iota Kind.tc S32x256 32 [0] iota_S32x256_d0_w32)) (k0_pay57 q k b) k0_pay58) (k0_pay60 (iota Kind.tc S32x256 32 [0] iota_S32x256_d0_w32) q k b) (k0_pay61 (iota Kind.tc S32x256 32 [0] iota_S32x256_d0_w32) q k b) (k0_pay62 (iota Kind.tc S32x256 32 [0] iota_S32x256_d0_w32) q k b) (k0_pay64 (iota Kind.tc S32x256 32 [0] iota_S32x256_d0_w32) q k (k0_pay63 b) 23#32) (k0_pay65 (iota Kind.tc S32x256 32 [0] iota_S32x256_d0_w32) q k b) (k0_pay66 (iota Kind.tc S32x256 32 [0] iota_S32x256_d0_w32) q k b) (k0_pay67 (iota Kind.tc S32x256 32 [0] iota_S32x256_d0_w32) q k b) (k0_pay68 (iota Kind.tc S32x256 32 [0] iota_S32x256_d0_w32) q k b) (k0_pay69 (iota Kind.tc S32x256 32 [0] iota_S32x256_d0_w32) q k b) (k0_pay70 (iota Kind.tc S32x256 32 [0] iota_S32x256_d0_w32) q k b) (k0_pay71 b) k0_pay72

/-- A block at an index. -/
theorem blocks_apply (q k b : Vec Ideal S32x256 .f32) (s t : Fin 32) (x : Fin 256) :
    blocks q k b s (ix2 t x) = if s.val ≤ t.val then q (ix2 t x) * k (ix2 s x) * Ideal.exp (min (b (ix2 t x) - b (ix2 s x)) 0) else 0 := by
  rw [← Gla.select_sge t.val s.val (by omega) (by omega)]
  unfold blocks
  fin_cases s <;> dsimp only [Fin.reduceFinMk, Matrix.cons_val] <;>
  pointwise [k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72]

/-- A product of matrices with a stack. -/
theorem dot_apply (C : FVec Ideal S1024x256 .f32) (sg : FVec Ideal S256x512 .bf16) (r : Fin 1024) (l : Fin 512) :
    (matmul dot_S1024x256_S256x512_S1024x512_1_0_0_1_n_n none (truncf .bf16 C bitsLt_bf16_f32) sg (constant S1024x512 .f32 0x00000000#32) : FVec Ideal S1024x512 .f32) (ix2 r l)
      = ∑ x, C (ix2 r x) * sg (ix2 x l) := by
  pointwise

/-- The products of row `t` with row `s`, lane by lane, summed over the lanes of the column's head. -/
theorem words_apply (sg : FVec Ideal S256x512 .bf16) (q k b : Vec Ideal S32x256 .f32) (s t : Fin 32) (l : Fin 512) :
    words sg q k b (ix2 ⟨s.val * 32 + t.val, by omega⟩ l)
      = ∑ x : Fin 256, (if s.val ≤ t.val then q (ix2 t x) * k (ix2 s x) * Ideal.exp (min (b (ix2 t x) - b (ix2 s x)) 0) else 0) * sg (ix2 x l) := by
  unfold words k0_pay73
  dsimp only
  refine (dot_apply _ sg _ l).trans (Finset.sum_congr rfl fun x _ => congrArg (fun z : EReal => z * sg (ix2 x l)) ?_)
  rw [← blocks_apply]
  refine concatenate_ofFn_apply (t := S1024x256) (s₁ := S32x256) 0 (blocks q k b) _ rfl 32 rfl _ s ?_ _ ?_ ?_
  · show (s.val * 32 + t.val) / 32 = s.val; omega
  · show t.val = (s.val * 32 + t.val) % 32; omega
  · intro a ha
    match a with
    | ⟨0, _⟩ => exact absurd rfl ha
    | ⟨1, _⟩ => rfl

/-- The rows of a half before its last two shares are added. -/
def partial' (sg : FVec Ideal S256x512 .bf16) (q k b : Vec Ideal S32x256 .f32) (v : Vec Ideal S32x512 .f32) (x : FVec Ideal S32x512 .f32) : FVec Ideal S32x512 .f32 :=
  k0_pay78 v (words sg q k b) (k0_pay76 v (words sg q k b)
    (k0_pay74 sg (iota Kind.tc S32x256 32 [0] iota_S32x256_d0_w32) q k v b x (k0_pay29 (iota Kind.tc S32x256 32 [0] iota_S32x256_d0_w32) q k b) (k0_pay30 (iota Kind.tc S32x256 32 [0] iota_S32x256_d0_w32) q k b) (k0_pay33 (iota Kind.tc S32x256 32 [0] iota_S32x256_d0_w32) q k (k0_pay31 b) k0_pay32) (k0_pay34 (iota Kind.tc S32x256 32 [0] iota_S32x256_d0_w32) q k b) (k0_pay35 (iota Kind.tc S32x256 32 [0] iota_S32x256_d0_w32) q k b) (k0_pay38 (k0_pay36 (iota Kind.tc S32x256 32 [0] iota_S32x256_d0_w32)) (k0_pay37 q k b)) (k0_pay39 (iota Kind.tc S32x256 32 [0] iota_S32x256_d0_w32) q k b) (k0_pay40 (iota Kind.tc S32x256 32 [0] iota_S32x256_d0_w32) q k b) (k0_pay41 (iota Kind.tc S32x256 32 [0] iota_S32x256_d0_w32) q k b) (k0_pay43 (iota Kind.tc S32x256 32 [0] iota_S32x256_d0_w32) q k (k0_pay42 b)) (k0_pay44 (iota Kind.tc S32x256 32 [0] iota_S32x256_d0_w32) q k b) (k0_pay45 (iota Kind.tc S32x256 32 [0] iota_S32x256_d0_w32) q k b) (k0_pay48 (k0_pay46 (iota Kind.tc S32x256 32 [0] iota_S32x256_d0_w32)) (k0_pay47 q k b) (FloatOps.ofBits .f32 0#32)) (k0_pay49 (iota Kind.tc S32x256 32 [0] iota_S32x256_d0_w32) q k b) (k0_pay50 (iota Kind.tc S32x256 32 [0] iota_S32x256_d0_w32) q k b) (k0_pay51 (iota Kind.tc S32x256 32 [0] iota_S32x256_d0_w32) q k b) (k0_pay53 (iota Kind.tc S32x256 32 [0] iota_S32x256_d0_w32) q k (k0_pay52 b)) (k0_pay54 (iota Kind.tc S32x256 32 [0] iota_S32x256_d0_w32) q k b) (k0_pay55 (iota Kind.tc S32x256 32 [0] iota_S32x256_d0_w32) q k b) (k0_pay59 (k0_pay56 (iota Kind.tc S32x256 32 [0] iota_S32x256_d0_w32)) (k0_pay57 q k b) k0_pay58) (k0_pay60 (iota Kind.tc S32x256 32 [0] iota_S32x256_d0_w32) q k b) (k0_pay61 (iota Kind.tc S32x256 32 [0] iota_S32x256_d0_w32) q k b) (k0_pay62 (iota Kind.tc S32x256 32 [0] iota_S32x256_d0_w32) q k b) (k0_pay64 (iota Kind.tc S32x256 32 [0] iota_S32x256_d0_w32) q k (k0_pay63 b) 23#32) (k0_pay65 (iota Kind.tc S32x256 32 [0] iota_S32x256_d0_w32) q k b) (k0_pay66 (iota Kind.tc S32x256 32 [0] iota_S32x256_d0_w32) q k b) (k0_pay67 (iota Kind.tc S32x256 32 [0] iota_S32x256_d0_w32) q k b) (k0_pay68 (iota Kind.tc S32x256 32 [0] iota_S32x256_d0_w32) q k b) (k0_pay69 (iota Kind.tc S32x256 32 [0] iota_S32x256_d0_w32) q k b) (k0_pay70 (iota Kind.tc S32x256 32 [0] iota_S32x256_d0_w32) q k b) (k0_pay71 b) k0_pay72)
    (k0_pay75 sg (iota Kind.tc S32x256 32 [0] iota_S32x256_d0_w32) q k b (k0_pay29 (iota Kind.tc S32x256 32 [0] iota_S32x256_d0_w32) q k b) (k0_pay30 (iota Kind.tc S32x256 32 [0] iota_S32x256_d0_w32) q k b) (k0_pay33 (iota Kind.tc S32x256 32 [0] iota_S32x256_d0_w32) q k (k0_pay31 b) k0_pay32) (k0_pay34 (iota Kind.tc S32x256 32 [0] iota_S32x256_d0_w32) q k b) (k0_pay35 (iota Kind.tc S32x256 32 [0] iota_S32x256_d0_w32) q k b) (k0_pay38 (k0_pay36 (iota Kind.tc S32x256 32 [0] iota_S32x256_d0_w32)) (k0_pay37 q k b)) (k0_pay39 (iota Kind.tc S32x256 32 [0] iota_S32x256_d0_w32) q k b) (k0_pay40 (iota Kind.tc S32x256 32 [0] iota_S32x256_d0_w32) q k b) (k0_pay41 (iota Kind.tc S32x256 32 [0] iota_S32x256_d0_w32) q k b) (k0_pay43 (iota Kind.tc S32x256 32 [0] iota_S32x256_d0_w32) q k (k0_pay42 b)) (k0_pay44 (iota Kind.tc S32x256 32 [0] iota_S32x256_d0_w32) q k b) (k0_pay45 (iota Kind.tc S32x256 32 [0] iota_S32x256_d0_w32) q k b) (k0_pay48 (k0_pay46 (iota Kind.tc S32x256 32 [0] iota_S32x256_d0_w32)) (k0_pay47 q k b) (FloatOps.ofBits .f32 0#32)) (k0_pay49 (iota Kind.tc S32x256 32 [0] iota_S32x256_d0_w32) q k b) (k0_pay50 (iota Kind.tc S32x256 32 [0] iota_S32x256_d0_w32) q k b) (k0_pay51 (iota Kind.tc S32x256 32 [0] iota_S32x256_d0_w32) q k b) (k0_pay53 (iota Kind.tc S32x256 32 [0] iota_S32x256_d0_w32) q k (k0_pay52 b)) (k0_pay54 (iota Kind.tc S32x256 32 [0] iota_S32x256_d0_w32) q k b) (k0_pay55 (iota Kind.tc S32x256 32 [0] iota_S32x256_d0_w32) q k b) (k0_pay59 (k0_pay56 (iota Kind.tc S32x256 32 [0] iota_S32x256_d0_w32)) (k0_pay57 q k b) k0_pay58) (k0_pay60 (iota Kind.tc S32x256 32 [0] iota_S32x256_d0_w32) q k b) (k0_pay61 (iota Kind.tc S32x256 32 [0] iota_S32x256_d0_w32) q k b) (k0_pay62 (iota Kind.tc S32x256 32 [0] iota_S32x256_d0_w32) q k b) (k0_pay64 (iota Kind.tc S32x256 32 [0] iota_S32x256_d0_w32) q k (k0_pay63 b) 23#32) (k0_pay65 (iota Kind.tc S32x256 32 [0] iota_S32x256_d0_w32) q k b) (k0_pay66 (iota Kind.tc S32x256 32 [0] iota_S32x256_d0_w32) q k b) (k0_pay67 (iota Kind.tc S32x256 32 [0] iota_S32x256_d0_w32) q k b) (k0_pay68 (iota Kind.tc S32x256 32 [0] iota_S32x256_d0_w32) q k b) (k0_pay69 (iota Kind.tc S32x256 32 [0] iota_S32x256_d0_w32) q k b) (k0_pay70 (iota Kind.tc S32x256 32 [0] iota_S32x256_d0_w32) q k b) (k0_pay71 b) k0_pay72)) (k0_pay77 (words sg q k b))

/-- The rows of a half before the readout: what they start with plus one share per row of the half. -/
def total (sg : FVec Ideal S256x512 .bf16) (q k b : Vec Ideal S32x256 .f32) (v : Vec Ideal S32x512 .f32) (x : FVec Ideal S32x512 .f32) : FVec Ideal S32x512 .f32 :=
  k0_pay80 v (words sg q k b) (partial' sg q k b v x) (k0_pay79 (words sg q k b))

/-- The additions, one after another. -/
theorem total_apply (sg : FVec Ideal S256x512 .bf16) (q k b : Vec Ideal S32x256 .f32) (v : Vec Ideal S32x512 .f32) (x : FVec Ideal S32x512 .f32) (t : Fin 32) (l : Fin 512) :
    total sg q k b v x (ix2 t l) = x (ix2 t l) + ∑ s : Fin 32, words sg q k b (ix2 ⟨s.val * 32 + t.val, by omega⟩ l) * v (ix2 s l) := by
  unfold total partial' k0_pay74 k0_pay75
  dsimp only
  have hw : k0_pay73 sg (iota Kind.tc S32x256 32 [0] iota_S32x256_d0_w32) q k b (k0_pay29 (iota Kind.tc S32x256 32 [0] iota_S32x256_d0_w32) q k b) (k0_pay30 (iota Kind.tc S32x256 32 [0] iota_S32x256_d0_w32) q k b) (k0_pay33 (iota Kind.tc S32x256 32 [0] iota_S32x256_d0_w32) q k (k0_pay31 b) k0_pay32) (k0_pay34 (iota Kind.tc S32x256 32 [0] iota_S32x256_d0_w32) q k b) (k0_pay35 (iota Kind.tc S32x256 32 [0] iota_S32x256_d0_w32) q k b) (k0_pay38 (k0_pay36 (iota Kind.tc S32x256 32 [0] iota_S32x256_d0_w32)) (k0_pay37 q k b)) (k0_pay39 (iota Kind.tc S32x256 32 [0] iota_S32x256_d0_w32) q k b) (k0_pay40 (iota Kind.tc S32x256 32 [0] iota_S32x256_d0_w32) q k b) (k0_pay41 (iota Kind.tc S32x256 32 [0] iota_S32x256_d0_w32) q k b) (k0_pay43 (iota Kind.tc S32x256 32 [0] iota_S32x256_d0_w32) q k (k0_pay42 b)) (k0_pay44 (iota Kind.tc S32x256 32 [0] iota_S32x256_d0_w32) q k b) (k0_pay45 (iota Kind.tc S32x256 32 [0] iota_S32x256_d0_w32) q k b) (k0_pay48 (k0_pay46 (iota Kind.tc S32x256 32 [0] iota_S32x256_d0_w32)) (k0_pay47 q k b) (FloatOps.ofBits .f32 0#32)) (k0_pay49 (iota Kind.tc S32x256 32 [0] iota_S32x256_d0_w32) q k b) (k0_pay50 (iota Kind.tc S32x256 32 [0] iota_S32x256_d0_w32) q k b) (k0_pay51 (iota Kind.tc S32x256 32 [0] iota_S32x256_d0_w32) q k b) (k0_pay53 (iota Kind.tc S32x256 32 [0] iota_S32x256_d0_w32) q k (k0_pay52 b)) (k0_pay54 (iota Kind.tc S32x256 32 [0] iota_S32x256_d0_w32) q k b) (k0_pay55 (iota Kind.tc S32x256 32 [0] iota_S32x256_d0_w32) q k b) (k0_pay59 (k0_pay56 (iota Kind.tc S32x256 32 [0] iota_S32x256_d0_w32)) (k0_pay57 q k b) k0_pay58) (k0_pay60 (iota Kind.tc S32x256 32 [0] iota_S32x256_d0_w32) q k b) (k0_pay61 (iota Kind.tc S32x256 32 [0] iota_S32x256_d0_w32) q k b) (k0_pay62 (iota Kind.tc S32x256 32 [0] iota_S32x256_d0_w32) q k b) (k0_pay64 (iota Kind.tc S32x256 32 [0] iota_S32x256_d0_w32) q k (k0_pay63 b) 23#32) (k0_pay65 (iota Kind.tc S32x256 32 [0] iota_S32x256_d0_w32) q k b) (k0_pay66 (iota Kind.tc S32x256 32 [0] iota_S32x256_d0_w32) q k b) (k0_pay67 (iota Kind.tc S32x256 32 [0] iota_S32x256_d0_w32) q k b) (k0_pay68 (iota Kind.tc S32x256 32 [0] iota_S32x256_d0_w32) q k b) (k0_pay69 (iota Kind.tc S32x256 32 [0] iota_S32x256_d0_w32) q k b) (k0_pay70 (iota Kind.tc S32x256 32 [0] iota_S32x256_d0_w32) q k b) (k0_pay71 b) k0_pay72 = words sg q k b := rfl
  rw [hw]
  generalize words sg q k b = P
  pointwise [k0_pay80, k0_pay79, k0_pay78, k0_pay77, k0_pay76]
  have e : ((0 : Fin 32).val * 32 + t.val) = t.val := by simp
  refine Eq.trans ?_ (Gla.foldl_sum (fun s : Fin 32 => P (ix2 ⟨s.val * 32 + t.val, by omega⟩ l) * v (ix2 s l)) (x (ix2 t l)))
  have h0 : (⟨(0 : Fin 32).val * 32 + t.val, by omega⟩ : Fin 1024) = ⟨t.val, by omega⟩ := Fin.ext e
  rw [List.finRange_succ, List.foldl_cons]
  rw [h0]
  rfl

/-- The normed and gated rows of a half. -/
def out (sg : FVec Ideal S256x512 .bf16) (q k b : Vec Ideal S32x256 .f32) (v r : Vec Ideal S32x512 .f32) (g : Vec Ideal S1x128 .f32) (x : FVec Ideal S32x512 .f32) : FVec Ideal S32x512 .bf16 :=
  k0_pay86 (total sg q k b v x) r (k0_pay81 v (words sg q k b) (partial' sg q k b v x) (k0_pay79 (words sg q k b)) g)
    (k0_pay82 v (words sg q k b) (partial' sg q k b v x) (k0_pay79 (words sg q k b)) g)
    (k0_pay83 v (words sg q k b) (partial' sg q k b v x) (k0_pay79 (words sg q k b)))
    (k0_pay84 v (words sg q k b) (partial' sg q k b v x) (k0_pay79 (words sg q k b))) k0_pay85 g g

/-- They are the readout of the rows. -/
theorem out_apply (sg : FVec Ideal S256x512 .bf16) (q k b : Vec Ideal S32x256 .f32) (v r : Vec Ideal S32x512 .f32) (g : Vec Ideal S1x128 .f32) (x : FVec Ideal S32x512 .f32) (t : Fin 32) (l : Fin 512) :
    out sg q k b v r g x (ix2 t l) = Gla.readout (fun l => total sg q k b v x (ix2 t l)) (fun l => r (ix2 t l)) (fun e => g (ix2 0 e)) l := by
  unfold out total
  generalize words sg q k b = P
  generalize partial' sg q k b v x = A
  generalize k0_pay79 P = Z
  pointwise [k0_pay81, k0_pay82, k0_pay83, k0_pay84, k0_pay85, k0_pay86]
  exact Gla.heads_readout (fun l => k0_pay80 v P A Z (ix2 t l)) (fun l => r (ix2 t l)) (fun e => g (ix2 0 e)) l

end Cert.Proof.Prompt
end
-- ==== Proof.PromptEarly.lean ====
module

public import proofs.«01_k».proof.Proof.PromptRows

@[expose] public section
set_option maxRecDepth 16384

/-! The gated linear attention of the prompts: what a chunk's rows read from the state, and the second half's from the first. -/

noncomputable section
namespace Cert.Proof.Prompt
open Cert.Kernel8Ideal Cert.Kernel8Ideal.Gen
open Idealize.ShloMosaic Idealize.ShloMosaic.TcCoe Idealize.ShloMosaic.Tactic

/-- A lane's head. -/
theorem lane (l : Fin 256) : k0_pay9 k0_pay6 k0_pay7 k0_pay8 (ix2 (0 : Fin 1) l) = BitVec.ofNat 32 (l.val / 64) :=
  (by decide +kernel : ∀ l : Fin 256, k0_pay9 k0_pay6 k0_pay7 k0_pay8 (ix2 (0 : Fin 1) l) = BitVec.ofNat 32 (l.val / 64)) l

/-- Whether a lane and a column belong to the same head, as a number. -/
theorem seg (d : Fin 256) (e : Fin 512) :
    (k0_pay26 (iota Kind.tc S256x512 32 [0] iota_S256x512_d0_w32) (64#32) k0_pay23 k0_pay24 k0_pay25 : FVec Ideal S256x512 .bf16) (ix2 d e)
      = if d.val / 64 = e.val / 128 then 1 else 0 := by
  pointwise [k0_pay26, k0_pay23, k0_pay24, k0_pay25]
  refine (congrArg₂ (fun a b : BitVec 32 => (FloatOps.sitofp .f32 ((IntOp.cmpi .eq a b).setWidth 32) : Ideal .f32))
    (x' := BitVec.ofNat 32 (d.val / 64)) (y' := BitVec.ofNat 32 (e.val / 128)) ?_ ?_).trans ?_
  · revert d; decide +kernel
  · revert e; decide +kernel
  · rw [Gla.sitofp_bit, Gla.select_eq _ _ (by omega) (by omega)]

/-- The product of a head's queries, zero elsewhere, and the state is the sum over the head's rows. -/
theorem masked (f : Fin 256 → EReal) (h : Nat) (hh : h < 4) :
    (∑ x : Fin 256, Scalar.select (IntOp.cmpi .eq (k0_pay9 k0_pay6 k0_pay7 k0_pay8 (ix2 (0 : Fin 1) x)) (BitVec.ofNat 32 h)) (f x) (0 : EReal))
    = ∑ d : Fin 64, f ⟨h * 64 + d.val, by omega⟩ := by
  rw [← Gla.head_sum f h hh]
  refine Finset.sum_congr rfl fun x _ => ?_
  rw [lane, Gla.select_eq _ _ (by omega) (by omega)]

/-- A block of columns of what the rows read from the state. -/
theorem inter_apply (S : FVec Ideal S256x128 .bf16) (q b : FVec Ideal S64x256 .f32) (t : Fin 64) (e : Fin 128) :
    k0_pay16 S (k0_pay15 q b k0_pay6 k0_pay7 k0_pay8) (ix2 t e)
     = ∑ d : Fin 64, k0_pay12 q b (ix2 t ⟨0 * 64 + d.val, by omega⟩) * S (ix2 ⟨0 * 64 + d.val, by omega⟩ e)
   ∧ k0_pay17 (k0_pay9 k0_pay6 k0_pay7 k0_pay8) S (k0_pay12 q b) (ix2 t e)
     = ∑ d : Fin 64, k0_pay12 q b (ix2 t ⟨1 * 64 + d.val, by omega⟩) * S (ix2 ⟨1 * 64 + d.val, by omega⟩ e)
   ∧ k0_pay20 (k0_pay19 (k0_pay9 k0_pay6 k0_pay7 k0_pay8) S (k0_pay12 q b)) (ix2 t e)
     = ∑ d : Fin 64, k0_pay12 q b (ix2 t ⟨2 * 64 + d.val, by omega⟩) * S (ix2 ⟨2 * 64 + d.val, by omega⟩ e)
   ∧ k0_pay21 (k0_pay9 k0_pay6 k0_pay7 k0_pay8) S (k0_pay12 q b) (ix2 t e)
     = ∑ d : Fin 64, k0_pay12 q b (ix2 t ⟨3 * 64 + d.val, by omega⟩) * S (ix2 ⟨3 * 64 + d.val, by omega⟩ e) := by
  unfold k0_pay15
  generalize k0_pay12 q b = Q
  refine ⟨?_, ?_, ?_, ?_⟩
  · rw [← masked (fun x => Q (ix2 t x) * S (ix2 x e)) 0 (by decide)]; pointwise [k0_pay16]
  · rw [← masked (fun x => Q (ix2 t x) * S (ix2 x e)) 1 (by decide)]; pointwise [k0_pay17]
  · rw [← masked (fun x => Q (ix2 t x) * S (ix2 x e)) 2 (by decide)]; pointwise [k0_pay19, k0_pay20]
  · rw [← masked (fun x => Q (ix2 t x) * S (ix2 x e)) 3 (by decide)]; pointwise [k0_pay21]

/-- The second half's rows with what they take from the first half added. -/
def early (q bb : Vec Ideal S32x256 .f32) (base : FVec Ideal S1x256 .f32) (k b : FVec Ideal S64x256 .f32) (v : Vec Ideal S64x512 .f32) (x : Vec Ideal S32x512 .f32) : FVec Ideal S32x512 .f32 :=
  k0_pay95 (k0_pay9 k0_pay6 k0_pay7 k0_pay8) (k0_pay27 v) (k0_pay88 x) (k0_pay89 x) (k0_pay90 q bb base) (k0_pay91 k b base)
    (k0_pay92 k b (k0_pay9 k0_pay6 k0_pay7 k0_pay8) (k0_pay27 v) q bb base x) (k0_pay93 k b (k0_pay9 k0_pay6 k0_pay7 k0_pay8) (k0_pay27 v) q bb base x)
    (k0_pay94 k b (k0_pay9 k0_pay6 k0_pay7 k0_pay8) q bb base)

/-- What they take: the earlier half's rows, by way of the running sum between the halves. -/
theorem early_apply (q bb : Vec Ideal S32x256 .f32) (base : FVec Ideal S1x256 .f32) (k b : FVec Ideal S64x256 .f32) (v : Vec Ideal S64x512 .f32) (x : Vec Ideal S32x512 .f32) (t : Fin 32) (l : Fin 512) :
    early q bb base k b v x (ix2 t l) = x (ix2 t l) + ∑ s : Fin 32, (∑ d : Fin 64, k0_pay90 q bb base (ix2 t (Gla.lane l d)) * k0_pay91 k b base (ix2 s (Gla.lane l d)))
      * v (ix2 ⟨s.val, by omega⟩ l) := by
  unfold early k0_pay92 k0_pay93 k0_pay94
  generalize k0_pay90 q bb base = Q
  generalize k0_pay91 k b base = K
  have hm := fun h hh s => masked (fun y => Q (ix2 t y) * K (ix2 s y)) h hh
  generalize k0_pay9 k0_pay6 k0_pay7 k0_pay8 = L at hm ⊢
  pointwise [k0_pay95, k0_pay27, k0_pay88, k0_pay89]
  simp only [hm 0 (by decide), hm 1 (by decide), hm 2 (by decide), hm 3 (by decide)]
  have hc : l.val / 128 = 0 ∨ l.val / 128 = 1 ∨ l.val / 128 = 2 ∨ l.val / 128 = 3 := by omega
  unfold Gla.lane
  rcases hc with hc | hc | hc | hc
  · rw [dif_pos (by omega)]; simp only [hc]
  · rw [dif_neg (by omega), dif_pos (by omega)]; simp only [hc, show 128 + (l.val - 128) = l.val by omega]
  · rw [dif_neg (by omega), dif_neg (by omega), dif_pos (by omega)]; simp only [hc, show 256 + (l.val - 128 - 128) = l.val by omega]
  · rw [dif_neg (by omega), dif_neg (by omega), dif_neg (by omega)]; simp only [hc, show 384 + (l.val - 128 - 128 - 128) = l.val by omega]

/-- Row `t` of a chunk's first half. -/
def lo (t : Fin 32) : Fin 64 := ⟨t.val, by omega⟩

/-- Row `t` of its second half. -/
def hi (t : Fin 32) : Fin 64 := ⟨32 + t.val, by omega⟩

/-- A sum over a chunk's rows, half by half. -/
theorem sum_halves (f : Fin 64 → EReal) : ∑ s, f s = ∑ s, f (lo s) + ∑ s, f (hi s) :=
  Fin.sum_univ_add (a := 32) (b := 32) f

/-- The running sum at a row is that before it plus the row. -/
theorem cum_succ {n : Nat} (a : Fin n → EReal) (s t : Fin n) (h : t.val = s.val + 1) : Gla.cum a t = Gla.cum a s + a t := by
  unfold Gla.cum
  have e : a t = ∑ u : Fin n, if u = t then a u else 0 := by simp
  rw [e, ← Finset.sum_add_distrib]
  refine Finset.sum_congr rfl fun u _ => ?_
  by_cases h1 : u = t
  · subst h1
    rw [if_pos le_rfl, if_neg (by omega), if_pos rfl, zero_add]
  · have h2 : u.val ≠ t.val := fun h => h1 (Fin.ext h)
    rw [if_neg h1, add_zero]
    by_cases h3 : u.val ≤ s.val
    · rw [if_pos h3, if_pos (by omega)]
    · rw [if_neg h3, if_neg (by omega)]

/-- The decay from one row to a later one by way of a row between. -/
theorem exp_split (C D a B : EReal) (h1 : C ≤ D + a) (h2 : D ≤ B) (h3 : B ≤ 0) (h4 : a ≤ 0) :
    Ideal.exp (C - (D + a - a)) * Ideal.exp (D + a - a - B) = Ideal.exp (C - B) := by
  have hB : B ≠ ⊤ := fun h => absurd (h ▸ h3) (by simp)
  have ha : a ≠ ⊤ := fun h => absurd (h ▸ h4) (by simp)
  have hz : Ideal.exp (⊥ : EReal) = 0 := rfl
  by_cases hC : C = ⊥
  · subst hC
    rw [EReal.bot_sub, EReal.bot_sub, hz, zero_mul]
  · have hDa : D + a ≠ ⊥ := fun h => hC (le_bot_iff.1 (h ▸ h1))
    have hD : D ≠ ⊥ := fun h => hDa (by rw [h, EReal.bot_add])
    have ha' : a ≠ ⊥ := fun h => hDa (by rw [h, EReal.add_bot])
    have hB' : B ≠ ⊥ := fun h => hD (le_bot_iff.1 (h ▸ h2))
    have hD' : D ≠ ⊤ := fun h => hB (top_le_iff.1 (h ▸ h2))
    lift a to ℝ using ⟨ha, ha'⟩
    lift B to ℝ using ⟨hB, hB'⟩
    lift D to ℝ using ⟨hD', hD⟩
    have hC' : C ≠ ⊤ := fun h => by rw [h] at h1; exact absurd (top_le_iff.1 h1) (by rw [← EReal.coe_add]; exact EReal.coe_ne_top _)
    lift C to ℝ using ⟨hC', hC⟩
    rw [← EReal.coe_add, ← EReal.coe_sub, ← EReal.coe_sub, ← EReal.coe_sub, ← EReal.coe_sub]
    show ((Real.exp _ : ℝ) : EReal) * ((Real.exp _ : ℝ) : EReal) = ((Real.exp _ : ℝ) : EReal)
    rw [← EReal.coe_mul, ← Real.exp_add]
    congr 2
    ring

/-- What a row of a half gives another row of that half, as the kernel computes it, is the layer's score. -/
theorem score_eq (ι : Fin 32 → Fin 64) (hι : ∀ s t, (ι s).val ≤ (ι t).val ↔ s.val ≤ t.val) (sg : Fin 256 → EReal) (l : Fin 512)
    (hsg : ∀ x : Fin 256, sg x = if x.val / 64 = l.val / 128 then 1 else 0)
    (q k a : Fin 64 → Fin 256 → EReal) (ha : ∀ u d, a u d ≤ 0) (t s : Fin 32) :
    (∑ x : Fin 256, (if s.val ≤ t.val then q (ι t) x * k (ι s) x * Ideal.exp (min (Gla.cum (fun u => a u x) (ι t) - Gla.cum (fun u => a u x) (ι s)) 0) else 0) * sg x)
      = Gla.score q k a l (ι t) (ι s) := by
  unfold Gla.score
  refine Eq.trans ?_ (Gla.head_sum (fun x => if (ι s).val ≤ (ι t).val then
    q (ι t) x * k (ι s) x * Ideal.exp (Gla.cum (fun u => a u x) (ι t) - Gla.cum (fun u => a u x) (ι s)) else 0) (l.val / 128) (by omega))
  refine Finset.sum_congr rfl fun x _ => ?_
  rw [hsg, mul_ite, mul_one, mul_zero]
  by_cases h : s.val ≤ t.val
  · rw [if_pos h, if_pos ((hι s t).2 h), Gla.min_sub _ (fun u => ha u x) (ι s) (ι t) ((hι s t).2 h)]
  · rw [if_neg h, if_neg (fun h' => h ((hι s t).1 h'))]

section
variable (q k la : Vec Ideal S64x256 .f32) (v : Vec Ideal S64x512 .f32) (S : Fin 256 → Fin 128 → EReal)
  (hla : ∀ u d, (show EReal from la (ix2 u d)) ≤ 0) (sg : FVec Ideal S256x512 .bf16)
  (hsg : ∀ (d : Fin 256) (e : Fin 512), sg (ix2 d e) = if d.val / 64 = e.val / 128 then (1 : EReal) else 0)
  (q' k' b' : Vec Ideal S32x256 .f32) (v' : Vec Ideal S32x512 .f32) (x : FVec Ideal S32x512 .f32)

/-- The rows of a chunk before the readout. -/
abbrev rawOf : Fin 64 → Fin 512 → EReal :=
  Gla.raw (fun u d => q (ix2 u d)) (fun u d => k (ix2 u d)) (fun u d => v (ix2 u d)) (fun u d => la (ix2 u d)) S

include hla hsg in
/-- A half's rows: what they start with plus the half's own scores. -/
theorem half_apply (ι : Fin 32 → Fin 64) (hι : ∀ s t, (ι s).val ≤ (ι t).val ↔ s.val ≤ t.val)
    (hq : ∀ t d, q' (ix2 t d) = q (ix2 (ι t) d)) (hk : ∀ t d, k' (ix2 t d) = k (ix2 (ι t) d)) (hv : ∀ t l, v' (ix2 t l) = v (ix2 (ι t) l))
    (hb : ∀ t d, b' (ix2 t d) = Gla.cum (fun u => la (ix2 u d)) (ι t)) (t : Fin 32) (l : Fin 512) :
    total sg q' k' b' v' x (ix2 t l) = x (ix2 t l)
      + ∑ s : Fin 32, Gla.score (fun u d => q (ix2 u d)) (fun u d => k (ix2 u d)) (fun u d => la (ix2 u d)) l (ι t) (ι s) * v (ix2 (ι s) l) := by
  rw [total_apply]
  refine congrArg (fun z : EReal => x (ix2 t l) + z) (Finset.sum_congr rfl fun s _ => ?_)
  rw [words_apply, hv]
  simp only [hq, hk, hb]
  exact congrArg (fun z : EReal => z * v (ix2 (ι s) l)) (score_eq ι hι (fun x => sg (ix2 x l)) l (fun x => hsg x l) (fun u d => q (ix2 u d)) (fun u d => k (ix2 u d))
    (fun u d => la (ix2 u d)) hla t s)

include hla hsg in
/-- The first half's rows are the layer's. -/
theorem first_apply (hq : ∀ t d, q' (ix2 t d) = q (ix2 (lo t) d)) (hk : ∀ t d, k' (ix2 t d) = k (ix2 (lo t) d)) (hv : ∀ t l, v' (ix2 t l) = v (ix2 (lo t) l))
    (hb : ∀ t d, b' (ix2 t d) = Gla.cum (fun u => la (ix2 u d)) (lo t))
    (hx : ∀ t l, x (ix2 t l) = Gla.inter (fun u d => q (ix2 u d)) (fun u d => la (ix2 u d)) S (lo t) l) (t : Fin 32) (l : Fin 512) :
    total sg q' k' b' v' x (ix2 t l) = rawOf q k la v S (lo t) l := by
  rw [half_apply q k la v hla sg hsg q' k' b' v' x lo (fun _ _ => Iff.rfl) hq hk hv hb, hx]
  unfold rawOf Gla.raw
  rw [sum_halves]
  have h0 : ∑ s : Fin 32, Gla.score (fun u d => q (ix2 u d)) (fun u d => k (ix2 u d)) (fun u d => la (ix2 u d)) l (lo t) (hi s) * v (ix2 (hi s) l) = (0 : EReal) := by
    refine Finset.sum_eq_zero fun s _ => ?_
    have h : Gla.score (fun u d => q (ix2 u d)) (fun u d => k (ix2 u d)) (fun u d => la (ix2 u d)) l (lo t) (hi s) = 0 :=
      Finset.sum_eq_zero fun d _ => if_neg (by show ¬ 32 + s.val ≤ t.val; omega)
    rw [h, zero_mul]
  exact congrArg (fun z : EReal => Gla.inter (fun u d => q (ix2 u d)) (fun u d => la (ix2 u d)) S (lo t) l + z)
    ((add_zero _).symm.trans (congrArg (fun z : EReal => _ + z) h0.symm))

include hla hsg in
/-- The second half's rows are the layer's. -/
theorem second_apply (hq : ∀ t d, q' (ix2 t d) = q (ix2 (hi t) d)) (hk : ∀ t d, k' (ix2 t d) = k (ix2 (hi t) d)) (hv : ∀ t l, v' (ix2 t l) = v (ix2 (hi t) l))
    (hb : ∀ t d, b' (ix2 t d) = Gla.cum (fun u => la (ix2 u d)) (hi t)) (base : FVec Ideal S1x256 .f32)
    (hbase : ∀ d, base (ix2 0 d) = Gla.cum (fun u => la (ix2 u d)) (hi 0) - la (ix2 (hi 0) d))
    (hx : ∀ t l, x (ix2 t l) = Gla.inter (fun u d => q (ix2 u d)) (fun u d => la (ix2 u d)) S (hi t) l) (t : Fin 32) (l : Fin 512) :
    total sg q' k' b' v' (early q' b' base k (k0_pay4 la) v x) (ix2 t l) = rawOf q k la v S (hi t) l := by
  rw [half_apply q k la v hla sg hsg q' k' b' v' _ hi (fun s t => by show 32 + s.val ≤ 32 + t.val ↔ _; omega) hq hk hv hb, early_apply, hx]
  unfold rawOf Gla.raw
  rw [sum_halves]
  refine (add_assoc (G := EReal) _ _ _).trans ?_
  refine congrArg (fun z : EReal => Gla.inter (fun u d => q (ix2 u d)) (fun u d => la (ix2 u d)) S (hi t) l + (z + _)) (Finset.sum_congr rfl fun s _ => ?_)
  refine congrArg (fun z : EReal => z * v (ix2 (lo s) l)) ?_
  unfold Gla.score
  refine Finset.sum_congr rfl fun d _ => ?_
  rw [if_pos (by show s.val ≤ 32 + t.val; omega)]
  have e1 : k0_pay90 q' b' base (ix2 t (Gla.lane l d)) = q (ix2 (hi t) (Gla.lane l d)) * Ideal.exp (Gla.cum (fun u => la (ix2 u (Gla.lane l d))) (hi t) - base (ix2 0 (Gla.lane l d))) := by
    rw [← hb, ← hq]; pointwise [k0_pay90]
  have e2 : k0_pay91 k (k0_pay4 la) base (ix2 s (Gla.lane l d)) = k (ix2 (lo s) (Gla.lane l d)) * Ideal.exp (base (ix2 0 (Gla.lane l d)) - Gla.cum (fun u => la (ix2 u (Gla.lane l d))) (lo s)) := by
    rw [← pay4_apply]; pointwise [k0_pay91]; rfl
  rw [e1, e2, hbase, cum_succ _ (lo 31) (hi 0) rfl]
  have es := exp_split (Gla.cum (fun u => la (ix2 u (Gla.lane l d))) (hi t)) (Gla.cum (fun u => la (ix2 u (Gla.lane l d))) (lo 31))
    (la (ix2 (hi 0) (Gla.lane l d))) (Gla.cum (fun u => la (ix2 u (Gla.lane l d))) (lo s))
    (by rw [← cum_succ (fun u => la (ix2 u (Gla.lane l d))) (lo 31) (hi 0) rfl]
        exact Gla.cum_anti _ (fun u => hla u _) _ _ (by show 32 + 0 ≤ 32 + t.val; omega))
    (Gla.cum_anti _ (fun u => hla u _) _ _ (by show s.val ≤ 31; omega))
    (by unfold Gla.cum; exact Finset.sum_nonpos fun u _ => by split; exact hla u _; exact le_rfl)
    (hla _ _)
  rw [← es]
  exact mul_mul_mul_comm (G := EReal) _ _ _ _

end

end Cert.Proof.Prompt
end
-- ==== Proof.PromptOut.lean ====
module

public import proofs.«01_k».proof.Proof.PromptEarly

@[expose] public section
set_option maxRecDepth 16384

/-! The gated linear attention of the prompts: what a chunk stores to the block of outputs. -/

noncomputable section
namespace Cert.Proof.Prompt
open Cert.Kernel8Ideal Cert.Kernel8Ideal.Gen
open Idealize.ShloMosaic Idealize.ShloMosaic.TcCoe Idealize.ShloMosaic.Tactic

/-- Four blocks of 128 columns stored side by side, read back. -/
theorem columns_apply (v : View sig .tc .vmem S64x512 .f32) (G : S64x512.Idx → EReal) (w0 w1 w2 w3 : S64x128.Idx → EReal) (i3 i2 i1 i0)
    (R : LoadRect S64x512) (j : R.shape.Idx) (t : Fin 64) (l : Fin 512) (hR : R.idx j = ix2 t l)
    (h0 : ∀ t e, w0 (ix2 t e) = G (ix2 t ⟨0 * 128 + e.val, by omega⟩)) (h1 : ∀ t e, w1 (ix2 t e) = G (ix2 t ⟨1 * 128 + e.val, by omega⟩))
    (h2 : ∀ t e, w2 (ix2 t e) = G (ix2 t ⟨2 * 128 + e.val, by omega⟩)) (h3 : ∀ t e, w3 (ix2 t e) = G (ix2 t ⟨3 * 128 + e.val, by omega⟩)) :
    v.readCov (Val := Elt Ideal)
      [⟨Rect.unit (s := S64x512) ![0, 384] S64x128.size i3, w3⟩, ⟨Rect.unit (s := S64x512) ![0, 256] S64x128.size i2, w2⟩,
       ⟨Rect.unit (s := S64x512) ![0, 128] S64x128.size i1, w1⟩, ⟨Rect.unit (s := S64x512) ![0, 0] S64x128.size i0, w0⟩] R j = G (ix2 t l) := by
  rw [View.readCov_eq_canon']
  dsimp only
  rw [hR]
  have he : ∀ (h : Nat) (hh : h < 4) (x0 : Fin 64) (x1 : Fin 128) (inb : ∀ a, (![0, h * 128] : Fin 2 → Nat) a + S64x128.size a ≤ S64x512.size a),
      (Rect.unit (s := S64x512) ![0, h * 128] S64x128.size inb).emb (ix2 x0 x1) = ix2 x0 (⟨h * 128 + x1.val, by omega⟩ : Fin 512) := by
    intro h hh x0 x1 inb
    blk_ext
  refine View.canon_apply_of_pieces (Val := Elt Ideal) (S := S64x512) (e := .f32) G _ ?_ _ ?_
  · intro p hp
    simp only [List.mem_cons, List.not_mem_nil, or_false] at hp
    rcases hp with rfl | rfl | rfl | rfl
    · intro x; idx_vars x; exact (h3 x0 x1).trans (congrArg G (he 3 (by decide) x0 x1 i3).symm)
    · intro x; idx_vars x; exact (h2 x0 x1).trans (congrArg G (he 2 (by decide) x0 x1 i2).symm)
    · intro x; idx_vars x; exact (h1 x0 x1).trans (congrArg G (he 1 (by decide) x0 x1 i1).symm)
    · intro x; idx_vars x; exact (h0 x0 x1).trans (congrArg G (he 0 (by decide) x0 x1 i0).symm)
  · have hm : ∀ (o : Nat) (inb : ∀ a, (![0, o] : Fin 2 → Nat) a + S64x128.size a ≤ S64x512.size a), o ≤ l.val → l.val < o + 128 →
        ix2 t l ∈ (Rect.unit (s := S64x512) ![0, o] S64x128.size inb).set := by
      intro o inb h1 h2
      rw [Rect.mem_set_unit]
      exact Fin.forall_fin_two.mpr ⟨⟨Nat.zero_le _, by show t.val < 0 + 64; omega⟩, h1, h2⟩
    simp only [List.mem_cons, List.not_mem_nil, or_false, exists_eq_or_imp, exists_eq_left]
    by_cases h3 : 384 ≤ l.val
    · exact Or.inl (hm 384 i3 h3 (by omega))
    by_cases h2 : 256 ≤ l.val
    · exact Or.inr (Or.inl (hm 256 i2 h2 (by omega)))
    by_cases h1 : 128 ≤ l.val
    · exact Or.inr (Or.inr (Or.inl (hm 128 i1 h1 (by omega))))
    · exact Or.inr (Or.inr (Or.inr (hm 0 i0 (by omega) (by omega))))

/-- A whole buffer stored once, read back through a box. -/
theorem stored_apply (v : View sig .tc .vmem S64x256 .f32) (w : S64x256.Idx → EReal) (inb) (R : LoadRect S64x256) (j : R.shape.Idx) (t : Fin 64) (d : Fin 256) (hR : R.idx j = ix2 t d) :
    v.readCov (Val := Elt Ideal) [⟨Rect.unit (s := S64x256) ![0, 0] S64x256.size inb, w⟩] R j = w (ix2 t d) := by
  rw [View.readCov_eq_canon']
  dsimp only
  rw [hR]
  refine View.canon_apply_of_pieces (Val := Elt Ideal) (S := S64x256) (e := .f32) w _ ?_ _ ?_
  · intro p hp
    simp only [List.mem_cons, List.not_mem_nil, or_false] at hp
    subst hp
    intro x; idx_vars x
    refine congrArg w ?_
    blk_ext
  · refine ⟨_, List.mem_cons_self, ?_⟩
    rw [Rect.mem_set_unit]
    exact Fin.forall_fin_two.mpr ⟨⟨Nat.zero_le _, by show t.val < 0 + 64; omega⟩, Nat.zero_le _, by show d.val < 0 + 256; omega⟩

/-- The state's products with a row at column `128 h + e`. -/
theorem inter_at (S : FVec Ideal S256x128 .f32) (q la : FVec Ideal S64x256 .f32) (t : Fin 64) (e : Fin 128) (h : Nat) (hh : h < 4) :
    (∑ d : Fin 64, k0_pay12 (F := Ideal) q (k0_pay4 (F := Ideal) la) (ix2 t ⟨h * 64 + d.val, by omega⟩) * (k0_pay11 (F := Ideal) S) (ix2 ⟨h * 64 + d.val, by omega⟩ e))
      = Gla.inter (fun u d => q (ix2 u d)) (fun u d => la (ix2 u d)) (fun d e => S (ix2 d e)) t ⟨h * 128 + e.val, by omega⟩ := by
  unfold Gla.inter
  refine Finset.sum_congr rfl fun d _ => ?_
  have e1 : Gla.lane (⟨h * 128 + e.val, by omega⟩ : Fin 512) d = (⟨h * 64 + d.val, by omega⟩ : Fin 256) :=
    Fin.ext (by show (h * 128 + e.val) / 128 * 64 + d.val = h * 64 + d.val; omega)
  have e2 : (⟨(h * 128 + e.val) % 128, Nat.mod_lt _ (by decide)⟩ : Fin 128) = e := Fin.ext (by show (h * 128 + e.val) % 128 = e.val; omega)
  dsimp only
  rw [e1, e2, ← pay4_apply]
  pointwise [k0_pay12, k0_pay11]

/-- The four column blocks put together again are the row. -/
theorem pay28_apply (x : Vec Ideal S32x512 .f32) (t : Fin 32) (l : Fin 512) : k0_pay28 x (ix2 t l) = x (ix2 t l) := by
  pointwise [k0_pay28]
  have hc : l.val / 128 = 0 ∨ l.val / 128 = 1 ∨ l.val / 128 = 2 ∨ l.val / 128 = 3 := by omega
  rcases hc with hc | hc | hc | hc
  · rw [dif_pos (by omega)]
  · rw [dif_neg (by omega), dif_pos (by omega)]; simp only [show 128 + (l.val - 128) = l.val by omega]
  · rw [dif_neg (by omega), dif_neg (by omega), dif_pos (by omega)]; simp only [show 256 + (l.val - 128 - 128) = l.val by omega]
  · rw [dif_neg (by omega), dif_neg (by omega), dif_neg (by omega)]; simp only [show 384 + (l.val - 128 - 128 - 128) = l.val by omega]

/-- Where the halves of a chunk lie in the block. -/
theorem halves (k : Fin k0_t1_loop.trips) : k0_off3 k 0#32 = ![64 * k.val, 0] ∧ k0_off3 k 32#32 = ![64 * k.val + 32, 0]
    ∧ k0_off4 k 0#32 = ![64 * k.val, 0] ∧ k0_off4 k 32#32 = ![64 * k.val + 32, 0] ∧ k0_off5 k = ![64 * k.val + 32, 0] :=
  (by decide +kernel : ∀ k : Fin k0_t1_loop.trips, k0_off3 k 0#32 = ![64 * k.val, 0] ∧ k0_off3 k 32#32 = ![64 * k.val + 32, 0]
    ∧ k0_off4 k 0#32 = ![64 * k.val, 0] ∧ k0_off4 k 32#32 = ![64 * k.val + 32, 0] ∧ k0_off5 k = ![64 * k.val + 32, 0]) k

/-- Rows from offset `o` on, as rows of the block. -/
theorem rows_idx (D N M : Nat) (off : Fin 2 → ℕ) (o : ℕ)
    (ho : off = ![o, 0]) (inb) (t : Fin M) (d : Fin D) (r : Fin N) (hr : r.val = o + t.val) :
    (Rect.unit (s := ⟨2, ![N, D]⟩) off ![M, D] inb).toLoadRect.idx (ix2 t d) = (ix2 r d : (⟨2, ![N, D]⟩ : Shape).Idx) := by
  subst ho
  funext a
  match a with
  | ⟨0, _⟩ => apply Fin.ext; show o + 1 * t.val = r.val; omega
  | ⟨1, _⟩ => apply Fin.ext; show 0 + 1 * d.val = d.val; omega

/-- A load of rows from offset `o` on, at an index. -/
theorem rows_load {D N M : Nat} {sp : Space} (v : Memref sig .tc sp ⟨2, ![N, D]⟩ .f32) (hv : v.IsWhole) (x : Vec Ideal ⟨2, ![N, D]⟩ .f32) (off : Fin 2 → ℕ) (o : ℕ)
    (ho : off = ![o, 0]) (inb) (t : Fin M) (d : Fin D) (r : Fin N) (hr : r.val = o + t.val) :
    View.readAt (Elt Ideal) v.view (Rect.unit (s := ⟨2, ![N, D]⟩) off ![M, D] inb).toLoadRect (hv.unread x) (ix2 t d : (⟨2, ![M, D]⟩ : Shape).Idx) = x (ix2 r d) :=
  (Memref.IsWhole.readAt_unread hv x (Rect.unit (s := ⟨2, ![N, D]⟩) off ![M, D] inb).toLoadRect (ix2 t d : (⟨2, ![M, D]⟩ : Shape).Idx)).trans
    (congrArg x (rows_idx D N M off o ho inb t d r hr))

/-- The scratch of a chunk's products with the state, read back. -/
theorem scratch_apply (v : View sig .tc .vmem S64x512 .f32) (S : FVec Ideal S256x128 .f32) (q la : FVec Ideal S64x256 .f32) (i3 i2 i1 i0)
    (R : LoadRect S64x512) (j : R.shape.Idx) (t : Fin 64) (l : Fin 512) (hR : R.idx j = ix2 t l) :
    v.readCov (Val := Elt Ideal)
      [⟨Rect.unit (s := S64x512) ![0, 384] S64x128.size i3, k0_pay21 (k0_pay9 k0_pay6 k0_pay7 k0_pay8) (k0_pay11 (F := Ideal) S) (k0_pay12 q (k0_pay4 la))⟩,
       ⟨Rect.unit (s := S64x512) ![0, 256] S64x128.size i2, k0_pay20 (k0_pay19 (k0_pay9 k0_pay6 k0_pay7 k0_pay8) (k0_pay11 (F := Ideal) S) (k0_pay12 q (k0_pay4 la)))⟩,
       ⟨Rect.unit (s := S64x512) ![0, 128] S64x128.size i1, k0_pay17 (k0_pay9 k0_pay6 k0_pay7 k0_pay8) (k0_pay11 (F := Ideal) S) (k0_pay12 q (k0_pay4 la))⟩,
       ⟨Rect.unit (s := S64x512) ![0, 0] S64x128.size i0, k0_pay16 (k0_pay11 (F := Ideal) S) (k0_pay15 q (k0_pay4 la) k0_pay6 k0_pay7 k0_pay8)⟩] R j
      = Gla.inter (fun u d => q (ix2 u d)) (fun u d => la (ix2 u d)) (fun d e => S (ix2 d e)) t l := by
  refine columns_apply v (fun y => Gla.inter (fun u d => q (ix2 u d)) (fun u d => la (ix2 u d)) (fun d e => S (ix2 d e)) (y 0) (y 1)) _ _ _ _ i3 i2 i1 i0 R j t l hR ?_ ?_ ?_ ?_
  · intro t e; exact (inter_apply _ q (k0_pay4 la) t e).1.trans (inter_at S q la t e 0 (by decide))
  · intro t e; exact (inter_apply _ q (k0_pay4 la) t e).2.1.trans (inter_at S q la t e 1 (by decide))
  · intro t e; exact (inter_apply _ q (k0_pay4 la) t e).2.2.1.trans (inter_at S q la t e 2 (by decide))
  · intro t e; exact (inter_apply _ q (k0_pay4 la) t e).2.2.2.trans (inter_at S q la t e 3 (by decide))

/-- The running sums as stored. -/
theorem pay5_apply (la : Vec Ideal S64x256 .f32) (t : Fin 64) (d : Fin 256) : (k0_pay5 (F := Ideal) la : S64x256.Idx → EReal) (ix2 t d) = Gla.cum (fun u => la (ix2 u d)) t := by
  rw [← pay4_apply]
  pointwise [k0_pay5, k0_pay4]

/-- The normed and gated row depends on its arguments' values only. -/
theorem readout_congr {a a' r r' : Fin 512 → EReal} {g g' : Fin 128 → EReal} (ha : ∀ l, a l = a' l) (hr : ∀ l, r l = r' l) (hg : ∀ e, g e = g' e) (l : Fin 512) :
    Gla.readout a r g l = Gla.readout a' r' g' l := by
  rw [funext ha, funext hr, funext hg]

/-- The running sum between the halves: the second half's first row less what it adds. -/
theorem pay87_apply (b : Vec Ideal S32x256 .f32) (la : Vec Ideal S1x256 .f32) (d : Fin 256) :
    (k0_pay87 (F := Ideal) b la : S1x256.Idx → EReal) (ix2 0 d) = (b (ix2 0 d) : EReal) - la (ix2 0 d) := by
  pointwise [k0_pay87]

section
variable (c : Dev nD) (i : grid0.Coords)
  (arg2 : Memref sig .tc .vmem S512x256 .f32) (harg2 : arg2.IsWhole)
  (arg3 : Memref sig .tc .vmem S512x256 .f32) (harg3 : arg3.IsWhole)
  (arg4 : Memref sig .tc .vmem S512x512 .f32) (harg4 : arg4.IsWhole)
  (arg5 : Memref sig .tc .vmem S512x256 .f32) (harg5 : arg5.IsWhole)
  (arg6 : Memref sig .tc .vmem S512x512 .f32) (harg6 : arg6.IsWhole)
  (arg7 : Memref sig .tc .vmem S1x128 .f32) (harg7 : arg7.IsWhole)
  (arg8 : Memref sig .tc .vmem S512x512 .bf16) (harg8 : arg8.IsWhole)
  (arg9 : Memref sig .tc .vmem S1x256x128 .f32) (harg9 : arg9.IsWhole)
  (arg10 : Memref sig .tc .vmem S256x128 .f32) (harg10 : arg10.IsWhole)
  (arg11 : Memref sig .tc .vmem S64x256 .f32) (harg11 : arg11.IsWhole)
  (arg12 : Memref sig .tc .vmem S64x512 .f32) (harg12 : arg12.IsWhole)

/-- A chunk's stores to the block of outputs, at the first half's rows. -/
theorem trip_lo (x0 : Vec Ideal S512x256 .f32) (x1 : Vec Ideal S512x256 .f32) (x2 : Vec Ideal S512x512 .f32)
  (x3 : Vec Ideal S512x256 .f32) (x4 : Vec Ideal S512x512 .f32) (x5 : Vec Ideal S1x128 .f32) (S : Vec Ideal S256x128 .f32) (k : Fin k0_t1_loop.trips)
    (hla : ∀ u d, (show EReal from x3 (ix2 (at64 k u) d)) ≤ 0) (f8 g8 : BufTy.Contents (Elt Ideal) arg8.view.ty) (f11 : BufTy.Contents (Elt Ideal) arg11.view.ty) (f12 : BufTy.Contents (Elt Ideal) arg12.view.ty)
    (t : Fin 32) (l : Fin 512) :
    arg8.view.read (Elt Ideal) (arg8.view.writes (Elt Ideal) g8 ((trip_k0_t1 (F := Ideal) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) k).1 f8 (harg10.unread S) f11 f12)) (ix2 (at64 k (lo t)) l)
      = Gla.readout (rawOf (fun j => x0 (ix2 (at64 k (j 0)) (j 1)) : Vec Ideal S64x256 .f32) (fun j => x1 (ix2 (at64 k (j 0)) (j 1)) : Vec Ideal S64x256 .f32) (fun j => x3 (ix2 (at64 k (j 0)) (j 1)) : Vec Ideal S64x256 .f32) (fun j => x2 (ix2 (at64 k (j 0)) (j 1)) : Vec Ideal S64x512 .f32) (fun d e => S (ix2 d e)) (lo t)) (fun l => x4 (ix2 (at64 k (lo t)) l)) (fun e => x5 (ix2 0 e)) l := by
  obtain ⟨o3, o3', o4, o4', o5⟩ := halves k
  unfold trip_k0_t1
  dsimp only
  refine (View.read_writes_cons_unit_of_not_mem _ _ _ _ _ _ o4' 0 (Or.inl (by show 64 * k.val + t.val < 64 * k.val + 32; omega))).trans ?_
  refine (View.read_writes_cons_unit_of_mem _ _ _ _ _ _ (ix2 t l) o4 (Fin.forall_fin_two.mpr ⟨by show 64 * k.val + t.val = 64 * k.val + t.val; rfl, by show l.val = 0 + l.val; omega⟩)).trans ?_
  show out trip_k0_t1.sl.r_12 (trip_k0_t1.sl.r_14 arg2 (harg2.unread x0) k) (trip_k0_t1.sl.r_15 arg3 (harg3.unread x1) k) (trip_k0_t1.sl.v233 arg5 arg11 (harg5.unread x3) k) (trip_k0_t1.sl.r_16 arg4 (harg4.unread x2) k) (trip_k0_t1.sl.r_64 arg6 (harg6.unread x4) k) (View.readAt (Elt Ideal) arg7.view (Rect.unit (s := S1x128) ![0, 0] ![1, 128] inb_S1x128_S1x128_0_0).toLoadRect (harg7.unread x5)) (k0_pay28 (trip_k0_t1.sl.v234 arg2 arg5 arg10 arg12 (harg2.unread x0) (harg5.unread x3) k (harg10.unread S))) (ix2 t l) = _
  have e0 : ∀ h, View.readAt (Elt Ideal) arg2.view (Rect.unit (k0_off1 k) ![64, 256] h).toLoadRect (harg2.unread x0) = fun j => x0 (ix2 (at64 k (j 0)) (j 1)) := by
    intro h; funext j; exact (Memref.IsWhole.readAt_unread harg2 x0 _ j).trans (congrArg x0 (chunk_idx k h j))
  have e1 : ∀ h, View.readAt (Elt Ideal) arg3.view (Rect.unit (k0_off1 k) ![64, 256] h).toLoadRect (harg3.unread x1) = fun j => x1 (ix2 (at64 k (j 0)) (j 1)) := by
    intro h; funext j; exact (Memref.IsWhole.readAt_unread harg3 x1 _ j).trans (congrArg x1 (chunk_idx k h j))
  have e2 : ∀ h, View.readAt (Elt Ideal) arg4.view (Rect.unit (k0_off2 k) ![64, 512] h).toLoadRect (harg4.unread x2) = fun j => x2 (ix2 (at64 k (j 0)) (j 1)) := by
    intro h; funext j; exact (Memref.IsWhole.readAt_unread harg4 x2 _ j).trans (congrArg x2 (chunk_idx2 k h j))
  have e3 : ∀ h, View.readAt (Elt Ideal) arg5.view (Rect.unit (k0_off1 k) ![64, 256] h).toLoadRect (harg5.unread x3) = fun j => x3 (ix2 (at64 k (j 0)) (j 1)) := by
    intro h; funext j; exact (Memref.IsWhole.readAt_unread harg5 x3 _ j).trans (congrArg x3 (chunk_idx k h j))
  have e4 : View.readAt (Elt Ideal) arg10.view (Rect.unit ![0, 0] ![256, 128] inb_S256x128_S256x128_0_0).toLoadRect (harg10.unread S) = S :=
    (load_whole _ _ zero2 _).trans (harg10.read_unread S)
  have hx : ∀ (t : Fin 32) (l : Fin 512), k0_pay28 (trip_k0_t1.sl.v234 arg2 arg5 arg10 arg12 (harg2.unread x0) (harg5.unread x3) k (harg10.unread S)) (ix2 t l) = Gla.inter (fun u d => (fun j => x0 (ix2 (at64 k (j 0)) (j 1)) : Vec Ideal S64x256 .f32) (ix2 u d)) (fun u d => (fun j => x3 (ix2 (at64 k (j 0)) (j 1)) : Vec Ideal S64x256 .f32) (ix2 u d)) (fun d e => S (ix2 d e)) (lo t) l := by
    intro t l
    refine (pay28_apply _ t l).trans ?_
    simp only [trip_k0_t1.sl.v234, trip_k0_t1.sl.HW_arg12_4, trip_k0_t1.sl.r_11, trip_k0_t1.sl.r_9, trip_k0_t1.sl.r_6, trip_k0_t1.sl.r_5, trip_k0_t1.sl.r_4, trip_k0_t1.sl.r]
    rw [e0, e3, e4]
    refine (scratch_apply arg12.view S (fun j => x0 (ix2 (at64 k (j 0)) (j 1)) : Vec Ideal S64x256 .f32) (fun j => x3 (ix2 (at64 k (j 0)) (j 1)) : Vec Ideal S64x256 .f32) _ _ _ _ (Rect.unit (s := S64x512) ![0, 0] ![32, 512] inb_S64x512_S32x512_0_0).toLoadRect (ix2 t l : S32x512.Idx) (lo t) l (rows_idx 512 64 32 _ 0 rfl _ t l (lo t) (by show t.val = 0 + t.val; omega)))
  have hb : ∀ (t : Fin 32) (d : Fin 256), (trip_k0_t1.sl.v233 arg5 arg11 (harg5.unread x3) k) (ix2 t d) = Gla.cum (fun u => (fun j => x3 (ix2 (at64 k (j 0)) (j 1)) : Vec Ideal S64x256 .f32) (ix2 u d)) (lo t) := by
    intro t d
    simp only [trip_k0_t1.sl.v233, trip_k0_t1.sl.HW_arg11_1]
    rw [e3]
    exact (stored_apply arg11.view _ _ (Rect.unit (s := S64x256) ![0, 0] ![32, 256] inb_S64x256_S32x256_0_0).toLoadRect (ix2 t d : S32x256.Idx) (lo t) d (rows_idx 256 64 32 _ 0 rfl _ t d (lo t) (by show t.val = 0 + t.val; omega))).trans (pay5_apply _ (lo t) d)
  have hq : ∀ (t : Fin 32) (d : Fin 256), trip_k0_t1.sl.r_14 arg2 (harg2.unread x0) k (ix2 t d) = (fun j => x0 (ix2 (at64 k (j 0)) (j 1)) : Vec Ideal S64x256 .f32) (ix2 (lo t) d) := fun t d => rows_load arg2 harg2 x0 _ _ o3 _ t d (at64 k (lo t)) rfl
  have hk : ∀ (t : Fin 32) (d : Fin 256), trip_k0_t1.sl.r_15 arg3 (harg3.unread x1) k (ix2 t d) = (fun j => x1 (ix2 (at64 k (j 0)) (j 1)) : Vec Ideal S64x256 .f32) (ix2 (lo t) d) := fun t d => rows_load arg3 harg3 x1 _ _ o3 _ t d (at64 k (lo t)) rfl
  have hv : ∀ (t : Fin 32) (l : Fin 512), trip_k0_t1.sl.r_16 arg4 (harg4.unread x2) k (ix2 t l) = (fun j => x2 (ix2 (at64 k (j 0)) (j 1)) : Vec Ideal S64x512 .f32) (ix2 (lo t) l) := fun t d => rows_load arg4 harg4 x2 _ _ o4 _ t d (at64 k (lo t)) rfl
  have hr : ∀ (l : Fin 512), trip_k0_t1.sl.r_64 arg6 (harg6.unread x4) k (ix2 t l) = x4 (ix2 (at64 k (lo t)) l) := fun d => rows_load arg6 harg6 x4 _ _ o4 _ t d (at64 k (lo t)) rfl
  have hg : ∀ (e : Fin 128), (View.readAt (Elt Ideal) arg7.view (Rect.unit (s := S1x128) ![0, 0] ![1, 128] inb_S1x128_S1x128_0_0).toLoadRect (harg7.unread x5)) (ix2 0 e) = x5 (ix2 0 e) := fun e => rows_load arg7 harg7 x5 _ _ rfl _ (0 : Fin 1) e (0 : Fin 1) rfl
  exact (out_apply _ _ _ _ _ _ _ _ t l).trans (readout_congr (fun l => first_apply (fun j => x0 (ix2 (at64 k (j 0)) (j 1)) : Vec Ideal S64x256 .f32) (fun j => x1 (ix2 (at64 k (j 0)) (j 1)) : Vec Ideal S64x256 .f32) (fun j => x3 (ix2 (at64 k (j 0)) (j 1)) : Vec Ideal S64x256 .f32) (fun j => x2 (ix2 (at64 k (j 0)) (j 1)) : Vec Ideal S64x512 .f32) (fun d e => S (ix2 d e)) (fun u d => hla u d) _ (fun d e => seg d e) _ _ _ _ _ hq hk hv hb hx t l) hr hg l)

/-- At the second half's. -/
theorem trip_hi (x0 : Vec Ideal S512x256 .f32) (x1 : Vec Ideal S512x256 .f32) (x2 : Vec Ideal S512x512 .f32)
  (x3 : Vec Ideal S512x256 .f32) (x4 : Vec Ideal S512x512 .f32) (x5 : Vec Ideal S1x128 .f32) (S : Vec Ideal S256x128 .f32) (k : Fin k0_t1_loop.trips)
    (hla : ∀ u d, (show EReal from x3 (ix2 (at64 k u) d)) ≤ 0) (f8 g8 : BufTy.Contents (Elt Ideal) arg8.view.ty) (f11 : BufTy.Contents (Elt Ideal) arg11.view.ty) (f12 : BufTy.Contents (Elt Ideal) arg12.view.ty)
    (t : Fin 32) (l : Fin 512) :
    arg8.view.read (Elt Ideal) (arg8.view.writes (Elt Ideal) g8 ((trip_k0_t1 (F := Ideal) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) k).1 f8 (harg10.unread S) f11 f12)) (ix2 (at64 k (hi t)) l)
      = Gla.readout (rawOf (fun j => x0 (ix2 (at64 k (j 0)) (j 1)) : Vec Ideal S64x256 .f32) (fun j => x1 (ix2 (at64 k (j 0)) (j 1)) : Vec Ideal S64x256 .f32) (fun j => x3 (ix2 (at64 k (j 0)) (j 1)) : Vec Ideal S64x256 .f32) (fun j => x2 (ix2 (at64 k (j 0)) (j 1)) : Vec Ideal S64x512 .f32) (fun d e => S (ix2 d e)) (hi t)) (fun l => x4 (ix2 (at64 k (hi t)) l)) (fun e => x5 (ix2 0 e)) l := by
  obtain ⟨o3, o3', o4, o4', o5⟩ := halves k
  unfold trip_k0_t1
  dsimp only
  refine (View.read_writes_cons_unit_of_mem _ _ _ _ _ _ (ix2 t l) o4' (Fin.forall_fin_two.mpr ⟨by show 64 * k.val + (32 + t.val) = 64 * k.val + 32 + t.val; omega, by show l.val = 0 + l.val; omega⟩)).trans ?_
  show out trip_k0_t1.sl.r_12 (trip_k0_t1.sl.r_69 arg2 (harg2.unread x0) k) (trip_k0_t1.sl.r_70 arg3 (harg3.unread x1) k) (trip_k0_t1.sl.v923 arg5 arg11 (harg5.unread x3) k) (trip_k0_t1.sl.r_71 arg4 (harg4.unread x2) k) (trip_k0_t1.sl.r_127 arg6 (harg6.unread x4) k) (View.readAt (Elt Ideal) arg7.view (Rect.unit (s := S1x128) ![0, 0] ![1, 128] inb_S1x128_S1x128_0_0).toLoadRect (harg7.unread x5)) (early (trip_k0_t1.sl.r_69 arg2 (harg2.unread x0) k) (trip_k0_t1.sl.v923 arg5 arg11 (harg5.unread x3) k) (trip_k0_t1.sl.r_72 arg5 arg11 (harg5.unread x3) k) (trip_k0_t1.sl.r_1 arg3 (harg3.unread x1) k) (trip_k0_t1.sl.r_4 arg5 (harg5.unread x3) k) (trip_k0_t1.sl.r_2 arg4 (harg4.unread x2) k) (trip_k0_t1.sl.v929 arg2 arg5 arg10 arg12 (harg2.unread x0) (harg5.unread x3) k (harg10.unread S))) (ix2 t l) = _
  have e0 : ∀ h, View.readAt (Elt Ideal) arg2.view (Rect.unit (k0_off1 k) ![64, 256] h).toLoadRect (harg2.unread x0) = fun j => x0 (ix2 (at64 k (j 0)) (j 1)) := by
    intro h; funext j; exact (Memref.IsWhole.readAt_unread harg2 x0 _ j).trans (congrArg x0 (chunk_idx k h j))
  have e1 : ∀ h, View.readAt (Elt Ideal) arg3.view (Rect.unit (k0_off1 k) ![64, 256] h).toLoadRect (harg3.unread x1) = fun j => x1 (ix2 (at64 k (j 0)) (j 1)) := by
    intro h; funext j; exact (Memref.IsWhole.readAt_unread harg3 x1 _ j).trans (congrArg x1 (chunk_idx k h j))
  have e2 : ∀ h, View.readAt (Elt Ideal) arg4.view (Rect.unit (k0_off2 k) ![64, 512] h).toLoadRect (harg4.unread x2) = fun j => x2 (ix2 (at64 k (j 0)) (j 1)) := by
    intro h; funext j; exact (Memref.IsWhole.readAt_unread harg4 x2 _ j).trans (congrArg x2 (chunk_idx2 k h j))
  have e3 : ∀ h, View.readAt (Elt Ideal) arg5.view (Rect.unit (k0_off1 k) ![64, 256] h).toLoadRect (harg5.unread x3) = fun j => x3 (ix2 (at64 k (j 0)) (j 1)) := by
    intro h; funext j; exact (Memref.IsWhole.readAt_unread harg5 x3 _ j).trans (congrArg x3 (chunk_idx k h j))
  have e4 : View.readAt (Elt Ideal) arg10.view (Rect.unit ![0, 0] ![256, 128] inb_S256x128_S256x128_0_0).toLoadRect (harg10.unread S) = S :=
    (load_whole _ _ zero2 _).trans (harg10.read_unread S)
  have hx : ∀ (t : Fin 32) (l : Fin 512), (trip_k0_t1.sl.v929 arg2 arg5 arg10 arg12 (harg2.unread x0) (harg5.unread x3) k (harg10.unread S)) (ix2 t l) = Gla.inter (fun u d => (fun j => x0 (ix2 (at64 k (j 0)) (j 1)) : Vec Ideal S64x256 .f32) (ix2 u d)) (fun u d => (fun j => x3 (ix2 (at64 k (j 0)) (j 1)) : Vec Ideal S64x256 .f32) (ix2 u d)) (fun d e => S (ix2 d e)) (hi t) l := by
    intro t l
    simp only [trip_k0_t1.sl.v929, trip_k0_t1.sl.HW_arg12_4, trip_k0_t1.sl.r_11, trip_k0_t1.sl.r_9, trip_k0_t1.sl.r_6, trip_k0_t1.sl.r_5, trip_k0_t1.sl.r_4, trip_k0_t1.sl.r]
    rw [e0, e3, e4]
    refine (scratch_apply arg12.view S (fun j => x0 (ix2 (at64 k (j 0)) (j 1)) : Vec Ideal S64x256 .f32) (fun j => x3 (ix2 (at64 k (j 0)) (j 1)) : Vec Ideal S64x256 .f32) _ _ _ _ (Rect.unit (s := S64x512) ![32, 0] ![32, 512] inb_S64x512_S32x512_32_0).toLoadRect (ix2 t l : S32x512.Idx) (hi t) l (rows_idx 512 64 32 _ 32 rfl _ t l (hi t) rfl))
  have hb : ∀ (t : Fin 32) (d : Fin 256), (trip_k0_t1.sl.v923 arg5 arg11 (harg5.unread x3) k) (ix2 t d) = Gla.cum (fun u => (fun j => x3 (ix2 (at64 k (j 0)) (j 1)) : Vec Ideal S64x256 .f32) (ix2 u d)) (hi t) := by
    intro t d
    simp only [trip_k0_t1.sl.v923, trip_k0_t1.sl.HW_arg11_1]
    rw [e3]
    exact (stored_apply arg11.view _ _ (Rect.unit (s := S64x256) ![32, 0] ![32, 256] inb_S64x256_S32x256_32_0).toLoadRect (ix2 t d : S32x256.Idx) (hi t) d (rows_idx 256 64 32 _ 32 rfl _ t d (hi t) rfl)).trans (pay5_apply _ (hi t) d)
  have hbase : ∀ d : Fin 256, (trip_k0_t1.sl.r_72 arg5 arg11 (harg5.unread x3) k) (ix2 0 d) = Gla.cum (fun u => (fun j => x3 (ix2 (at64 k (j 0)) (j 1)) : Vec Ideal S64x256 .f32) (ix2 u d)) (hi 0) - (fun j => x3 (ix2 (at64 k (j 0)) (j 1)) : Vec Ideal S64x256 .f32) (ix2 (hi 0) d) := by
    intro d
    simp only [trip_k0_t1.sl.r_72]
    refine (pay87_apply _ _ d).trans (congrArg₂ (fun x y : EReal => x - y) (hb 0 d) ?_)
    exact rows_load arg5 harg5 x3 _ _ o5 _ (0 : Fin 1) d (at64 k (hi 0)) (by show 64 * k.val + (32 + 0) = 64 * k.val + 32 + 0; omega)
  have h1 : trip_k0_t1.sl.r_1 arg3 (harg3.unread x1) k = (fun j => x1 (ix2 (at64 k (j 0)) (j 1)) : Vec Ideal S64x256 .f32) := by simp only [trip_k0_t1.sl.r_1]; rw [e1]; rfl
  have h2 : trip_k0_t1.sl.r_2 arg4 (harg4.unread x2) k = (fun j => x2 (ix2 (at64 k (j 0)) (j 1)) : Vec Ideal S64x512 .f32) := by simp only [trip_k0_t1.sl.r_2]; rw [e2]; rfl
  have h4 : trip_k0_t1.sl.r_4 arg5 (harg5.unread x3) k = k0_pay4 (fun j => x3 (ix2 (at64 k (j 0)) (j 1)) : Vec Ideal S64x256 .f32) := by simp only [trip_k0_t1.sl.r_4]; rw [e3]; rfl
  rw [h1, h2, h4]
  have hq : ∀ (t : Fin 32) (d : Fin 256), trip_k0_t1.sl.r_69 arg2 (harg2.unread x0) k (ix2 t d) = (fun j => x0 (ix2 (at64 k (j 0)) (j 1)) : Vec Ideal S64x256 .f32) (ix2 (hi t) d) := fun t d => rows_load arg2 harg2 x0 _ _ o3' _ t d (at64 k (hi t)) (by show 64 * k.val + (32 + t.val) = 64 * k.val + 32 + t.val; omega)
  have hk : ∀ (t : Fin 32) (d : Fin 256), trip_k0_t1.sl.r_70 arg3 (harg3.unread x1) k (ix2 t d) = (fun j => x1 (ix2 (at64 k (j 0)) (j 1)) : Vec Ideal S64x256 .f32) (ix2 (hi t) d) := fun t d => rows_load arg3 harg3 x1 _ _ o3' _ t d (at64 k (hi t)) (by show 64 * k.val + (32 + t.val) = 64 * k.val + 32 + t.val; omega)
  have hv : ∀ (t : Fin 32) (l : Fin 512), trip_k0_t1.sl.r_71 arg4 (harg4.unread x2) k (ix2 t l) = (fun j => x2 (ix2 (at64 k (j 0)) (j 1)) : Vec Ideal S64x512 .f32) (ix2 (hi t) l) := fun t d => rows_load arg4 harg4 x2 _ _ o4' _ t d (at64 k (hi t)) (by show 64 * k.val + (32 + t.val) = 64 * k.val + 32 + t.val; omega)
  have hr : ∀ (l : Fin 512), trip_k0_t1.sl.r_127 arg6 (harg6.unread x4) k (ix2 t l) = x4 (ix2 (at64 k (hi t)) l) := fun d => rows_load arg6 harg6 x4 _ _ o4' _ t d (at64 k (hi t)) (by show 64 * k.val + (32 + t.val) = 64 * k.val + 32 + t.val; omega)
  have hg : ∀ (e : Fin 128), (View.readAt (Elt Ideal) arg7.view (Rect.unit (s := S1x128) ![0, 0] ![1, 128] inb_S1x128_S1x128_0_0).toLoadRect (harg7.unread x5)) (ix2 0 e) = x5 (ix2 0 e) := fun e => rows_load arg7 harg7 x5 _ _ rfl _ (0 : Fin 1) e (0 : Fin 1) rfl
  exact (out_apply _ _ _ _ _ _ _ _ t l).trans (readout_congr (fun l => second_apply (fun j => x0 (ix2 (at64 k (j 0)) (j 1)) : Vec Ideal S64x256 .f32) (fun j => x1 (ix2 (at64 k (j 0)) (j 1)) : Vec Ideal S64x256 .f32) (fun j => x3 (ix2 (at64 k (j 0)) (j 1)) : Vec Ideal S64x256 .f32) (fun j => x2 (ix2 (at64 k (j 0)) (j 1)) : Vec Ideal S64x512 .f32) (fun d e => S (ix2 d e)) (fun u d => hla u d) _ (fun d e => seg d e) _ _ _ _ _ hq hk hv hb _ hbase hx t l) hr hg l)

end

end Cert.Proof.Prompt
end
-- ==== Proof.PromptBlock.lean ====
module

public import proofs.«01_k».proof.Proof.PromptOut

@[expose] public section
set_option maxRecDepth 16384

/-! The gated linear attention of the prompts: the outputs, point by point, are the layer's. -/

noncomputable section
namespace Cert.Proof.Prompt
open Cert.Kernel8Ideal Cert.Kernel8Ideal.Gen
open Idealize.ShloMosaic Idealize.ShloMosaic.TcCoe Idealize.ShloMosaic.Tactic Idealize.SL.Sem

section
variable (c : Dev nD) (i : grid0.Coords)
  (arg2 : Memref sig .tc .vmem S512x256 .f32) (harg2 : arg2.IsWhole)
  (arg3 : Memref sig .tc .vmem S512x256 .f32) (harg3 : arg3.IsWhole)
  (arg4 : Memref sig .tc .vmem S512x512 .f32) (harg4 : arg4.IsWhole)
  (arg5 : Memref sig .tc .vmem S512x256 .f32) (harg5 : arg5.IsWhole)
  (arg6 : Memref sig .tc .vmem S512x512 .f32) (harg6 : arg6.IsWhole)
  (arg7 : Memref sig .tc .vmem S1x128 .f32) (harg7 : arg7.IsWhole)
  (arg8 : Memref sig .tc .vmem S512x512 .bf16) (harg8 : arg8.IsWhole)
  (arg9 : Memref sig .tc .vmem S1x256x128 .f32) (harg9 : arg9.IsWhole)
  (arg10 : Memref sig .tc .vmem S256x128 .f32) (harg10 : arg10.IsWhole)
  (arg11 : Memref sig .tc .vmem S64x256 .f32) (harg11 : arg11.IsWhole)
  (arg12 : Memref sig .tc .vmem S64x512 .f32) (harg12 : arg12.IsWhole)

/-- A chunk's stores to the block of outputs, at its rows. -/
theorem trip_row (x0 : Vec Ideal S512x256 .f32) (x1 : Vec Ideal S512x256 .f32) (x2 : Vec Ideal S512x512 .f32)
  (x3 : Vec Ideal S512x256 .f32) (x4 : Vec Ideal S512x512 .f32) (x5 : Vec Ideal S1x128 .f32) (S : Vec Ideal S256x128 .f32) (k : Fin k0_t1_loop.trips)
    (hla : ∀ u d, (show EReal from x3 (ix2 (at64 k u) d)) ≤ 0) (f8 g8 : BufTy.Contents (Elt Ideal) arg8.view.ty) (f11 : BufTy.Contents (Elt Ideal) arg11.view.ty) (f12 : BufTy.Contents (Elt Ideal) arg12.view.ty)
    (u : Fin 64) (l : Fin 512) :
    arg8.view.read (Elt Ideal) (arg8.view.writes (Elt Ideal) g8 ((trip_k0_t1 (F := Ideal) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) k).1 f8 (harg10.unread S) f11 f12)) (ix2 (at64 k u) l)
      = Gla.readout (rawOf (fun y => x0 (ix2 (at64 k (y 0)) (y 1)) : Vec Ideal S64x256 .f32) (fun y => x1 (ix2 (at64 k (y 0)) (y 1)) : Vec Ideal S64x256 .f32) (fun y => x3 (ix2 (at64 k (y 0)) (y 1)) : Vec Ideal S64x256 .f32) (fun y => x2 (ix2 (at64 k (y 0)) (y 1)) : Vec Ideal S64x512 .f32) (fun d e => S (ix2 d e)) u) (fun l => x4 (ix2 (at64 k u) l)) (fun e => x5 (ix2 0 e)) l := by
  by_cases h : u.val < 32
  · exact trip_lo c i arg2 harg2 arg3 harg3 arg4 harg4 arg5 harg5 arg6 harg6 arg7 harg7 arg8 harg8 arg9 harg9 arg10 harg10 arg11 harg11 arg12 harg12 x0 x1 x2 x3 x4 x5 S k hla f8 g8 f11 f12 ⟨u.val, h⟩ l
  · obtain ⟨t, rfl⟩ : ∃ t, u = hi t := ⟨⟨u.val - 32, by omega⟩, Fin.ext (by show u.val = 32 + (u.val - 32); omega)⟩
    exact trip_hi c i arg2 harg2 arg3 harg3 arg4 harg4 arg5 harg5 arg6 harg6 arg7 harg7 arg8 harg8 arg9 harg9 arg10 harg10 arg11 harg11 arg12 harg12 x0 x1 x2 x3 x4 x5 S k hla f8 g8 f11 f12 t l

/-- A chunk's stores leave the other rows alone. -/
theorem trip_other (x0 : Vec Ideal S512x256 .f32) (x1 : Vec Ideal S512x256 .f32) (x2 : Vec Ideal S512x512 .f32)
  (x3 : Vec Ideal S512x256 .f32) (x4 : Vec Ideal S512x512 .f32) (x5 : Vec Ideal S1x128 .f32) (S : Vec Ideal S256x128 .f32) (k : Fin k0_t1_loop.trips)
    (f8 g8 : BufTy.Contents (Elt Ideal) arg8.view.ty) (f11 : BufTy.Contents (Elt Ideal) arg11.view.ty) (f12 : BufTy.Contents (Elt Ideal) arg12.view.ty)
    (r : Fin 512) (hr : r.val < 64 * k.val) (l : Fin 512) :
    arg8.view.read (Elt Ideal) (arg8.view.writes (Elt Ideal) g8 ((trip_k0_t1 (F := Ideal) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) k).1 f8 (harg10.unread S) f11 f12)) (ix2 r l) = arg8.view.read (Elt Ideal) g8 (ix2 r l) := by
  obtain ⟨o3, o3', o4, o4', o5⟩ := halves k
  unfold trip_k0_t1
  dsimp only
  refine (View.read_writes_cons_unit_of_not_mem _ _ _ _ _ _ o4' 0 (Or.inl (by show r.val < 64 * k.val + 32; omega))).trans ?_
  exact View.read_writes_cons_unit_of_not_mem _ _ _ _ _ _ o4 0 (Or.inl hr)

/-- The rows the chunks before `k` left. -/
theorem loop_rows (x0 : Vec Ideal S512x256 .f32) (x1 : Vec Ideal S512x256 .f32) (x2 : Vec Ideal S512x512 .f32)
  (x3 : Vec Ideal S512x256 .f32) (x4 : Vec Ideal S512x512 .f32) (x5 : Vec Ideal S1x128 .f32) (S : Vec Ideal S256x128 .f32) (hla : ∀ r d, (show EReal from x3 (ix2 r d)) ≤ 0) :
    ∀ (k : ℕ) (hk : k ≤ k0_t1_loop.trips) (j : Fin k0_t1_loop.trips) (hj : j.val < k) (u : Fin 64) (l : Fin 512),
    arg8.view.read (Elt Ideal) (arg8.view.writes (Elt Ideal) arg8.view.junk (loop c i arg2 harg2 arg3 harg3 arg4 harg4 arg5 harg5 arg6 harg6 arg7 harg7 arg8 harg8 arg9 harg9 arg10 harg10 arg11 harg11 arg12 harg12 x0 x1 x2 x3 x4 x5 S k).1) (ix2 (at64 j u) l)
      = Gla.readout (rawOf (fun y => x0 (ix2 (at64 j (y 0)) (y 1)) : Vec Ideal S64x256 .f32) (fun y => x1 (ix2 (at64 j (y 0)) (y 1)) : Vec Ideal S64x256 .f32) (fun y => x3 (ix2 (at64 j (y 0)) (y 1)) : Vec Ideal S64x256 .f32) (fun y => x2 (ix2 (at64 j (y 0)) (y 1)) : Vec Ideal S64x512 .f32) (fun d e => (state c i arg2 harg2 arg3 harg3 arg4 harg4 arg5 harg5 arg6 harg6 arg7 harg7 arg8 harg8 arg9 harg9 arg10 harg10 arg11 harg11 arg12 harg12 x0 x1 x2 x3 x4 x5 S j.val) (ix2 d e)) u) (fun l => x4 (ix2 (at64 j u) l)) (fun e => x5 (ix2 0 e)) l := by
  intro k
  induction k with
  | zero => intro _ j hj; exact absurd hj (Nat.not_lt_zero _)
  | succ k ih =>
    intro hk j hj u l
    have hS : arg10.view.writes (Elt Ideal) (harg10.unread S) (loop c i arg2 harg2 arg3 harg3 arg4 harg4 arg5 harg5 arg6 harg6 arg7 harg7 arg8 harg8 arg9 harg9 arg10 harg10 arg11 harg11 arg12 harg12 x0 x1 x2 x3 x4 x5 S k).2.1 = harg10.unread (state c i arg2 harg2 arg3 harg3 arg4 harg4 arg5 harg5 arg6 harg6 arg7 harg7 arg8 harg8 arg9 harg9 arg10 harg10 arg11 harg11 arg12 harg12 x0 x1 x2 x3 x4 x5 S k) := harg10.eq_unread rfl
    have ih' := ih (Nat.le_of_succ_le hk) j
    unfold loop at hS ih' ⊢
    have h := pb_k0_t1_succ (F := Ideal) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) arg8.view.junk (harg10.unread S) arg11.view.junk arg12.view.junk ⟨k, hk⟩
    refine (congrArg (fun P : List (View.Piece (Elt Ideal) S512x512 .bf16) × List (View.Piece (Elt Ideal) S256x128 .f32)
          × List (View.Piece (Elt Ideal) S64x256 .f32) × List (View.Piece (Elt Ideal) S64x512 .f32) =>
        arg8.view.read (Elt Ideal) (arg8.view.writes (Elt Ideal) arg8.view.junk P.1) (ix2 (at64 j u) l)) h).trans ?_
    dsimp only
    generalize pb_k0_t1 (F := Ideal) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) arg8.view.junk (harg10.unread S) arg11.view.junk arg12.view.junk k = P at hS ih' ⊢
    rw [View.writes_append, hS]
    by_cases hjk : j.val < k
    · exact (trip_other c i arg2 harg2 arg3 harg3 arg4 harg4 arg5 harg5 arg6 harg6 arg7 harg7 arg8 harg8 arg9 harg9 arg10 harg10 arg11 harg11 arg12 harg12 x0 x1 x2 x3 x4 x5 (state c i arg2 harg2 arg3 harg3 arg4 harg4 arg5 harg5 arg6 harg6 arg7 harg7 arg8 harg8 arg9 harg9 arg10 harg10 arg11 harg11 arg12 harg12 x0 x1 x2 x3 x4 x5 S k) ⟨k, hk⟩ _ _ _ _ (at64 j u) (by show 64 * j.val + u.val < 64 * k; omega) l).trans (ih' hjk u l)
    · obtain rfl : j = ⟨k, hk⟩ := Fin.ext (by show j.val = k; omega)
      exact trip_row c i arg2 harg2 arg3 harg3 arg4 harg4 arg5 harg5 arg6 harg6 arg7 harg7 arg8 harg8 arg9 harg9 arg10 harg10 arg11 harg11 arg12 harg12 x0 x1 x2 x3 x4 x5 (state c i arg2 harg2 arg3 harg3 arg4 harg4 arg5 harg5 arg6 harg6 arg7 harg7 arg8 harg8 arg9 harg9 arg10 harg10 arg11 harg11 arg12 harg12 x0 x1 x2 x3 x4 x5 S k) ⟨k, hk⟩ (fun u d => hla _ d) _ _ _ _ u l

end

variable (m : (ℓ : Loc nD τ sig) → Buf (Elt Ideal) ℓ)

/-- Row `u` of chunk `n` of batch `b`, before the readout. -/
def rawK (c : Dev nD) (b n : ℕ) (u : Fin 64) (l : Fin 512) : EReal :=
  Gla.raw (fun u d => m ((c : Thread nD τ).loc main_arg0) (ix2 (rowAt b n u) d)) (fun u d => m ((c : Thread nD τ).loc main_arg1) (ix2 (rowAt b n u) d))
    (fun u d => m ((c : Thread nD τ).loc main_arg2) (ix2 (rowAt b n u) d)) (fun u d => m ((c : Thread nD τ).loc main_arg3) (ix2 (rowAt b n u) d))
    (carried' m c b n) u l

/-- The outputs, row by row. -/
def G (c : Dev nD) : S16384x512.Idx → EReal := fun y =>
  Gla.readout (rawK m c ((y 0).val / 8192) ((y 0).val % 8192 / 64) ⟨(y 0).val % 8192 % 64, Nat.mod_lt _ (by decide)⟩)
    (fun x => m ((c : Thread nD τ).loc main_arg4) (ix2 (y 0) x)) (fun x => m ((c : Thread nD τ).loc main_arg5) (ix2 0 x)) (y 1)

/-- A point's rows are the layer's. -/
theorem rows_apply (c : Dev nD) (hla : ∀ r d, (show EReal from m ((c : Thread nD τ).loc main_arg3) (ix2 r d)) ≤ 0) (t : Fin cfg0.N) (r : Fin 512) (l : Fin 512) :
    rows m c t (entered m c t) (ix2 r l) = G m c (ix2 (blockRow t r) l) := by
  have ht : t.val < 32 := Nat.lt_of_lt_of_eq t.isLt N_0
  obtain ⟨j, u, rfl⟩ : ∃ (j : Fin k0_t1_loop.trips) (u : Fin 64), r = at64 j u :=
    ⟨⟨r.val / 64, by show r.val / 64 < 8; omega⟩, ⟨r.val % 64, Nat.mod_lt _ (by decide)⟩, Fin.ext (by show r.val = 64 * (r.val / 64) + r.val % 64; omega)⟩
  have hj : j.val < 8 := j.isLt
  have hc : (fun d e => within m c t (entered m c t) j.val (ix2 d e)) = carried' m c (t.val / 16) (8 * (t.val % 16) + j.val) :=
    funext fun d => funext fun e => within_eq m c t _ (entered_eq m c t.val t.isLt) j.val (Nat.le_of_lt j.isLt) d e
  unfold rows block
  refine (loop_rows _ _ _ _ _ _ _ _ _ _ _ _ _ _ _ _ _ _ _ _ _ _ _ _ _ _ _ _ _ _ _ (fun r d => ?_) _ le_rfl j j.isLt u l).trans ?_
  · show (show EReal from iblk m c 3 t (ix2 r d)) ≤ 0
    rw [read3]
    exact hla _ d
  · have hb : (blockRow t (at64 j u)).val / 8192 = t.val / 16 := by show (t.val * 512 + (64 * j.val + u.val)) / 8192 = _; omega
    have hn : (blockRow t (at64 j u)).val % 8192 / 64 = 8 * (t.val % 16) + j.val := by show (t.val * 512 + (64 * j.val + u.val)) % 8192 / 64 = _; omega
    have hu : (⟨(blockRow t (at64 j u)).val % 8192 % 64, Nat.mod_lt _ (by decide)⟩ : Fin 64) = u :=
      Fin.ext (by show (t.val * 512 + (64 * j.val + u.val)) % 8192 % 64 = u.val; omega)
    show _ = Gla.readout (rawK m c ((blockRow t (at64 j u)).val / 8192) ((blockRow t (at64 j u)).val % 8192 / 64) ⟨(blockRow t (at64 j u)).val % 8192 % 64, Nat.mod_lt _ (by decide)⟩)
      (fun x => m ((c : Thread nD τ).loc main_arg4) (ix2 (blockRow t (at64 j u)) x)) (fun x => m ((c : Thread nD τ).loc main_arg5) (ix2 0 x)) l
    rw [hb, hn, hu]
    refine readout_congr (fun l => ?_) (fun l => read4 m c t _ l) (fun e => read5 m c t e) l
    show Gla.raw (fun u d => iblk m c 0 t (ix2 (at64 j u) d)) (fun u d => iblk m c 1 t (ix2 (at64 j u) d)) (fun u d => iblk m c 2 t (ix2 (at64 j u) d))
      (fun u d => iblk m c 3 t (ix2 (at64 j u) d)) (fun d e => within m c t (entered m c t) j.val (ix2 d e)) u l = _
    rw [hc]
    simp only [read0, read1, read2, read3, row_eq]
    rfl

/-- The outputs' window holds `G` after the last point. -/
theorem final6 (c : Dev nD) (hla : ∀ r d, (show EReal from m ((c : Thread nD τ).loc main_arg3) (ix2 r d)) ≤ 0) :
    (dats m 0 c).arrAt 6 (cfgs 0).N = G m c := by
  refine (dats m 0 c).arrAt_eq_of_covers 6 _ (by decide +kernel) fun t hf y => ?_
  blk_simp
  rw [after6]
  idx_vars y
  obtain ⟨-, -, -, -, -, -, e6, -⟩ := idx t
  have he : ((win0_6.blk t).view.emb (ix2 y0 y1)) = ix2 (blockRow t y0) y1 := by
    blk_ext [e6, blockRow]
  show _ = G m c ((win0_6.blk t).view.emb (ix2 y0 y1))
  rw [he]
  exact rows_apply m c hla t y0 y1

end Cert.Proof.Prompt
end
-- ==== Proof.PromptRef.lean ====
/-
  The prompt call's reference (hand-written): its scan over the chunks, trip by trip, carries the state of the mathematics and
  puts each chunk's rows into the array of outputs.
-/
module

public import proofs.«01_k».proof.Proof.PromptVal
public import proofs.«01_k».proof.Proof.Gen.Pre_decays8
public import proofs.«01_k».proof.Proof.Gen.Reference8Ideal.Run
public import Idealize.ShloMosaic.Lib.WordCmp

@[expose] public section

set_option maxRecDepth 16384

noncomputable section

open Idealize.ShloMosaic Idealize.ShloMosaic.TcCoe Idealize.ShloMosaic.StableHlo Idealize.SL.Sem

namespace Cert.Proof.PromptRef

open Cert.Reference8Ideal Cert.Reference8Ideal.Gen Cert.Reference8Ideal.Value
open Cert.Proof.Prompt (rowAt carry)

/-- The contents of the reference's buffers on one device. -/
abbrev Contents := Valuation τ sig (Elt Ideal)

/-- An argument of 256 columns cut into chunks, batches and heads. -/
def keys (x : FVec Ideal S16384x256 .f32) : FVec Ideal S128x2x4x64x64 .f32 :=
  transpose S128x2x4x64x64 [1, 0, 3, 2, 4] (shapeCast _ x shapeCasts_S16384x256_S2x128x64x4x64) transposes_S2x128x64x4x64_S128x2x4x64x64_1_0_3_2_4

/-- An argument of 512 columns cut into chunks, batches and heads. -/
def values (x : FVec Ideal S16384x512 .f32) : FVec Ideal S128x2x4x64x128 .f32 :=
  transpose S128x2x4x64x128 [1, 0, 3, 2, 4] (shapeCast _ x shapeCasts_S16384x512_S2x128x64x4x128) transposes_S2x128x64x4x128_S128x2x4x64x128_1_0_3_2_4

/-- A chunk's row and a head's column. -/
theorem keys_apply (x : FVec Ideal S16384x256 .f32) (n : Fin 128) (b : Fin 2) (h : Fin 4) (u : Fin 64) (d : Fin 64) :
    keys x (ix5 n b h u d) = x (ix2 (rowAt b n u) ⟨h.val * 64 + d.val, by omega⟩) := by
  have e : rowAt b n u = ⟨b.val * 8192 + n.val * 64 + u.val, by omega⟩ := Fin.ext (Nat.mod_eq_of_lt (by omega))
  rw [e]
  pointwise [keys]

/-- A chunk's row and a head's column. -/
theorem values_apply (x : FVec Ideal S16384x512 .f32) (n : Fin 128) (b : Fin 2) (h : Fin 4) (u : Fin 64) (d : Fin 128) :
    values x (ix5 n b h u d) = x (ix2 (rowAt b n u) ⟨h.val * 128 + d.val, by omega⟩) := by
  have e : rowAt b n u = ⟨b.val * 8192 + n.val * 64 + u.val, by omega⟩ := Fin.ext (Nat.mod_eq_of_lt (by omega))
  rw [e]
  pointwise [values]

/-- What a trip starts with: the counter and the four arrays of chunks. -/
structure At (V : Contents) (n : Fin 128) (q k la : FVec Ideal S16384x256 .f32) (v : FVec Ideal S16384x512 .f32) : Prop where
  ctr : V (Proc.devRef .tc main_v10_4) = fun _ => BitVec.ofNat 32 n.val
  q : V (Proc.devRef .tc main_v10_0) = keys q
  k : V (Proc.devRef .tc main_v10_1) = keys k
  v : V (Proc.devRef .tc main_v10_2) = values v
  la : V (Proc.devRef .tc main_v10_3) = keys la

/-- The trip's slices start at the counter's chunk. -/
theorem start_eq (n : Fin 128) (w : (⟨S_, .i32⟩ : BufTy).Contents (Elt Ideal)) (hw : w = fun _ => BitVec.ofNat 32 n.val) (a : Fin 5) :
    (((![w, constantI S_ 32 0#32, constantI S_ 32 0#32, constantI S_ 32 0#32, constantI S_ 32 0#32] : Fin 5 → (⟨S_, .i32⟩ : BufTy).Contents (Elt Ideal))) a (Shape.Idx.first h_S_)).toInt
      = ((![n.val, 0, 0, 0, 0] : Fin 5 → ℕ) a : Int) := by
  subst hw
  match a with
  | 0 =>
    have := n.isLt
    show (BitVec.ofNat 32 n.val).toInt = (n.val : Int)
    rw [BitVec.toInt_eq_toNat_cond, BitVec.toNat_ofNat, Nat.mod_eq_of_lt (by omega), if_pos (by omega)]
  | 1 | 2 | 3 | 4 => rfl

/-- A chunk lies in its array. -/
theorem chunk_fits (n : Fin 128) (D : ℕ) (a : Fin 5) :
    (![n.val, 0, 0, 0, 0] : Fin 5 → ℕ) a + (![1, 2, 4, 64, D] : Fin 5 → ℕ) a ≤ (![128, 2, 4, 64, D] : Fin 5 → ℕ) a := by
  have := n.isLt
  match a with
  | 0 => show n.val + 1 ≤ 128; omega
  | 1 => exact Nat.le_of_eq (Nat.zero_add _)
  | 2 => exact Nat.le_of_eq (Nat.zero_add _)
  | 3 => exact Nat.le_of_eq (Nat.zero_add _)
  | 4 => exact Nat.le_of_eq (Nat.zero_add _)

/-- A chunk of rows put into the array of outputs: the rows at the chunk, the array elsewhere. -/
theorem put_apply (x : FVec Ideal S128x2x4x64x128 .f32) (y : FVec Ideal S2x4x64x128 .f32) (w : (⟨S_, .i32⟩ : BufTy).Contents (Elt Ideal)) (n : Fin 128) (hw : w = fun _ => BitVec.ofNat 32 n.val)
    (j : Fin 128) (b : Fin 2) (h : Fin 4) (u : Fin 64) (e : Fin 128) :
    Host.dynamicUpdateSlice x (broadcastInDim S1x2x4x64x128 ![1, 2, 3, 4] bcast_S2x4x64x128_S1x2x4x64x128_1_2_3_4 y) (fun k => (((![w, constantI S_ 32 0#32, constantI S_ 32 0#32, constantI S_ 32 0#32, constantI S_ 32 0#32] : Fin 5 → (⟨S_, .i32⟩ : BufTy).Contents (Elt Ideal))) k (Shape.Idx.first h_S_)).toInt) updateFits_S128x2x4x64x128_S1x2x4x64x128
      (ix5 j b h u e) = if j = n then y (ix4 b h u e) else x (ix5 j b h u e) := by
  have hk : S128x2x4x64x128.Slices ![n.val, 0, 0, 0, 0] S1x2x4x64x128 := ⟨rfl, fun a => chunk_fits n _ a⟩
  rw [WordCmp.dynamicUpdateSlice_eq_update _ _ _ _ _ hk (start_eq n w hw)]
  unfold updateSlice
  by_cases hj : j = n
  · subst hj
    have hin : ∀ a : Fin 5, (![j.val, 0, 0, 0, 0] : Fin 5 → ℕ) a ≤ ((ix5 j b h u e : S128x2x4x64x128.Idx) a).val ∧
        ((ix5 j b h u e : S128x2x4x64x128.Idx) a).val < (![j.val, 0, 0, 0, 0] : Fin 5 → ℕ) a + (![1, 2, 4, 64, 128] : Fin 5 → ℕ) a := fun a => by
      match a with
      | 0 => exact ⟨Nat.le_refl _, Nat.lt_succ_self _⟩
      | 1 => exact ⟨Nat.zero_le _, Nat.lt_of_lt_of_eq b.isLt (Nat.zero_add _).symm⟩
      | 2 => exact ⟨Nat.zero_le _, Nat.lt_of_lt_of_eq h.isLt (Nat.zero_add _).symm⟩
      | 3 => exact ⟨Nat.zero_le _, Nat.lt_of_lt_of_eq u.isLt (Nat.zero_add _).symm⟩
      | 4 => exact ⟨Nat.zero_le _, Nat.lt_of_lt_of_eq e.isLt (Nat.zero_add _).symm⟩
    rw [if_pos rfl]
    refine (dif_pos hin).trans ?_
    refine (congrArg (broadcastInDim S1x2x4x64x128 ![1, 2, 3, 4] bcast_S2x4x64x128_S1x2x4x64x128_1_2_3_4 y) (show _ = (ix5 (0 : Fin 1) b h u e : S1x2x4x64x128.Idx) from funext fun a => Fin.ext ?_)).trans (show _ = y (ix4 b h u e) by pointwise)
    match a with
    | 0 => exact Nat.sub_self _
    | 1 => rfl
    | 2 => rfl
    | 3 => rfl
    | 4 => rfl
  · rw [if_neg hj]
    refine dif_neg fun hin => hj (Fin.ext ?_)
    have h0 : n.val ≤ j.val ∧ j.val < n.val + 1 := hin (0 : Fin 5)
    omega

/-- The scores of the later rows against the earlier ones. -/
def scores (q k b : FVec Ideal S2x4x64x64 .f32) : FVec Ideal S2x4x64x64 .f32 :=
  Host.reduceAdd (mulf (mulf (broadcastInDim S2x4x64x64x64 ![0, 1, 2, 3, 4] bcast_S2x4x64x1x64_S2x4x64x64x64_0_1_2_3_4 (broadcastInDim S2x4x64x1x64 ![0, 1, 2, 4] bcast_S2x4x64x64_S2x4x64x1x64_0_1_2_4 q)) (broadcastInDim S2x4x64x64x64 ![0, 1, 2, 3, 4] bcast_S2x4x1x64x64_S2x4x64x64x64_0_1_2_3_4 (broadcastInDim S2x4x1x64x64 ![0, 1, 3, 4] bcast_S2x4x64x64_S2x4x1x64x64_0_1_3_4 k))) (Host.exp (select (broadcastInDim S2x4x64x64x64 ![2, 3, 4] bcast_S64x64x1_S2x4x64x64x64_2_3_4 (broadcastInDim S64x64x1 ![0, 1] bcast_S64x64_S64x64x1_0_1 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))))) (subf (broadcastInDim S2x4x64x64x64 ![0, 1, 2, 3, 4] bcast_S2x4x64x1x64_S2x4x64x64x64_0_1_2_3_4 (broadcastInDim S2x4x64x1x64 ![0, 1, 2, 4] bcast_S2x4x64x64_S2x4x64x1x64_0_1_2_4 b)) (broadcastInDim S2x4x64x64x64 ![0, 1, 2, 3, 4] bcast_S2x4x1x64x64_S2x4x64x64x64_0_1_2_3_4 (broadcastInDim S2x4x1x64x64 ![0, 1, 3, 4] bcast_S2x4x64x64_S2x4x1x64x64_0_1_3_4 b))) (broadcastInDim S2x4x64x64x64 ![] bcast_S_S2x4x64x64x64 (id (constant S_ .f32 0xFF800000#32)))))) (constant S_ .f32 0x00000000#32) reducesTo_S2x4x64x64x64_S2x4x64x64_d4 h_S_

/-- A chunk's rows before the readout. -/
def chunkRows (q k b : FVec Ideal S2x4x64x64 .f32) (v S : FVec Ideal S2x4x64x128 .f32) : FVec Ideal S2x4x64x128 .f32 :=
  addf (Host.dotGeneral dot_S2x4x64x64_S2x4x64x128_S2x4x64x128_3_2_2_3_01_01 none (mulf q (Host.exp b)) S)
    (Host.dotGeneral dot_S2x4x64x64_S2x4x64x128_S2x4x64x128_3_2_2_3_01_01 none (scores q k b) v)

/-- A score at an index: the earlier rows' products, zero for a later row. -/
theorem scores_apply (q k b : FVec Ideal S2x4x64x64 .f32) (a : Fin 2) (h : Fin 4) (t s : Fin 64) :
    scores q k b (ix4 a h t s) = (∑ d : Fin 64, if s.val ≤ t.val then
      q (ix4 a h t d) * k (ix4 a h s d) * Ideal.exp (b (ix4 a h t d) - b (ix4 a h s d)) else 0 : EReal) := by
  have hbot : (constant (F := Ideal) S_ .f32 4286578688#32 ix0 : EReal) = ⊥ := by
    show Ideal.ofBits .f32 4286578688#32 = ⊥
    simp [Ideal.ofBits, Ideal.ieee]
  pointwise [scores]
  refine Finset.sum_congr (M := EReal) rfl fun d _ => ?_
  rw [show IntOp.addi (BitVec.ofNat 32 t.val) 0#32 = BitVec.ofNat 32 t.val from BitVec.add_zero _, Gla.select_sge t.val s.val (by omega) (by omega)]
  by_cases h : s.val ≤ t.val
  · rw [if_pos h, if_pos h]
    rfl
  · rw [if_neg h, if_neg h]
    show q _ * k _ * Ideal.exp (constant (F := Ideal) S_ .f32 4286578688#32 ix0 : EReal) = 0
    rw [hbot, Ideal.exp_bot, mul_zero]

/-- A row at an index. -/
theorem chunkRows_apply (q k b : FVec Ideal S2x4x64x64 .f32) (v S : FVec Ideal S2x4x64x128 .f32) (a : Fin 2) (h : Fin 4) (t : Fin 64) (e : Fin 128) :
    chunkRows q k b v S (ix4 a h t e) = (∑ d : Fin 64, q (ix4 a h t d) * Ideal.exp (b (ix4 a h t d)) * S (ix4 a h d e)
      + ∑ s : Fin 64, scores q k b (ix4 a h t s) * v (ix4 a h s e) : EReal) := by
  pointwise [chunkRows]

section trip

variable {V : Contents} {n : Fin 128} {q k la : FVec Ideal S16384x256 .f32} {v : FVec Ideal S16384x512 .f32} (H : At V n q k la v)

/-- A chunk of 64 lanes to a head, out of its array. -/
theorem chunk_apply (x : FVec Ideal S128x2x4x64x64 .f32) (w : (⟨S_, .i32⟩ : BufTy).Contents (Elt Ideal)) (n : Fin 128) (hw : w = fun _ => BitVec.ofNat 32 n.val)
    (b : Fin 2) (h : Fin 4) (u d : Fin 64) :
    shapeCast S2x4x64x64 (Host.dynamicSlice S1x2x4x64x64 x (fun k => (((![w, constantI S_ 32 0#32, constantI S_ 32 0#32, constantI S_ 32 0#32, constantI S_ 32 0#32] : Fin 5 → (⟨S_, .i32⟩ : BufTy).Contents (Elt Ideal))) k (Shape.Idx.first h_S_)).toInt) sliceFits_S128x2x4x64x64_S1x2x4x64x64) shapeCasts_S1x2x4x64x64_S2x4x64x64
      (ix4 b h u d) = x (ix5 n b h u d) := by
  have hk : S128x2x4x64x64.Slices ![n.val, 0, 0, 0, 0] S1x2x4x64x64 :=
    ⟨rfl, fun a => chunk_fits n _ a⟩
  rw [WordCmp.dynamicSlice_eq_extract _ _ _ _ _ hk (start_eq n w hw)]
  pointwise

/-- A chunk of 128 columns to a head, out of its array. -/
theorem chunk_apply' (x : FVec Ideal S128x2x4x64x128 .f32) (w : (⟨S_, .i32⟩ : BufTy).Contents (Elt Ideal)) (n : Fin 128) (hw : w = fun _ => BitVec.ofNat 32 n.val)
    (b : Fin 2) (h : Fin 4) (u : Fin 64) (d : Fin 128) :
    shapeCast S2x4x64x128 (Host.dynamicSlice S1x2x4x64x128 x (fun k => (((![w, constantI S_ 32 0#32, constantI S_ 32 0#32, constantI S_ 32 0#32, constantI S_ 32 0#32] : Fin 5 → (⟨S_, .i32⟩ : BufTy).Contents (Elt Ideal))) k (Shape.Idx.first h_S_)).toInt) sliceFits_S128x2x4x64x128_S1x2x4x64x128) shapeCasts_S1x2x4x64x128_S2x4x64x128
      (ix4 b h u d) = x (ix5 n b h u d) := by
  have hk : S128x2x4x64x128.Slices ![n.val, 0, 0, 0, 0] S1x2x4x64x128 :=
    ⟨rfl, fun a => chunk_fits n _ a⟩
  rw [WordCmp.dynamicSlice_eq_extract _ _ _ _ _ hk (start_eq n w hw)]
  pointwise

include H

/-- The trip's queries. -/
theorem v34_apply (b : Fin 2) (h : Fin 4) (u d : Fin 64) :
    res_main_while0b_v34 V (ix4 b h u d) = q (ix2 (rowAt b n u) ⟨h.val * 64 + d.val, by omega⟩) := by
  rw [← keys_apply q, ← H.q]
  exact chunk_apply _ _ n H.ctr b h u d

/-- The trip's keys. -/
theorem v35_apply (b : Fin 2) (h : Fin 4) (u d : Fin 64) :
    res_main_while0b_v35 V (ix4 b h u d) = k (ix2 (rowAt b n u) ⟨h.val * 64 + d.val, by omega⟩) := by
  rw [← keys_apply k, ← H.k]
  exact chunk_apply _ _ n H.ctr b h u d

/-- The trip's values. -/
theorem v36_apply (b : Fin 2) (h : Fin 4) (u : Fin 64) (e : Fin 128) :
    res_main_while0b_v36 V (ix4 b h u e) = v (ix2 (rowAt b n u) ⟨h.val * 128 + e.val, by omega⟩) := by
  rw [← values_apply v, ← H.v]
  exact chunk_apply' _ _ n H.ctr b h u e

/-- The trip's running sums of the log decays. -/
theorem v40_apply (b : Fin 2) (h : Fin 4) (u d : Fin 64) :
    res_main_while0b_v40 V (ix4 b h u d) = Gla.cum (fun u => la (ix2 (rowAt b n u) ⟨h.val * 64 + d.val, by omega⟩)) u := by
  refine (Gla.cumsum_apply (by rfl) _ _ (fun i => by pointwise) _ _ b h u d).trans ?_
  refine congrArg (fun f => Gla.cum f u) (funext fun u => ?_)
  rw [← keys_apply la, ← H.la]
  exact chunk_apply _ _ n H.ctr b h u d

/-- The chunk's whole log decay. -/
theorem v60_apply (b : Fin 2) (h : Fin 4) (z : Fin 1) (d : Fin 64) :
    res_main_while0b_v60 V (ix4 b h z d) = ∑ u, (show EReal from la (ix2 (rowAt b n u) ⟨h.val * 64 + d.val, by omega⟩)) := by
  rw [← Gla.cum_last _ (63 : Fin 64) rfl, ← v40_apply H]
  pointwise [res_main_while0b_v60]

/-- The state after the trip. -/
theorem state_apply (b : Fin 2) (h : Fin 4) (d : Fin 64) (e : Fin 128) :
    step_main_v10_5 V (ix4 b h d e) = Gla.next (fun u d => k (ix2 (rowAt b n u) d)) (fun u d => v (ix2 (rowAt b n u) d)) (fun u d => la (ix2 (rowAt b n u) d))
      (fun d e => V (Proc.devRef .tc main_v10_5) (ix4 b ⟨d.val / 64, by omega⟩ ⟨d.val % 64, Nat.mod_lt _ (by decide)⟩ e)) ⟨h.val * 64 + d.val, by omega⟩ e := by
  have h1 : (⟨(h.val * 64 + d.val) / 64, by omega⟩ : Fin 4) = h := Fin.ext (by show (h.val * 64 + d.val) / 64 = h.val; omega)
  have h2 : (⟨(h.val * 64 + d.val) % 64, Nat.mod_lt _ (by decide)⟩ : Fin 64) = d := Fin.ext (by show (h.val * 64 + d.val) % 64 = d.val; omega)
  have h3 : Gla.col ⟨h.val * 64 + d.val, by omega⟩ e = ⟨h.val * 128 + e.val, by omega⟩ := Fin.ext (by show (h.val * 64 + d.val) / 64 * 128 + e.val = h.val * 128 + e.val; omega)
  unfold step_main_v10_5
  rw [id_eq]
  pointwise
  simp only [v60_apply H, v35_apply H, v40_apply H, v36_apply H, Gla.next, h1, h2, h3]

/-- The outputs after the trip: the chunk's rows at the chunk. -/
theorem rows_apply (j : Fin 128) (b : Fin 2) (h : Fin 4) (u : Fin 64) (e : Fin 128) :
    step_main_v10_6 V (ix5 j b h u e) = if j = n then
      Gla.raw (fun u d => q (ix2 (rowAt b n u) d)) (fun u d => k (ix2 (rowAt b n u) d)) (fun u d => v (ix2 (rowAt b n u) d)) (fun u d => la (ix2 (rowAt b n u) d))
        (fun d e => V (Proc.devRef .tc main_v10_5) (ix4 b ⟨d.val / 64, by omega⟩ ⟨d.val % 64, Nat.mod_lt _ (by decide)⟩ e)) u ⟨h.val * 128 + e.val, by omega⟩
      else V (Proc.devRef .tc main_v10_6) (ix5 j b h u e) := by
  refine (put_apply _ (chunkRows (res_main_while0b_v34 V) (res_main_while0b_v35 V) (res_main_while0b_v40 V) (res_main_while0b_v36 V) (V (Proc.devRef .tc main_v10_5))) _ n H.ctr j b h u e).trans ?_
  refine if_congr Iff.rfl ?_ rfl
  have hm : (⟨(h.val * 128 + e.val) % 128, Nat.mod_lt _ (by decide)⟩ : Fin 128) = e := Fin.ext (by show (h.val * 128 + e.val) % 128 = _; omega)
  have hl : ∀ d : Fin 64, Gla.lane ⟨h.val * 128 + e.val, by omega⟩ d = ⟨h.val * 64 + d.val, by omega⟩ := fun d => Fin.ext (by show (h.val * 128 + e.val) / 128 * 64 + d.val = h.val * 64 + d.val; omega)
  have h1 : ∀ d : Fin 64, (⟨(h.val * 64 + d.val) / 64, by omega⟩ : Fin 4) = h := fun d => Fin.ext (by show (h.val * 64 + d.val) / 64 = h.val; omega)
  have h2 : ∀ d : Fin 64, (⟨(h.val * 64 + d.val) % 64, Nat.mod_lt _ (by decide)⟩ : Fin 64) = d := fun d => Fin.ext (by show (h.val * 64 + d.val) % 64 = d.val; omega)
  rw [chunkRows_apply]
  simp only [scores_apply, v34_apply H, v35_apply H, v40_apply H, v36_apply H, Gla.raw, Gla.inter, Gla.score, hl, hm, h1, h2]

/-- After the trip the counter is at the next chunk, the arrays of chunks as before. -/
theorem At.step (hn : n.val + 1 < 128) : At (STEP V) ⟨n.val + 1, hn⟩ q k la v where
  ctr := by
    rw [STEP_main_v10_4]
    unfold step_main_v10_4
    rw [H.ctr]
    funext i
    show BitVec.ofNat 32 n.val + 1#32 = BitVec.ofNat 32 (n.val + 1)
    apply BitVec.eq_of_toNat_eq
    simp only [BitVec.toNat_add, BitVec.toNat_ofNat]
    omega
  q := (STEP_main_v10_0 V).trans H.q
  k := (STEP_main_v10_1 V).trans H.k
  v := (STEP_main_v10_2 V).trans H.v
  la := (STEP_main_v10_3 V).trans H.la

end trip

variable (m : (ℓ : Loc nD τ sig) → Buf (Elt Ideal) ℓ) (c : Dev nD)

/-- The loop starts with the counter at zero and the arguments cut into chunks. -/
theorem entry_at : At (entryContents preI m c) 0 (m ((c.tc : Thread nD τ).loc main_arg0)) (m ((c.tc : Thread nD τ).loc main_arg1))
    (m ((c.tc : Thread nD τ).loc main_arg3)) (m ((c.tc : Thread nD τ).loc main_arg2)) where
  ctr := ctr_entry m c
  q := by
    simp only [entryContents, afterL_cons, afterL_nil]
    after_reads_simp
    rfl
  k := by
    simp only [entryContents, afterL_cons, afterL_nil]
    after_reads_simp
    rfl
  v := by
    simp only [entryContents, afterL_cons, afterL_nil]
    after_reads_simp
    rfl
  la := by
    simp only [entryContents, afterL_cons, afterL_nil]
    after_reads_simp
    rfl

/-- The loop starts with the zero state. -/
theorem entry_state (i : S2x4x64x128.Idx) : entryContents preI m c (Proc.devRef .tc main_v10_5) i = (0 : EReal) := by
  have e : entryContents preI m c (Proc.devRef .tc main_v10_5) = broadcastInDim S2x4x64x128 ![] bcast_S_S2x4x64x128 (constant (F := Ideal) S_ .f32 0x00000000#32) := by
    simp only [entryContents, afterL_cons, afterL_nil]
    after_reads_simp
    rfl
  rw [e]
  idx_vars i
  pointwise

/-- The loop's contents at its `n`-th trip. -/
theorem trip_at : ∀ (n : ℕ) (hn : n < 128), At (STEP^[n] (entryContents preI m c)) ⟨n, hn⟩ (m ((c.tc : Thread nD τ).loc main_arg0)) (m ((c.tc : Thread nD τ).loc main_arg1))
    (m ((c.tc : Thread nD τ).loc main_arg3)) (m ((c.tc : Thread nD τ).loc main_arg2))
  | 0, _ => entry_at m c
  | n + 1, hn => by
    rw [Function.iterate_succ_apply']
    exact (trip_at n (by omega)).step hn

/-- The state of the reference's arguments before chunk `n` of batch `b`. -/
def carriedR (b n : ℕ) : Fin 256 → Fin 128 → EReal :=
  carry (fun r d => m ((c.tc : Thread nD τ).loc main_arg1) (ix2 r d)) (fun r d => m ((c.tc : Thread nD τ).loc main_arg2) (ix2 r d))
    (fun r d => m ((c.tc : Thread nD τ).loc main_arg3) (ix2 r d)) b n

/-- The loop's state before its `n`-th trip is the mathematics' state. -/
theorem state_eq : ∀ (n : ℕ) (_ : n ≤ 128) (b : Fin 2) (h : Fin 4) (d : Fin 64) (e : Fin 128),
    (STEP^[n] (entryContents preI m c)) (Proc.devRef .tc main_v10_5) (ix4 b h d e) = carriedR m c b n ⟨h.val * 64 + d.val, by omega⟩ e
  | 0, _, b, h, d, e => entry_state m c _
  | n + 1, hn, b, h, d, e => by
    rw [Function.iterate_succ_apply', STEP_main_v10_5, state_apply (trip_at m c n (by omega))]
    unfold carriedR
    rw [carry]
    refine congrArg (fun S => Gla.next _ _ _ S _ e) (funext fun d => funext fun e => ?_)
    rw [state_eq n (by omega)]
    exact congrArg (fun d => carriedR m c b n d e) (Fin.ext (Nat.div_add_mod' _ _))

/-- Row `u` of chunk `n` of batch `b`, before the readout. -/
def rawR (b n : ℕ) (u : Fin 64) (l : Fin 512) : EReal :=
  Gla.raw (fun u d => m ((c.tc : Thread nD τ).loc main_arg0) (ix2 (rowAt b n u) d)) (fun u d => m ((c.tc : Thread nD τ).loc main_arg1) (ix2 (rowAt b n u) d))
    (fun u d => m ((c.tc : Thread nD τ).loc main_arg2) (ix2 (rowAt b n u) d)) (fun u d => m ((c.tc : Thread nD τ).loc main_arg3) (ix2 (rowAt b n u) d))
    (carriedR m c b n) u l

/-- The loop's outputs before its `n`-th trip hold the rows of the chunks before it. -/
theorem rows_eq : ∀ (n : ℕ) (_ : n ≤ 128) (j : Fin 128) (_ : j.val < n) (b : Fin 2) (h : Fin 4) (u : Fin 64) (e : Fin 128),
    (STEP^[n] (entryContents preI m c)) (Proc.devRef .tc main_v10_6) (ix5 j b h u e) = rawR m c b j u ⟨h.val * 128 + e.val, by omega⟩
  | 0, _, j, hj, _, _, _, _ => absurd hj (Nat.not_lt_zero _)
  | n + 1, hn, j, hj, b, h, u, e => by
    rw [Function.iterate_succ_apply', STEP_main_v10_6, rows_apply (trip_at m c n (by omega))]
    by_cases hjn : j = ⟨n, by omega⟩
    · rw [if_pos hjn]
      unfold rawR
      rw [show j.val = n from congrArg Fin.val hjn]
      refine congrArg (fun S => Gla.raw _ _ _ _ S u _) (funext fun d => funext fun e => ?_)
      rw [state_eq m c n (by omega)]
      exact congrArg (fun d => carriedR m c b n d e) (Fin.ext (Nat.div_add_mod' _ _))
    · rw [if_neg hjn]
      exact rows_eq n (by omega) j (by have : j.val ≠ n := fun h => hjn (Fin.ext h); omega) b h u e

/-- The reference's states are the mathematics' states after the last chunk. -/
theorem states_eq (b : Fin 2) (d : Fin 256) (e : Fin 128) :
    out_main_v33 (STEP^[128] (entryContents preI m c)) (ix3 b d e) = carriedR m c b 128 d e := by
  refine Eq.trans (b := (STEP^[128] (entryContents preI m c)) (Proc.devRef .tc main_v10_5) (ix4 b ⟨d.val / 64, by omega⟩ ⟨d.val % 64, Nat.mod_lt _ (by decide)⟩ e)) ?_ ?_
  · generalize STEP^[128] (entryContents preI m c) = V
    pointwise [out_main_v33]
  · rw [state_eq m c 128 (le_refl _)]
    exact congrArg (fun d => carriedR m c b 128 d e) (Fin.ext (Nat.div_add_mod' _ _))

/-- The readout of the rows. -/
def gated (o : FVec Ideal S128x2x4x64x128 .f32) (r : FVec Ideal S16384x512 .f32) (g : FVec Ideal S1x128 .f32) : FVec Ideal S16384x512 .bf16 :=
  truncf .bf16 (shapeCast _ (mulf (shapeCast _ (mulf (mulf (shapeCast _ (transpose S2x128x64x4x128 [1, 0, 3, 2, 4] o transposes_S128x2x4x64x128_S2x128x64x4x128_1_0_3_2_4) shapeCasts_S2x128x64x4x128_S2x8192x4x128) (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2 (Host.reduceAdd (mulf (shapeCast _ (transpose S2x128x64x4x128 [1, 0, 3, 2, 4] o transposes_S128x2x4x64x128_S2x128x64x4x128_1_0_3_2_4) shapeCasts_S2x128x64x4x128_S2x8192x4x128) (shapeCast _ (transpose S2x128x64x4x128 [1, 0, 3, 2, 4] o transposes_S128x2x4x64x128_S2x128x64x4x128_1_0_3_2_4) shapeCasts_S2x128x64x4x128_S2x8192x4x128)) (constant S_ .f32 0x00000000#32) reducesTo_S2x8192x4x128_S2x8192x4_d3 h_S_)) (broadcastInDim S2x8192x4x1 ![] bcast_S_S2x8192x4x1 (constant S_ .f32 0x43000000#32))) (broadcastInDim S2x8192x4x1 ![] bcast_S_S2x8192x4x1 (constant S_ .f32 0x358637BD#32)))))) (broadcastInDim S2x8192x4x128 ![0, 1, 2, 3] bcast_S1x1x1x128_S2x8192x4x128_0_1_2_3 (broadcastInDim S1x1x1x128 ![3] bcast_S128_S1x1x1x128_3 (shapeCast _ g shapeCasts_S1x128_S128)))) shapeCasts_S2x8192x4x128_S2x8192x512) (mulf (shapeCast _ r shapeCasts_S16384x512_S2x8192x512) (Host.divf (broadcastInDim S2x8192x512 ![] bcast_S_S2x8192x512 (constant S_ .f32 0x3F800000#32)) (addf (broadcastInDim S2x8192x512 ![] bcast_S_S2x8192x512 (constant S_ .f32 0x3F800000#32)) (Host.exp (Host.negf (shapeCast _ r shapeCasts_S16384x512_S2x8192x512))))))) shapeCasts_S2x8192x512_S16384x512) bitsLt_bf16_f32

/-- The readout at an index. -/
theorem gated_apply (o : FVec Ideal S128x2x4x64x128 .f32) (r : FVec Ideal S16384x512 .f32) (g : FVec Ideal S1x128 .f32) (i : Fin 16384) (l : Fin 512) (f : Fin 512 → EReal)
    (hf : ∀ (h : Fin 4) (e : Fin 128), o (ix5 ⟨i.val % 8192 / 64, by omega⟩ ⟨i.val / 8192, by omega⟩ h ⟨i.val % 8192 % 64, Nat.mod_lt _ (by decide)⟩ e) = f ⟨h.val * 128 + e.val, by omega⟩) :
    gated o r g (ix2 i l) = Gla.readout f (fun x => r (ix2 i x)) (fun x => g (ix2 0 x)) l := by
  pointwise [gated]
  have hl : ∀ p, f ⟨l.val / 128 * 128 + l.val % 128, p⟩ = f l := fun p => congrArg f (Fin.ext (Nat.div_add_mod' _ _))
  simp only [hf, hl]
  rfl

/-- The reference's attention rows are the readout of the mathematics' rows. -/
theorem outputs_eq (i : Fin 16384) (l : Fin 512) :
    out_main_v32 (STEP^[128] (entryContents preI m c)) (ix2 i l)
      = Gla.readout (rawR m c (i.val / 8192) (i.val % 8192 / 64) ⟨i.val % 8192 % 64, Nat.mod_lt _ (by decide)⟩)
          (fun x => m ((c.tc : Thread nD τ).loc main_arg4) (ix2 i x)) (fun x => m ((c.tc : Thread nD τ).loc main_arg5) (ix2 0 x)) l := by
  refine (gated_apply (STEP^[128] (entryContents preI m c) (Proc.devRef .tc main_v10_6)) (STEP^[128] (entryContents preI m c) (Proc.devRef .tc main_arg4))
    (STEP^[128] (entryContents preI m c) (Proc.devRef .tc main_arg5)) i l (rawR m c (i.val / 8192) (i.val % 8192 / 64) ⟨i.val % 8192 % 64, Nat.mod_lt _ (by decide)⟩)
    fun h e => rows_eq m c 128 (le_refl _) _ (by show i.val % 8192 / 64 < 128; omega) _ h _ e).trans ?_
  rw [iter_main_arg4, iter_main_arg5]

/-- The reference's frame: it runs host operations only and declares no semaphore. -/
theorem frame_ri : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- The same under the precondition. -/
theorem frame_ri_pre : Cert.quiescent_Reference8Ideal_pre_decays8 := fun m ρ _ => frame_ri m ρ trivial

/-- The precondition's words: the log decays are at most zero. -/
theorem decays (mk : (ℓ : Loc Cert.Kernel8Ideal.nD Cert.Kernel8Ideal.τ Cert.Kernel8Ideal.sig) → Buf (Elt Ideal) ℓ) (h : Cert.Pre_Kernel8Ideal_decays8 mk)
    (ck : Dev Cert.Kernel8Ideal.nD) (u : Fin 16384) (d : Fin 256) :
    (show EReal from mk ((ck : Thread Cert.Kernel8Ideal.nD Cert.Kernel8Ideal.τ).loc Cert.Kernel8Ideal.main_arg3) (ix2 u d)) ≤ 0 := by
  have e := congrFun (h ck) (ix2 u d)
  have e' : Ideal.cmp .ole (mk ((ck : Thread Cert.Kernel8Ideal.nD Cert.Kernel8Ideal.τ).loc Cert.Kernel8Ideal.main_arg3) (ix2 u d)) (Ideal.ofBits .f32 0x00000000#32) = 1#1 := e
  have hz : Ideal.ofBits .f32 0x00000000#32 = 0 := by simp [Ideal.ofBits, Ideal.ieee]
  rw [hz] at e'
  by_contra hn
  simp only [Ideal.cmp] at e'
  simp_all

end Cert.Proof.PromptRef
end
-- ==== Proof.PromptAlg.lean ====
module

public import proofs.«01_k».proof.Proof.PromptBlock
public import proofs.«01_k».proof.Proof.PromptRef

@[expose] public section
set_option maxRecDepth 16384

/-! The gated linear attention of the prompts: the kernel's call and the mathematics end with the same outputs and states. -/

noncomputable section
namespace Cert.Proof.PromptRef
open Idealize.ShloMosaic Idealize.ShloMosaic.TcCoe Idealize.ShloMosaic.Tactic Idealize.SL.Sem

/-- On memories agreeing on the arguments, whose log decays are at most zero, both programs run and end with
    the same outputs and states. -/
theorem algebraic : Cert.algebraic_Kernel8Ideal_Reference8Ideal_pre_decays8 := by
  intro m ρ m' ρ' hpre hagree
  refine ⟨fun c => Prompt.G m c, fun c => Prompt.H m c, ?_, ?_⟩
  · refine (θ_run Cert.Kernel8Ideal.defs _ _).mono (fun r h c => ?_) (Prompt.run (F := Ideal) m ρ)
    have k : ∀ w hw, _ := fun w hw => ((h c).1 w).trans (((Prompt.dats m 0 c).arrAt_in w hw _).trans (Prompt.A_eq m c w))
    exact ⟨((h c).1 6).trans (Prompt.final6 m c (decays m hpre c)), ((h c).1 7).trans (Prompt.final7 m c),
      (k 0 rfl).trans (Cert.Kernel8Ideal.Gen.V_main_arg0 m c), (k 1 rfl).trans (Cert.Kernel8Ideal.Gen.V_main_arg1 m c),
      (k 2 rfl).trans (Cert.Kernel8Ideal.Gen.V_main_arg2 m c), (k 3 rfl).trans (Cert.Kernel8Ideal.Gen.V_main_arg3 m c),
      (k 4 rfl).trans (Cert.Kernel8Ideal.Gen.V_main_arg4 m c), (k 5 rfl).trans (Cert.Kernel8Ideal.Gen.V_main_arg5 m c)⟩
  · refine (θ_run Cert.Reference8Ideal.defs _ _).mono (fun _ h c => ⟨(h c).1.trans ?_, (h c).2.1.trans ?_, (h c).2.2⟩)
      (Cert.Reference8Ideal.Value.run (F := Ideal) m' ρ')
    · obtain ⟨h0, h1, h2, h3, h4, h5⟩ := hagree c
      funext i
      idx_vars i
      refine (outputs_eq m' c i0 i1).trans ?_
      unfold rawR carriedR
      rw [h0, h1, h2, h3, h4, h5]
      rfl
    · obtain ⟨h0, h1, h2, h3, h4, h5⟩ := hagree c
      funext i
      idx_vars i
      refine (states_eq m' c i0 i1 i2).trans ?_
      unfold carriedR
      rw [h1, h2, h3]
      rfl

end Cert.Proof.PromptRef
end
-- ==== Proof.lean ====
module

public import proofs.«01_k».proof.Defs
public import proofs.«01_k».proof.Proof.Norm
public import proofs.«01_k».proof.Proof.Ffn
public import proofs.«01_k».proof.Proof.SampleRef
public import proofs.«01_k».proof.Proof.ProjRef
public import proofs.«01_k».proof.Proof.BiasRef
public import proofs.«01_k».proof.Proof.BiasSampleRef
public import proofs.«01_k».proof.Proof.PromptAlg
public import proofs.«01_k».proof.Proof.Gen.Kernel8.Frame
public import proofs.«01_k».proof.Proof.Gen.Kernel8.Loops
public import proofs.«01_k».proof.Proof.Gen.Kernel8Ideal.Frame
public import proofs.«01_k».proof.Proof.Gen.Kernel8Ideal.Loops
public import proofs.«01_k».proof.Proof.Gen.Reference8Ideal.Run
public import proofs.«01_k».proof.Proof.Gen.Pre_decays8

@[expose] public section

noncomputable section

namespace Cert.Proof

/-- Every claim of the certificate holds. -/
theorem claim : Cert.Claim :=
  ⟨Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts,
   Cert.Kernel8.Gen.facts, Cert.Kernel8Ideal.Gen.facts, Cert.Reference8Ideal.Gen.facts,
   Cert.Pre_decays2.Gen.facts, Cert.Pre_decays8.Gen.facts,
   SampleRef.frame_p, SampleRef.frame_pi, SampleRef.frame_pi_pre, SampleRef.frame_ri, SampleRef.frame_ri_pre,
   Ffn.frame_p, Ffn.frame_pi, Ffn.frame_ri, ProjRef.frame_p, ProjRef.frame_pi, ProjRef.frame_ri,
   Norm.frame_p, Norm.frame_pi, Norm.frame_ri, Bias.frame_p, Bias.frame_pi, Bias.frame_ri,
   BiasSample.frame_p, BiasSample.frame_pi, BiasSample.frame_ri,
   Prompt.frame_p, Prompt.frame_pi, Prompt.frame_pi_pre, PromptRef.frame_ri, PromptRef.frame_ri_pre,
   trivial, SampleRef.algebraic, trivial, Ffn.algebraic, trivial, ProjRef.algebraic, trivial, Norm.algebraic,
   trivial, Bias.algebraic, trivial, BiasSample.algebraic,
   trivial, PromptRef.algebraic⟩

end Cert.Proof

end
